-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S28x148 : Shape := ⟨2, ![28, 148]⟩
abbrev S1152x3584 : Shape := ⟨2, ![1152, 3584]⟩
abbrev S3584x18944 : Shape := ⟨2, ![3584, 18944]⟩
abbrev S6x1536x3584 : Shape := ⟨3, ![6, 1536, 3584]⟩
abbrev S1152x18944 : Shape := ⟨2, ![1152, 18944]⟩
abbrev S1152x148 : Shape := ⟨2, ![1152, 148]⟩
abbrev S3584x512 : Shape := ⟨2, ![3584, 512]⟩
abbrev S1152x512 : Shape := ⟨2, ![1152, 512]⟩
abbrev S_ : Shape := ⟨0, ![]⟩
abbrev S1x256x3584 : Shape := ⟨3, ![1, 256, 3584]⟩
abbrev S256x3584 : Shape := ⟨2, ![256, 3584]⟩
abbrev S1x1 : Shape := ⟨2, ![1, 1]⟩
abbrev S128x128 : Shape := ⟨2, ![128, 128]⟩
abbrev S384x3584 : Shape := ⟨2, ![384, 3584]⟩
abbrev S384x512 : Shape := ⟨2, ![384, 512]⟩
abbrev S384x148 : Shape := ⟨2, ![384, 148]⟩
abbrev S384x128 : Shape := ⟨2, ![384, 128]⟩
abbrev S384 : Shape := ⟨1, ![384]⟩
abbrev S384x1 : Shape := ⟨2, ![384, 1]⟩

abbrev nBuf : Space → Nat
  | .hbm => 10
  | .vmem => 12
  | .smem => 2
  | _ => 0

abbrev bufTy : (tb : Table) → Fin (tcTables nBuf tb) → BufTy
  | .hbm, ⟨0, _⟩ => ⟨S28x148, .f32⟩
  | .hbm, ⟨1, _⟩ => ⟨S28x148, .f32⟩
  | .hbm, ⟨2, _⟩ => ⟨S1152x3584, .bf16⟩
  | .hbm, ⟨3, _⟩ => ⟨S3584x18944, .fp8e4m3⟩
  | .hbm, ⟨4, _⟩ => ⟨S3584x18944, .fp8e4m3⟩
  | .hbm, ⟨5, _⟩ => ⟨S6x1536x3584, .bf16⟩
  | .hbm, ⟨6, _⟩ => ⟨S1152x18944, .fp8e4m3⟩
  | .hbm, ⟨7, _⟩ => ⟨S1152x18944, .bf16⟩
  | .hbm, ⟨8, _⟩ => ⟨S1152x148, .f32⟩
  | .hbm, ⟨9, _⟩ => ⟨S6x1536x3584, .bf16⟩
  | .local _ .vmem, ⟨0, _⟩ => ⟨S1152x3584, .bf16⟩
  | .local _ .vmem, ⟨1, _⟩ => ⟨S3584x512, .fp8e4m3⟩
  | .local _ .vmem, ⟨2, _⟩ => ⟨S3584x512, .fp8e4m3⟩
  | .local _ .vmem, ⟨3, _⟩ => ⟨S3584x512, .fp8e4m3⟩
  | .local _ .vmem, ⟨4, _⟩ => ⟨S3584x512, .fp8e4m3⟩
  | .local _ .vmem, ⟨5, _⟩ => ⟨S1152x512, .fp8e4m3⟩
  | .local _ .vmem, ⟨6, _⟩ => ⟨S1152x512, .fp8e4m3⟩
  | .local _ .vmem, ⟨7, _⟩ => ⟨S1152x512, .bf16⟩
  | .local _ .vmem, ⟨8, _⟩ => ⟨S1152x512, .bf16⟩
  | .local _ .vmem, ⟨9, _⟩ => ⟨S1152x148, .f32⟩
  | .local _ .vmem, ⟨10, _⟩ => ⟨S3584x512, .bf16⟩
  | .local _ .vmem, ⟨11, _⟩ => ⟨S3584x512, .bf16⟩
  | .local _ .smem, ⟨0, _⟩ => ⟨S28x148, .f32⟩
  | .local _ .smem, ⟨1, _⟩ => ⟨S28x148, .f32⟩
  | _, _ => ⟨S28x148, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![37], ![false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c1_i32_1604 : BitVec 32 := 1#32
  let v3471 : BitVec 32 := Scalar.subi arg0 c1_i32_1604
  let c0_i32_1605 : BitVec 32 := 0#32
  let v3473 : BitVec 1 := Scalar.cmpi .sgt v3471 c0_i32_1605
  let v3474 : BitVec 32 := Scalar.extui v3473
  let c0_i32_1606 : BitVec 32 := 0#32
  let v3475 : BitVec 1 := Scalar.cmpi .slt v3471 c0_i32_1606
  let v3476 : BitVec 32 := Scalar.extui v3475
  let v3477 : BitVec 32 := Scalar.subi v3474 v3476
  let c6_i32 : BitVec 32 := 6#32
  let c0_i32_1607 : BitVec 32 := 0#32
  let v3478 : BitVec 1 := Scalar.cmpi .sgt c6_i32 c0_i32_1607
  let v3479 : BitVec 32 := Scalar.extui v3478
  let c0_i32_1608 : BitVec 32 := 0#32
  let v3480 : BitVec 1 := Scalar.cmpi .slt c6_i32 c0_i32_1608
  let v3481 : BitVec 32 := Scalar.extui v3480
  let v3482 : BitVec 32 := Scalar.subi v3479 v3481
  let v3483 : BitVec 1 := Scalar.cmpi .ne v3477 v3482
  let v3484 : BitVec 32 := Scalar.remsi v3471 c6_i32
  let c0_i32_1609 : BitVec 32 := 0#32
  let v3485 : BitVec 1 := Scalar.cmpi .ne v3484 c0_i32_1609
  let v3486 : BitVec 1 := Scalar.andi v3483 v3485
  let v3472 : BitVec 32 := Scalar.divsi v3471 c6_i32
  let c1_i32_1610 : BitVec 32 := 1#32
  let v3487 : BitVec 32 := Scalar.subi v3472 c1_i32_1610
  let v3488 : BitVec 32 := Scalar.select v3486 v3487 v3472
  let c6_i32_1611 : BitVec 32 := 6#32
  let c0_i32_1612 : BitVec 32 := 0#32
  let v3489 : BitVec 1 := Scalar.cmpi .eq c6_i32_1611 c0_i32_1612
  let c1_i32_1613 : BitVec 32 := 1#32
  let v3490 : BitVec 32 := Scalar.select v3489 c1_i32_1613 c6_i32_1611
  let v3491 : BitVec 32 := Scalar.remsi v3471 v3490
  let c0_i32_1615 : BitVec 32 := 0#32
  let v3493 : BitVec 1 := Scalar.cmpi .slt v3491 c0_i32_1615
  let c0_i32_1616 : BitVec 32 := 0#32
  let v3494 : BitVec 1 := Scalar.cmpi .slt v3490 c0_i32_1616
  let v3495 : BitVec 1 := Scalar.xori v3493 v3494
  let c0_i32_1614 : BitVec 32 := 0#32
  let v3492 : BitVec 1 := Scalar.cmpi .ne v3491 c0_i32_1614
  let v3496 : BitVec 1 := Scalar.andi v3495 v3492
  let v3497 : BitVec 32 := Scalar.addi v3491 v3490
  let v3498 : BitVec 32 := Scalar.select v3496 v3497 v3491
  let c256_i32 : BitVec 32 := 256#32
  let v3499 : BitVec 32 := Scalar.muli v3498 c256_i32
  let c0_i32_1617 : BitVec 32 := 0#32
  ![v3488.toNat, v3499.toNat, 0]
def k0_cond2 (i : grid0.Coords) : BitVec 1 :=
  let arg0 : BitVec 32 := BitVec.ofNat 32 (i 0).val
  let c36_i32 : BitVec 32 := 36#32
  let v3 : BitVec 1 := Scalar.cmpi .slt arg0 c36_i32
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c0_i32_1604 : BitVec 32 := 0#32
  let v3472 : BitVec 1 := Scalar.cmpi .sgt arg0 c0_i32_1604
  let v3473 : BitVec 32 := Scalar.extui v3472
  let c0_i32_1605 : BitVec 32 := 0#32
  let v3474 : BitVec 1 := Scalar.cmpi .slt arg0 c0_i32_1605
  let v3475 : BitVec 32 := Scalar.extui v3474
  let v3476 : BitVec 32 := Scalar.subi v3473 v3475
  let c6_i32 : BitVec 32 := 6#32
  let c0_i32_1606 : BitVec 32 := 0#32
  let v3477 : BitVec 1 := Scalar.cmpi .sgt c6_i32 c0_i32_1606
  let v3478 : BitVec 32 := Scalar.extui v3477
  let c0_i32_1607 : BitVec 32 := 0#32
  let v3479 : BitVec 1 := Scalar.cmpi .slt c6_i32 c0_i32_1607
  let v3480 : BitVec 32 := Scalar.extui v3479
  let v3481 : BitVec 32 := Scalar.subi v3478 v3480
  let v3482 : BitVec 1 := Scalar.cmpi .ne v3476 v3481
  let v3483 : BitVec 32 := Scalar.remsi arg0 c6_i32
  let c0_i32_1608 : BitVec 32 := 0#32
  let v3484 : BitVec 1 := Scalar.cmpi .ne v3483 c0_i32_1608
  let v3485 : BitVec 1 := Scalar.andi v3482 v3484
  let v3471 : BitVec 32 := Scalar.divsi arg0 c6_i32
  let c1_i32_1609 : BitVec 32 := 1#32
  let v3486 : BitVec 32 := Scalar.subi v3471 c1_i32_1609
  let v3487 : BitVec 32 := Scalar.select v3485 v3486 v3471
  let c6_i32_1610 : BitVec 32 := 6#32
  let c0_i32_1611 : BitVec 32 := 0#32
  let v3488 : BitVec 1 := Scalar.cmpi .eq c6_i32_1610 c0_i32_1611
  let c1_i32_1612 : BitVec 32 := 1#32
  let v3489 : BitVec 32 := Scalar.select v3488 c1_i32_1612 c6_i32_1610
  let v3490 : BitVec 32 := Scalar.remsi arg0 v3489
  let c0_i32_1614 : BitVec 32 := 0#32
  let v3492 : BitVec 1 := Scalar.cmpi .slt v3490 c0_i32_1614
  let c0_i32_1615 : BitVec 32 := 0#32
  let v3493 : BitVec 1 := Scalar.cmpi .slt v3489 c0_i32_1615
  let v3494 : BitVec 1 := Scalar.xori v3492 v3493
  let c0_i32_1613 : BitVec 32 := 0#32
  let v3491 : BitVec 1 := Scalar.cmpi .ne v3490 c0_i32_1613
  let v3495 : BitVec 1 := Scalar.andi v3494 v3491
  let v3496 : BitVec 32 := Scalar.addi v3490 v3489
  let v3497 : BitVec 32 := Scalar.select v3495 v3496 v3490
  let c256_i32 : BitVec 32 := 256#32
  let v3498 : BitVec 32 := Scalar.muli v3497 c256_i32
  let c0_i32_1616 : BitVec 32 := 0#32
  ![v3487.toNat, v3498.toNat, 0]
def k0_off3 (i : grid0.Coords) (c0_i32_4 : BitVec 32) : Fin 2 → Nat :=
  let c0 : Index := 0#32
  let arg0 : BitVec 32 := BitVec.ofNat 32 (i 0).val
  let c4_i32 : BitVec 32 := 4#32
  let v9 : BitVec 32 := Scalar.muli arg0 c4_i32
  let v10 : BitVec 32 := Scalar.addi v9 c0_i32_4
  let v11 : Index := Scalar.indexCast v10
  ![0, v11.toNat]
def k0_off4 (i : grid0.Coords) (c0_i32_21 : BitVec 32) : Fin 2 → Nat :=
  let c1 : Index := 1#32
  let arg0 : BitVec 32 := BitVec.ofNat 32 (i 0).val
  let c4_i32 : BitVec 32 := 4#32
  let v9 : BitVec 32 := Scalar.muli arg0 c4_i32
  let v54 : BitVec 32 := Scalar.addi v9 c0_i32_21
  let v55 : Index := Scalar.indexCast v54
  ![1, v55.toNat]
def k0_off5 (i : grid0.Coords) (c0_i32_44 : BitVec 32) : Fin 2 → Nat :=
  let c2 : Index := 2#32
  let arg0 : BitVec 32 := BitVec.ofNat 32 (i 0).val
  let c4_i32 : BitVec 32 := 4#32
  let v9 : BitVec 32 := Scalar.muli arg0 c4_i32
  let v98 : BitVec 32 := Scalar.addi v9 c0_i32_44
  let v99 : Index := Scalar.indexCast v98
  ![2, v99.toNat]
def k0_off6 (i : grid0.Coords) (c0_i32_67 : BitVec 32) : Fin 2 → Nat :=
  let c3 : Index := 3#32
  let arg0 : BitVec 32 := BitVec.ofNat 32 (i 0).val
  let c4_i32 : BitVec 32 := 4#32
  let v9 : BitVec 32 := Scalar.muli arg0 c4_i32
  let v142 : BitVec 32 := Scalar.addi v9 c0_i32_67
  let v143 : Index := Scalar.indexCast v142
  ![3, v143.toNat]
def k0_off7 (i : grid0.Coords) (c0_i32_90 : BitVec 32) : Fin 2 → Nat :=
  let c4 : Index := 4#32
  let arg0 : BitVec 32 := BitVec.ofNat 32 (i 0).val
  let c4_i32 : BitVec 32 := 4#32
  let v9 : BitVec 32 := Scalar.muli arg0 c4_i32
  let v186 : BitVec 32 := Scalar.addi v9 c0_i32_90
  let v187 : Index := Scalar.indexCast v186
  ![4, v187.toNat]
def k0_off8 (i : grid0.Coords) (c0_i32_112 : BitVec 32) : Fin 2 → Nat :=
  let c5 : Index := 5#32
  let arg0 : BitVec 32 := BitVec.ofNat 32 (i 0).val
  let c4_i32 : BitVec 32 := 4#32
  let v9 : BitVec 32 := Scalar.muli arg0 c4_i32
  let v230 : BitVec 32 := Scalar.addi v9 c0_i32_112
  let v231 : Index := Scalar.indexCast v230
  ![5, v231.toNat]
def k0_off9 (i : grid0.Coords) (c0_i32_134 : BitVec 32) : Fin 2 → Nat :=
  let c6 : Index := 6#32
  let arg0 : BitVec 32 := BitVec.ofNat 32 (i 0).val
  let c4_i32 : BitVec 32 := 4#32
  let v9 : BitVec 32 := Scalar.muli arg0 c4_i32
  let v274 : BitVec 32 := Scalar.addi v9 c0_i32_134
  let v275 : Index := Scalar.indexCast v274
  ![6, v275.toNat]
def k0_off10 (i : grid0.Coords) (c0_i32_156 : BitVec 32) : Fin 2 → Nat :=
  let c7 : Index := 7#32
  let arg0 : BitVec 32 := BitVec.ofNat 32 (i 0).val
  let c4_i32 : BitVec 32 := 4#32
  let v9 : BitVec 32 := Scalar.muli arg0 c4_i32
  let v318 : BitVec 32 := Scalar.addi v9 c0_i32_156
  let v319 : Index := Scalar.indexCast v318
  ![7, v319.toNat]
def k0_off11 (i : grid0.Coords) (c0_i32_178 : BitVec 32) : Fin 2 → Nat :=
  let c8 : Index := 8#32
  let arg0 : BitVec 32 := BitVec.ofNat 32 (i 0).val
  let c4_i32 : BitVec 32 := 4#32
  let v9 : BitVec 32 := Scalar.muli arg0 c4_i32
  let v362 : BitVec 32 := Scalar.addi v9 c0_i32_178
  let v363 : Index := Scalar.indexCast v362
  ![8, v363.toNat]
def k0_off12 (i : grid0.Coords) (c0_i32_200 : BitVec 32) : Fin 2 → Nat :=
  let c9 : Index := 9#32
  let arg0 : BitVec 32 := BitVec.ofNat 32 (i 0).val
  let c4_i32 : BitVec 32 := 4#32
  let v9 : BitVec 32 := Scalar.muli arg0 c4_i32
  let v406 : BitVec 32 := Scalar.addi v9 c0_i32_200
  let v407 : Index := Scalar.indexCast v406
  ![9, v407.toNat]
def k0_off13 (i : grid0.Coords) (c0_i32_222 : BitVec 32) : Fin 2 → Nat :=
  let c10 : Index := 10#32
  let arg0 : BitVec 32 := BitVec.ofNat 32 (i 0).val
  let c4_i32 : BitVec 32 := 4#32
  let v9 : BitVec 32 := Scalar.muli arg0 c4_i32
  let v450 : BitVec 32 := Scalar.addi v9 c0_i32_222
  let v451 : Index := Scalar.indexCast v450
  ![10, v451.toNat]
def k0_off14 (i : grid0.Coords) (c0_i32_244 : BitVec 32) : Fin 2 → Nat :=
  let c11 : Index := 11#32
  let arg0 : BitVec 32 := BitVec.ofNat 32 (i 0).val
  let c4_i32 : BitVec 32 := 4#32
  let v9 : BitVec 32 := Scalar.muli arg0 c4_i32
  let v494 : BitVec 32 := Scalar.addi v9 c0_i32_244
  let v495 : Index := Scalar.indexCast v494
  ![11, v495.toNat]
def k0_off15 (i : grid0.Coords) (c0_i32_266 : BitVec 32) : Fin 2 → Nat :=
  let c12 : Index := 12#32
  let arg0 : BitVec 32 := BitVec.ofNat 32 (i 0).val
  let c4_i32 : BitVec 32 := 4#32
  let v9 : BitVec 32 := Scalar.muli arg0 c4_i32
  let v538 : BitVec 32 := Scalar.addi v9 c0_i32_266
  let v539 : Index := Scalar.indexCast v538
  ![12, v539.toNat]
def k0_off16 (i : grid0.Coords) (c0_i32_288 : BitVec 32) : Fin 2 → Nat :=
  let c13 : Index := 13#32
  let arg0 : BitVec 32 := BitVec.ofNat 32 (i 0).val
  let c4_i32 : BitVec 32 := 4#32
  let v9 : BitVec 32 := Scalar.muli arg0 c4_i32
  let v582 : BitVec 32 := Scalar.addi v9 c0_i32_288
  let v583 : Index := Scalar.indexCast v582
  ![13, v583.toNat]
def k0_off17 (i : grid0.Coords) (c0_i32_310 : BitVec 32) : Fin 2 → Nat :=
  let c14 : Index := 14#32
  let arg0 : BitVec 32 := BitVec.ofNat 32 (i 0).val
  let c4_i32 : BitVec 32 := 4#32
  let v9 : BitVec 32 := Scalar.muli arg0 c4_i32
  let v626 : BitVec 32 := Scalar.addi v9 c0_i32_310
  let v627 : Index := Scalar.indexCast v626
  ![14, v627.toNat]
def k0_off18 (i : grid0.Coords) (c0_i32_332 : BitVec 32) : Fin 2 → Nat :=
  let c15 : Index := 15#32
  let arg0 : BitVec 32 := BitVec.ofNat 32 (i 0).val
  let c4_i32 : BitVec 32 := 4#32
  let v9 : BitVec 32 := Scalar.muli arg0 c4_i32
  let v670 : BitVec 32 := Scalar.addi v9 c0_i32_332
  let v671 : Index := Scalar.indexCast v670
  ![15, v671.toNat]
def k0_off19 (i : grid0.Coords) (c0_i32_354 : BitVec 32) : Fin 2 → Nat :=
  let c16 : Index := 16#32
  let arg0 : BitVec 32 := BitVec.ofNat 32 (i 0).val
  let c4_i32 : BitVec 32 := 4#32
  let v9 : BitVec 32 := Scalar.muli arg0 c4_i32
  let v714 : BitVec 32 := Scalar.addi v9 c0_i32_354
  let v715 : Index := Scalar.indexCast v714
  ![16, v715.toNat]
def k0_off20 (i : grid0.Coords) (c0_i32_376 : BitVec 32) : Fin 2 → Nat :=
  let c17 : Index := 17#32
  let arg0 : BitVec 32 := BitVec.ofNat 32 (i 0).val
  let c4_i32 : BitVec 32 := 4#32
  let v9 : BitVec 32 := Scalar.muli arg0 c4_i32
  let v758 : BitVec 32 := Scalar.addi v9 c0_i32_376
  let v759 : Index := Scalar.indexCast v758
  ![17, v759.toNat]
def k0_off21 (i : grid0.Coords) (c0_i32_398 : BitVec 32) : Fin 2 → Nat :=
  let c18 : Index := 18#32
  let arg0 : BitVec 32 := BitVec.ofNat 32 (i 0).val
  let c4_i32 : BitVec 32 := 4#32
  let v9 : BitVec 32 := Scalar.muli arg0 c4_i32
  let v802 : BitVec 32 := Scalar.addi v9 c0_i32_398
  let v803 : Index := Scalar.indexCast v802
  ![18, v803.toNat]
def k0_off22 (i : grid0.Coords) (c0_i32_420 : BitVec 32) : Fin 2 → Nat :=
  let c19 : Index := 19#32
  let arg0 : BitVec 32 := BitVec.ofNat 32 (i 0).val
  let c4_i32 : BitVec 32 := 4#32
  let v9 : BitVec 32 := Scalar.muli arg0 c4_i32
  let v846 : BitVec 32 := Scalar.addi v9 c0_i32_420
  let v847 : Index := Scalar.indexCast v846
  ![19, v847.toNat]
def k0_off23 (i : grid0.Coords) (c0_i32_442 : BitVec 32) : Fin 2 → Nat :=
  let c20 : Index := 20#32
  let arg0 : BitVec 32 := BitVec.ofNat 32 (i 0).val
  let c4_i32 : BitVec 32 := 4#32
  let v9 : BitVec 32 := Scalar.muli arg0 c4_i32
  let v890 : BitVec 32 := Scalar.addi v9 c0_i32_442
  let v891 : Index := Scalar.indexCast v890
  ![20, v891.toNat]
def k0_off24 (i : grid0.Coords) (c0_i32_464 : BitVec 32) : Fin 2 → Nat :=
  let c21 : Index := 21#32
  let arg0 : BitVec 32 := BitVec.ofNat 32 (i 0).val
  let c4_i32 : BitVec 32 := 4#32
  let v9 : BitVec 32 := Scalar.muli arg0 c4_i32
  let v934 : BitVec 32 := Scalar.addi v9 c0_i32_464
  let v935 : Index := Scalar.indexCast v934
  ![21, v935.toNat]
def k0_off25 (i : grid0.Coords) (c0_i32_486 : BitVec 32) : Fin 2 → Nat :=
  let c22 : Index := 22#32
  let arg0 : BitVec 32 := BitVec.ofNat 32 (i 0).val
  let c4_i32 : BitVec 32 := 4#32
  let v9 : BitVec 32 := Scalar.muli arg0 c4_i32
  let v978 : BitVec 32 := Scalar.addi v9 c0_i32_486
  let v979 : Index := Scalar.indexCast v978
  ![22, v979.toNat]
def k0_off26 (i : grid0.Coords) (c0_i32_508 : BitVec 32) : Fin 2 → Nat :=
  let c23 : Index := 23#32
  let arg0 : BitVec 32 := BitVec.ofNat 32 (i 0).val
  let c4_i32 : BitVec 32 := 4#32
  let v9 : BitVec 32 := Scalar.muli arg0 c4_i32
  let v1022 : BitVec 32 := Scalar.addi v9 c0_i32_508
  let v1023 : Index := Scalar.indexCast v1022
  ![23, v1023.toNat]
def k0_off27 (i : grid0.Coords) (c0_i32_530 : BitVec 32) : Fin 2 → Nat :=
  let c24 : Index := 24#32
  let arg0 : BitVec 32 := BitVec.ofNat 32 (i 0).val
  let c4_i32 : BitVec 32 := 4#32
  let v9 : BitVec 32 := Scalar.muli arg0 c4_i32
  let v1066 : BitVec 32 := Scalar.addi v9 c0_i32_530
  let v1067 : Index := Scalar.indexCast v1066
  ![24, v1067.toNat]
def k0_off28 (i : grid0.Coords) (c0_i32_552 : BitVec 32) : Fin 2 → Nat :=
  let c25 : Index := 25#32
  let arg0 : BitVec 32 := BitVec.ofNat 32 (i 0).val
  let c4_i32 : BitVec 32 := 4#32
  let v9 : BitVec 32 := Scalar.muli arg0 c4_i32
  let v1110 : BitVec 32 := Scalar.addi v9 c0_i32_552
  let v1111 : Index := Scalar.indexCast v1110
  ![25, v1111.toNat]
def k0_off29 (i : grid0.Coords) (c0_i32_574 : BitVec 32) : Fin 2 → Nat :=
  let c26 : Index := 26#32
  let arg0 : BitVec 32 := BitVec.ofNat 32 (i 0).val
  let c4_i32 : BitVec 32 := 4#32
  let v9 : BitVec 32 := Scalar.muli arg0 c4_i32
  let v1154 : BitVec 32 := Scalar.addi v9 c0_i32_574
  let v1155 : Index := Scalar.indexCast v1154
  ![26, v1155.toNat]
def k0_off30 (i : grid0.Coords) (c0_i32_596 : BitVec 32) : Fin 2 → Nat :=
  let c27 : Index := 27#32
  let arg0 : BitVec 32 := BitVec.ofNat 32 (i 0).val
  let c4_i32 : BitVec 32 := 4#32
  let v9 : BitVec 32 := Scalar.muli arg0 c4_i32
  let v1198 : BitVec 32 := Scalar.addi v9 c0_i32_596
  let v1199 : Index := Scalar.indexCast v1198
  ![27, v1199.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S28x148 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S28x148 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1152x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3584x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3584x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1152x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1152x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1152x148 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S28x148 : Shape := ⟨2, ![28, 148]⟩
abbrev S1152x3584 : Shape := ⟨2, ![1152, 3584]⟩
abbrev S3584x18944 : Shape := ⟨2, ![3584, 18944]⟩
abbrev S6x1536x3584 : Shape := ⟨3, ![6, 1536, 3584]⟩
abbrev S1152x18944 : Shape := ⟨2, ![1152, 18944]⟩
abbrev S1152x148 : Shape := ⟨2, ![1152, 148]⟩
abbrev S28x128x148x128 : Shape := ⟨4, ![28, 128, 148, 128]⟩
abbrev S28x1x148x1 : Shape := ⟨4, ![28, 1, 148, 1]⟩
abbrev S1152x148x128 : Shape := ⟨3, ![1152, 148, 128]⟩
abbrev S1152x148x1 : Shape := ⟨3, ![1152, 148, 1]⟩

abbrev nBuf : Space → Nat
  | .hbm => 10
  | .vmem => 10
  | .smem => 0
  | _ => 0

abbrev bufTy : (tb : Table) → Fin (tcTables nBuf tb) → BufTy
  | .hbm, ⟨0, _⟩ => ⟨S28x148, .f32⟩
  | .hbm, ⟨1, _⟩ => ⟨S28x148, .f32⟩
  | .hbm, ⟨2, _⟩ => ⟨S1152x3584, .bf16⟩
  | .hbm, ⟨3, _⟩ => ⟨S3584x18944, .fp8e4m3⟩
  | .hbm, ⟨4, _⟩ => ⟨S3584x18944, .fp8e4m3⟩
  | .hbm, ⟨5, _⟩ => ⟨S6x1536x3584, .bf16⟩
  | .hbm, ⟨6, _⟩ => ⟨S1152x18944, .fp8e4m3⟩
  | .hbm, ⟨7, _⟩ => ⟨S1152x18944, .bf16⟩
  | .hbm, ⟨8, _⟩ => ⟨S1152x148, .f32⟩
  | .hbm, ⟨9, _⟩ => ⟨S6x1536x3584, .bf16⟩
  | .local _ .vmem, ⟨0, _⟩ => ⟨S28x148, .f32⟩
  | .local _ .vmem, ⟨1, _⟩ => ⟨S28x148, .f32⟩
  | .local _ .vmem, ⟨2, _⟩ => ⟨S1152x3584, .bf16⟩
  | .local _ .vmem, ⟨3, _⟩ => ⟨S3584x18944, .fp8e4m3⟩
  | .local _ .vmem, ⟨4, _⟩ => ⟨S3584x18944, .fp8e4m3⟩
  | .local _ .vmem, ⟨5, _⟩ => ⟨S6x1536x3584, .bf16⟩
  | .local _ .vmem, ⟨6, _⟩ => ⟨S1152x18944, .fp8e4m3⟩
  | .local _ .vmem, ⟨7, _⟩ => ⟨S1152x18944, .bf16⟩
  | .local _ .vmem, ⟨8, _⟩ => ⟨S1152x148, .f32⟩
  | .local _ .vmem, ⟨9, _⟩ => ⟨S6x1536x3584, .bf16⟩
  | _, _ => ⟨S28x148, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S28x148 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S28x148 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x18944 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x18944 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x1536x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1152x18944 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1152x18944 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1152x148 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x1536x3584 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Prog.lean ====
/-
  The body of `cc0_gateup` cut into its phases: the wait for the copy begun at the point before, the start of the next
  copy, the zeroing of the scales' block at the first point, the widening of the two weight blocks, the arithmetic.
-/
module

public import proofs.«01_k».proof.Proof.Gen.KernelIdeal.Frame
public import proofs.«01_k».proof.Proof.Gen.KernelIdeal.Skeleton
public import Idealize.ShloMosaic.Lib.Pipeline.FrameValue

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Waits, after the first point, for the copy begun at the point before. -/
def waitProg (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) :
    Prog (TpuEff nD τ sig (Elt F) Λ₀ .tc) PUnit := do
  if k0_h1 : k0_cond1 i = 1#1 then do
    let v3500 : Memref sig .tc .hbm S1x256x3584 .bf16 := arg10.slice (Rect.unit (s := S6x1536x3584) (k0_off1 i) S1x256x3584.size (k0_off1_inb i k0_h1)) (fun _ => rfl)
    let v3501 : Memref sig .tc .hbm S256x3584 .bf16 := v3500.squeeze S256x3584 squeezes_S1x256x3584_S256x3584
    let v3502 : Memref sig .tc .hbm S1x256x3584 .bf16 := arg6.slice (Rect.unit (s := S6x1536x3584) (k0_off1 i) S1x256x3584.size (k0_off1_inb i k0_h1)) (fun _ => rfl)
    let v3503 : Memref sig .tc .hbm S256x3584 .bf16 := v3502.squeeze S256x3584 squeezes_S1x256x3584_S256x3584
    Prog.lift (.waitDma2 arg13.sem v3503 v3501 ((harg6.wordExact_slice rfl _ (k0_off1_wordsbf16 i k0_h1)).reshape _ _) ((harg10.wordExact_slice rfl _ (k0_off1_wordsbf16 i k0_h1)).reshape _ _))
    pure ⟨⟩
  else do
    pure ⟨⟩

/-- Begins, before the last point, the copy of this point's block. -/
def startProg (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) :
    Prog (TpuEff nD τ sig (Elt F) Λ₀ .tc) PUnit := do
  if k0_h2 : k0_cond2 i = 1#1 then do
    let v3499 : Memref sig .tc .hbm S1x256x3584 .bf16 := arg10.slice (Rect.unit (s := S6x1536x3584) (k0_off2 i) S1x256x3584.size (k0_off2_inb i k0_h2)) (fun _ => rfl)
    let v3500 : Memref sig .tc .hbm S256x3584 .bf16 := v3499.squeeze S256x3584 squeezes_S1x256x3584_S256x3584
    let v3501 : Memref sig .tc .hbm S1x256x3584 .bf16 := arg6.slice (Rect.unit (s := S6x1536x3584) (k0_off2 i) S1x256x3584.size (k0_off2_inb i k0_h2)) (fun _ => rfl)
    let v3502 : Memref sig .tc .hbm S256x3584 .bf16 := v3501.squeeze S256x3584 squeezes_S1x256x3584_S256x3584
    Prog.lift (.enqueueDma v3502 (.here v3500) (.dma arg13.sem) ((harg6.wordExact_slice rfl _ (k0_off2_wordsbf16 i k0_h2)).reshape _ _) ((harg10.wordExact_slice rfl _ (k0_off2_wordsbf16 i k0_h2)).reshape _ _) ⟨Or.inl rfl, trivial⟩)
    pure ⟨⟩
  else do
    pure ⟨⟩

/-- Zeroes the scales' block at the first point. -/
def zeroProg (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) :
    Prog (TpuEff nD τ sig (Elt F) Λ₀ .tc) PUnit := do
  let arg0 : BitVec 32 := BitVec.ofNat 32 (i 0).val
  let v6 : BitVec 1 := Scalar.cmpi .eq arg0 0#32
  let v7 : BitVec 32 := Scalar.extui v6
  let v8 : BitVec 1 := Scalar.cmpi .ne v7 0#32
  if k0_h3 : v8 = 1#1 then do
    let v3472 : Vec F S1152x148 .f32 ← Prog.lift (.load arg9 (Rect.unit (s := S1152x148) ![0, 0] S1152x148.size inb_S1152x148_S1152x148_0_0).toLoadRect (View.loadsAt_vmem h_S1152x148))
    Prog.lift (.store arg9 (Rect.unit (s := S1152x148) ![0, 0] S1152x148.size inb_S1152x148_S1152x148_0_0) (k0_pay1 (F := F)) Finset.univ (View.stores_vmem_bits_univ h_S1152x148 rfl) (.inl rfl))
    pure ⟨⟩
  else do
    pure ⟨⟩

/-- The first two tiles of the gate weights. -/
def tilesProg (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) :
    Prog (TpuEff nD τ sig (Elt F) Λ₀ .tc) (Σ' (arg0 : BitVec 32) (v9 : BitVec 32), BitVec 32) := do
  let arg0 : BitVec 32 := BitVec.ofNat 32 (i 0).val
  let v9 : BitVec 32 := Scalar.muli arg0 4#32
  let v12 : Elt F .f32 ← smemLoad arg1 (Rect.unit (s := S28x148) (k0_off3 i 0#32) S1x1.size (k0_off3_inb i 0)) numel1_S1x1 rfl
  let v15 : Vec F S128x128 .fp8e4m3 ← Prog.lift (.load arg4 (Rect.unit (s := S3584x512) ![0, 0] S128x128.size inb_S3584x512_S128x128_0_0).toLoadRect (View.loadsAt_vmem h_S128x128))
  let v18 : Vec F S128x128 .bf16 ← Prog.lift (.load arg11 (Rect.unit (s := S3584x512) ![0, 0] S128x128.size inb_S3584x512_S128x128_0_0).toLoadRect (View.loadsAt_vmem h_S128x128))
  Prog.lift (.store arg11 (Rect.unit (s := S3584x512) ![0, 0] S128x128.size inb_S3584x512_S128x128_0_0) (k0_pay2 v12 v15) Finset.univ (View.stores_vmem h_S128x128 (harg11.storeExact_slice rfl _ packedbf16_S3584x512_S128x128_0_0) (fun _ => rfl)) (.inl rfl))
  let v23 : Elt F .f32 ← smemLoad arg1 (Rect.unit (s := S28x148) (k0_off3 i 1#32) S1x1.size (k0_off3_inb i 1)) numel1_S1x1 rfl
  let v26 : Vec F S128x128 .fp8e4m3 ← Prog.lift (.load arg4 (Rect.unit (s := S3584x512) ![0, 128] S128x128.size inb_S3584x512_S128x128_0_128).toLoadRect (View.loadsAt_vmem h_S128x128))
  let v29 : Vec F S128x128 .bf16 ← Prog.lift (.load arg11 (Rect.unit (s := S3584x512) ![0, 128] S128x128.size inb_S3584x512_S128x128_0_128).toLoadRect (View.loadsAt_vmem h_S128x128))
  Prog.lift (.store arg11 (Rect.unit (s := S3584x512) ![0, 128] S128x128.size inb_S3584x512_S128x128_0_128) (k0_pay3 v23 v26) Finset.univ (View.stores_vmem h_S128x128 (harg11.storeExact_slice rfl _ packedbf16_S3584x512_S128x128_0_128) (fun _ => rfl)) (.inl rfl))
  let v32 : BitVec 32 := Scalar.addi v9 2#32
  pure ⟨arg0, v9, v32⟩

/-- The statements up to the 60th part, from the first tile on. -/
def weights60 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) :
    Prog (TpuEff nD τ sig (Elt F) Λ₀ .tc) (Σ' (arg0 : BitVec 32) (v1242 : BitVec 32), FVec F S128x128 .bf16) := do
  let ⟨arg0, v9, v32⟩ : Σ' (arg0 : BitVec 32) (v9 : BitVec 32), BitVec 32 ← tilesProg i arg1 harg1 arg2 harg2 arg3 harg3 arg4 harg4 arg5 harg5 arg6 harg6 arg7 harg7 arg8 harg8 arg9 harg9 arg10 harg10 arg11 harg11 arg12 harg12 arg13
  let v69 : FVec F S128x128 .bf16 ← k0_part2 i arg1 harg1 arg2 harg2 arg3 harg3 arg4 harg4 arg5 harg5 arg6 harg6 arg7 harg7 arg8 harg8 arg9 harg9 arg10 harg10 arg11 harg11 arg12 harg12 arg13 v9 v32
  let ⟨v105, v106⟩ : Σ' (v105 : FVec F S128x128 .bf16), Vec F S128x128 .bf16 ← k0_part3 i arg1 harg1 arg2 harg2 arg3 harg3 arg4 harg4 arg5 harg5 arg6 harg6 arg7 harg7 arg8 harg8 arg9 harg9 arg10 harg10 arg11 harg11 arg12 harg12 arg13 v9 v69
  let v142 : BitVec 32 ← k0_part4 i arg1 harg1 arg2 harg2 arg3 harg3 arg4 harg4 arg5 harg5 arg6 harg6 arg7 harg7 arg8 harg8 arg9 harg9 arg10 harg10 arg11 harg11 arg12 harg12 arg13 v9 v105 v106
  let v179 : FVec F S128x128 .bf16 ← k0_part5 i arg1 harg1 arg2 harg2 arg3 harg3 arg4 harg4 arg5 harg5 arg6 harg6 arg7 harg7 arg8 harg8 arg9 harg9 arg10 harg10 arg11 harg11 arg12 harg12 arg13 v9 v142
  let ⟨v215, v216⟩ : Σ' (v215 : FVec F S128x128 .bf16), Vec F S128x128 .bf16 ← k0_part6 i arg1 harg1 arg2 harg2 arg3 harg3 arg4 harg4 arg5 harg5 arg6 harg6 arg7 harg7 arg8 harg8 arg9 harg9 arg10 harg10 arg11 harg11 arg12 harg12 arg13 v9 v179
  let v252 : BitVec 32 ← k0_part7 i arg1 harg1 arg2 harg2 arg3 harg3 arg4 harg4 arg5 harg5 arg6 harg6 arg7 harg7 arg8 harg8 arg9 harg9 arg10 harg10 arg11 harg11 arg12 harg12 arg13 v9 v215 v216
  let v289 : FVec F S128x128 .bf16 ← k0_part8 i arg1 harg1 arg2 harg2 arg3 harg3 arg4 harg4 arg5 harg5 arg6 harg6 arg7 harg7 arg8 harg8 arg9 harg9 arg10 harg10 arg11 harg11 arg12 harg12 arg13 v9 v252
  let ⟨v325, v326⟩ : Σ' (v325 : FVec F S128x128 .bf16), Vec F S128x128 .bf16 ← k0_part9 i arg1 harg1 arg2 harg2 arg3 harg3 arg4 harg4 arg5 harg5 arg6 harg6 arg7 harg7 arg8 harg8 arg9 harg9 arg10 harg10 arg11 harg11 arg12 harg12 arg13 v9 v289
  let v362 : BitVec 32 ← k0_part10 i arg1 harg1 arg2 harg2 arg3 harg3 arg4 harg4 arg5 harg5 arg6 harg6 arg7 harg7 arg8 harg8 arg9 harg9 arg10 harg10 arg11 harg11 arg12 harg12 arg13 v9 v325 v326
  let v399 : FVec F S128x128 .bf16 ← k0_part11 i arg1 harg1 arg2 harg2 arg3 harg3 arg4 harg4 arg5 harg5 arg6 harg6 arg7 harg7 arg8 harg8 arg9 harg9 arg10 harg10 arg11 harg11 arg12 harg12 arg13 v9 v362
  let ⟨v435, v436⟩ : Σ' (v435 : FVec F S128x128 .bf16), Vec F S128x128 .bf16 ← k0_part12 i arg1 harg1 arg2 harg2 arg3 harg3 arg4 harg4 arg5 harg5 arg6 harg6 arg7 harg7 arg8 harg8 arg9 harg9 arg10 harg10 arg11 harg11 arg12 harg12 arg13 v9 v399
  let v472 : BitVec 32 ← k0_part13 i arg1 harg1 arg2 harg2 arg3 harg3 arg4 harg4 arg5 harg5 arg6 harg6 arg7 harg7 arg8 harg8 arg9 harg9 arg10 harg10 arg11 harg11 arg12 harg12 arg13 v9 v435 v436
  let v509 : FVec F S128x128 .bf16 ← k0_part14 i arg1 harg1 arg2 harg2 arg3 harg3 arg4 harg4 arg5 harg5 arg6 harg6 arg7 harg7 arg8 harg8 arg9 harg9 arg10 harg10 arg11 harg11 arg12 harg12 arg13 v9 v472
  let ⟨v545, v546⟩ : Σ' (v545 : FVec F S128x128 .bf16), Vec F S128x128 .bf16 ← k0_part15 i arg1 harg1 arg2 harg2 arg3 harg3 arg4 harg4 arg5 harg5 arg6 harg6 arg7 harg7 arg8 harg8 arg9 harg9 arg10 harg10 arg11 harg11 arg12 harg12 arg13 v9 v509
  let v582 : BitVec 32 ← k0_part16 i arg1 harg1 arg2 harg2 arg3 harg3 arg4 harg4 arg5 harg5 arg6 harg6 arg7 harg7 arg8 harg8 arg9 harg9 arg10 harg10 arg11 harg11 arg12 harg12 arg13 v9 v545 v546
  let v619 : FVec F S128x128 .bf16 ← k0_part17 i arg1 harg1 arg2 harg2 arg3 harg3 arg4 harg4 arg5 harg5 arg6 harg6 arg7 harg7 arg8 harg8 arg9 harg9 arg10 harg10 arg11 harg11 arg12 harg12 arg13 v9 v582
  let ⟨v655, v656⟩ : Σ' (v655 : FVec F S128x128 .bf16), Vec F S128x128 .bf16 ← k0_part18 i arg1 harg1 arg2 harg2 arg3 harg3 arg4 harg4 arg5 harg5 arg6 harg6 arg7 harg7 arg8 harg8 arg9 harg9 arg10 harg10 arg11 harg11 arg12 harg12 arg13 v9 v619
  let v692 : BitVec 32 ← k0_part19 i arg1 harg1 arg2 harg2 arg3 harg3 arg4 harg4 arg5 harg5 arg6 harg6 arg7 harg7 arg8 harg8 arg9 harg9 arg10 harg10 arg11 harg11 arg12 harg12 arg13 v9 v655 v656
  let v729 : FVec F S128x128 .bf16 ← k0_part20 i arg1 harg1 arg2 harg2 arg3 harg3 arg4 harg4 arg5 harg5 arg6 harg6 arg7 harg7 arg8 harg8 arg9 harg9 arg10 harg10 arg11 harg11 arg12 harg12 arg13 v9 v692
  let ⟨v765, v766⟩ : Σ' (v765 : FVec F S128x128 .bf16), Vec F S128x128 .bf16 ← k0_part21 i arg1 harg1 arg2 harg2 arg3 harg3 arg4 harg4 arg5 harg5 arg6 harg6 arg7 harg7 arg8 harg8 arg9 harg9 arg10 harg10 arg11 harg11 arg12 harg12 arg13 v9 v729
  let v802 : BitVec 32 ← k0_part22 i arg1 harg1 arg2 harg2 arg3 harg3 arg4 harg4 arg5 harg5 arg6 harg6 arg7 harg7 arg8 harg8 arg9 harg9 arg10 harg10 arg11 harg11 arg12 harg12 arg13 v9 v765 v766
  let v839 : FVec F S128x128 .bf16 ← k0_part23 i arg1 harg1 arg2 harg2 arg3 harg3 arg4 harg4 arg5 harg5 arg6 harg6 arg7 harg7 arg8 harg8 arg9 harg9 arg10 harg10 arg11 harg11 arg12 harg12 arg13 v9 v802
  let ⟨v875, v876⟩ : Σ' (v875 : FVec F S128x128 .bf16), Vec F S128x128 .bf16 ← k0_part24 i arg1 harg1 arg2 harg2 arg3 harg3 arg4 harg4 arg5 harg5 arg6 harg6 arg7 harg7 arg8 harg8 arg9 harg9 arg10 harg10 arg11 harg11 arg12 harg12 arg13 v9 v839
  let v912 : BitVec 32 ← k0_part25 i arg1 harg1 arg2 harg2 arg3 harg3 arg4 harg4 arg5 harg5 arg6 harg6 arg7 harg7 arg8 harg8 arg9 harg9 arg10 harg10 arg11 harg11 arg12 harg12 arg13 v9 v875 v876
  let v949 : FVec F S128x128 .bf16 ← k0_part26 i arg1 harg1 arg2 harg2 arg3 harg3 arg4 harg4 arg5 harg5 arg6 harg6 arg7 harg7 arg8 harg8 arg9 harg9 arg10 harg10 arg11 harg11 arg12 harg12 arg13 v9 v912
  let ⟨v985, v986⟩ : Σ' (v985 : FVec F S128x128 .bf16), Vec F S128x128 .bf16 ← k0_part27 i arg1 harg1 arg2 harg2 arg3 harg3 arg4 harg4 arg5 harg5 arg6 harg6 arg7 harg7 arg8 harg8 arg9 harg9 arg10 harg10 arg11 harg11 arg12 harg12 arg13 v9 v949
  let v1022 : BitVec 32 ← k0_part28 i arg1 harg1 arg2 harg2 arg3 harg3 arg4 harg4 arg5 harg5 arg6 harg6 arg7 harg7 arg8 harg8 arg9 harg9 arg10 harg10 arg11 harg11 arg12 harg12 arg13 v9 v985 v986
  let v1059 : FVec F S128x128 .bf16 ← k0_part29 i arg1 harg1 arg2 harg2 arg3 harg3 arg4 harg4 arg5 harg5 arg6 harg6 arg7 harg7 arg8 harg8 arg9 harg9 arg10 harg10 arg11 harg11 arg12 harg12 arg13 v9 v1022
  let ⟨v1095, v1096⟩ : Σ' (v1095 : FVec F S128x128 .bf16), Vec F S128x128 .bf16 ← k0_part30 i arg1 harg1 arg2 harg2 arg3 harg3 arg4 harg4 arg5 harg5 arg6 harg6 arg7 harg7 arg8 harg8 arg9 harg9 arg10 harg10 arg11 harg11 arg12 harg12 arg13 v9 v1059
  let v1132 : BitVec 32 ← k0_part31 i arg1 harg1 arg2 harg2 arg3 harg3 arg4 harg4 arg5 harg5 arg6 harg6 arg7 harg7 arg8 harg8 arg9 harg9 arg10 harg10 arg11 harg11 arg12 harg12 arg13 v9 v1095 v1096
  let v1169 : FVec F S128x128 .bf16 ← k0_part32 i arg1 harg1 arg2 harg2 arg3 harg3 arg4 harg4 arg5 harg5 arg6 harg6 arg7 harg7 arg8 harg8 arg9 harg9 arg10 harg10 arg11 harg11 arg12 harg12 arg13 v9 v1132
  let ⟨v1205, v1206⟩ : Σ' (v1205 : FVec F S128x128 .bf16), Vec F S128x128 .bf16 ← k0_part33 i arg1 harg1 arg2 harg2 arg3 harg3 arg4 harg4 arg5 harg5 arg6 harg6 arg7 harg7 arg8 harg8 arg9 harg9 arg10 harg10 arg11 harg11 arg12 harg12 arg13 v9 v1169
  let ⟨v1242, c0_i32_619⟩ : Σ' (v1242 : BitVec 32), BitVec 32 ← k0_part34 i arg1 harg1 arg2 harg2 arg3 harg3 arg4 harg4 arg5 harg5 arg6 harg6 arg7 harg7 arg8 harg8 arg9 harg9 arg10 harg10 arg11 harg11 arg12 harg12 arg13 arg0 v9 v1205 v1206
  let v1280 : FVec F S128x128 .bf16 ← k0_part35 i arg1 harg1 arg2 harg2 arg3 harg3 arg4 harg4 arg5 harg5 arg6 harg6 arg7 harg7 arg8 harg8 arg9 harg9 arg10 harg10 arg11 harg11 arg12 harg12 arg13 v1242 c0_i32_619
  let v1316 : FVec F S128x128 .bf16 ← k0_part36 i arg1 harg1 arg2 harg2 arg3 harg3 arg4 harg4 arg5 harg5 arg6 harg6 arg7 harg7 arg8 harg8 arg9 harg9 arg10 harg10 arg11 harg11 arg12 harg12 arg13 v1242 v1280
  let c2_i32_679 : BitVec 32 ← k0_part37 i arg1 harg1 arg2 harg2 arg3 harg3 arg4 harg4 arg5 harg5 arg6 harg6 arg7 harg7 arg8 harg8 arg9 harg9 arg10 harg10 arg11 harg11 arg12 harg12 arg13 v1242 v1316
  let v1390 : FVec F S128x128 .bf16 ← k0_part38 i arg1 harg1 arg2 harg2 arg3 harg3 arg4 harg4 arg5 harg5 arg6 harg6 arg7 harg7 arg8 harg8 arg9 harg9 arg10 harg10 arg11 harg11 arg12 harg12 arg13 v1242 c2_i32_679
  let v1426 : FVec F S128x128 .bf16 ← k0_part39 i arg1 harg1 arg2 harg2 arg3 harg3 arg4 harg4 arg5 harg5 arg6 harg6 arg7 harg7 arg8 harg8 arg9 harg9 arg10 harg10 arg11 harg11 arg12 harg12 arg13 v1242 v1390
  let c0_i32_739 : BitVec 32 ← k0_part40 i arg1 harg1 arg2 harg2 arg3 harg3 arg4 harg4 arg5 harg5 arg6 harg6 arg7 harg7 arg8 harg8 arg9 harg9 arg10 harg10 arg11 harg11 arg12 harg12 arg13 v1242 v1426
  let v1500 : FVec F S128x128 .bf16 ← k0_part41 i arg1 harg1 arg2 harg2 arg3 harg3 arg4 harg4 arg5 harg5 arg6 harg6 arg7 harg7 arg8 harg8 arg9 harg9 arg10 harg10 arg11 harg11 arg12 harg12 arg13 v1242 c0_i32_739
  let v1536 : FVec F S128x128 .bf16 ← k0_part42 i arg1 harg1 arg2 harg2 arg3 harg3 arg4 harg4 arg5 harg5 arg6 harg6 arg7 harg7 arg8 harg8 arg9 harg9 arg10 harg10 arg11 harg11 arg12 harg12 arg13 v1242 v1500
  let c2_i32_799 : BitVec 32 ← k0_part43 i arg1 harg1 arg2 harg2 arg3 harg3 arg4 harg4 arg5 harg5 arg6 harg6 arg7 harg7 arg8 harg8 arg9 harg9 arg10 harg10 arg11 harg11 arg12 harg12 arg13 v1242 v1536
  let v1610 : FVec F S128x128 .bf16 ← k0_part44 i arg1 harg1 arg2 harg2 arg3 harg3 arg4 harg4 arg5 harg5 arg6 harg6 arg7 harg7 arg8 harg8 arg9 harg9 arg10 harg10 arg11 harg11 arg12 harg12 arg13 v1242 c2_i32_799
  let v1646 : FVec F S128x128 .bf16 ← k0_part45 i arg1 harg1 arg2 harg2 arg3 harg3 arg4 harg4 arg5 harg5 arg6 harg6 arg7 harg7 arg8 harg8 arg9 harg9 arg10 harg10 arg11 harg11 arg12 harg12 arg13 v1242 v1610
  let c0_i32_859 : BitVec 32 ← k0_part46 i arg1 harg1 arg2 harg2 arg3 harg3 arg4 harg4 arg5 harg5 arg6 harg6 arg7 harg7 arg8 harg8 arg9 harg9 arg10 harg10 arg11 harg11 arg12 harg12 arg13 v1242 v1646
  let v1720 : FVec F S128x128 .bf16 ← k0_part47 i arg1 harg1 arg2 harg2 arg3 harg3 arg4 harg4 arg5 harg5 arg6 harg6 arg7 harg7 arg8 harg8 arg9 harg9 arg10 harg10 arg11 harg11 arg12 harg12 arg13 v1242 c0_i32_859
  let v1756 : FVec F S128x128 .bf16 ← k0_part48 i arg1 harg1 arg2 harg2 arg3 harg3 arg4 harg4 arg5 harg5 arg6 harg6 arg7 harg7 arg8 harg8 arg9 harg9 arg10 harg10 arg11 harg11 arg12 harg12 arg13 v1242 v1720
  let c2_i32_919 : BitVec 32 ← k0_part49 i arg1 harg1 arg2 harg2 arg3 harg3 arg4 harg4 arg5 harg5 arg6 harg6 arg7 harg7 arg8 harg8 arg9 harg9 arg10 harg10 arg11 harg11 arg12 harg12 arg13 v1242 v1756
  let v1830 : FVec F S128x128 .bf16 ← k0_part50 i arg1 harg1 arg2 harg2 arg3 harg3 arg4 harg4 arg5 harg5 arg6 harg6 arg7 harg7 arg8 harg8 arg9 harg9 arg10 harg10 arg11 harg11 arg12 harg12 arg13 v1242 c2_i32_919
  let v1866 : FVec F S128x128 .bf16 ← k0_part51 i arg1 harg1 arg2 harg2 arg3 harg3 arg4 harg4 arg5 harg5 arg6 harg6 arg7 harg7 arg8 harg8 arg9 harg9 arg10 harg10 arg11 harg11 arg12 harg12 arg13 v1242 v1830
  let c0_i32_979 : BitVec 32 ← k0_part52 i arg1 harg1 arg2 harg2 arg3 harg3 arg4 harg4 arg5 harg5 arg6 harg6 arg7 harg7 arg8 harg8 arg9 harg9 arg10 harg10 arg11 harg11 arg12 harg12 arg13 v1242 v1866
  let v1940 : FVec F S128x128 .bf16 ← k0_part53 i arg1 harg1 arg2 harg2 arg3 harg3 arg4 harg4 arg5 harg5 arg6 harg6 arg7 harg7 arg8 harg8 arg9 harg9 arg10 harg10 arg11 harg11 arg12 harg12 arg13 v1242 c0_i32_979
  let v1976 : FVec F S128x128 .bf16 ← k0_part54 i arg1 harg1 arg2 harg2 arg3 harg3 arg4 harg4 arg5 harg5 arg6 harg6 arg7 harg7 arg8 harg8 arg9 harg9 arg10 harg10 arg11 harg11 arg12 harg12 arg13 v1242 v1940
  let c2_i32_1039 : BitVec 32 ← k0_part55 i arg1 harg1 arg2 harg2 arg3 harg3 arg4 harg4 arg5 harg5 arg6 harg6 arg7 harg7 arg8 harg8 arg9 harg9 arg10 harg10 arg11 harg11 arg12 harg12 arg13 v1242 v1976
  let v2050 : FVec F S128x128 .bf16 ← k0_part56 i arg1 harg1 arg2 harg2 arg3 harg3 arg4 harg4 arg5 harg5 arg6 harg6 arg7 harg7 arg8 harg8 arg9 harg9 arg10 harg10 arg11 harg11 arg12 harg12 arg13 v1242 c2_i32_1039
  let v2086 : FVec F S128x128 .bf16 ← k0_part57 i arg1 harg1 arg2 harg2 arg3 harg3 arg4 harg4 arg5 harg5 arg6 harg6 arg7 harg7 arg8 harg8 arg9 harg9 arg10 harg10 arg11 harg11 arg12 harg12 arg13 v1242 v2050
  let c0_i32_1099 : BitVec 32 ← k0_part58 i arg1 harg1 arg2 harg2 arg3 harg3 arg4 harg4 arg5 harg5 arg6 harg6 arg7 harg7 arg8 harg8 arg9 harg9 arg10 harg10 arg11 harg11 arg12 harg12 arg13 v1242 v2086
  let v2160 : FVec F S128x128 .bf16 ← k0_part59 i arg1 harg1 arg2 harg2 arg3 harg3 arg4 harg4 arg5 harg5 arg6 harg6 arg7 harg7 arg8 harg8 arg9 harg9 arg10 harg10 arg11 harg11 arg12 harg12 arg13 v1242 c0_i32_1099
  let v2196 : FVec F S128x128 .bf16 ← k0_part60 i arg1 harg1 arg2 harg2 arg3 harg3 arg4 harg4 arg5 harg5 arg6 harg6 arg7 harg7 arg8 harg8 arg9 harg9 arg10 harg10 arg11 harg11 arg12 harg12 arg13 v1242 v2160
  pure ⟨arg0, v1242, v2196⟩

/-- The widening of both weight blocks but the last two tiles of the second; `k` goes on. -/
def weightsProg (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (k : BitVec 32 → BitVec 32 → BitVec 32 → Prog (TpuEff nD τ sig (Elt F) Λ₀ .tc) PUnit) :
    Prog (TpuEff nD τ sig (Elt F) Λ₀ .tc) PUnit := do
  let ⟨arg0, v1242, v2196⟩ : Σ' (arg0 : BitVec 32) (v1242 : BitVec 32), FVec F S128x128 .bf16 ← weights60 i arg1 harg1 arg2 harg2 arg3 harg3 arg4 harg4 arg5 harg5 arg6 harg6 arg7 harg7 arg8 harg8 arg9 harg9 arg10 harg10 arg11 harg11 arg12 harg12 arg13
  let c2_i32_1159 : BitVec 32 ← k0_part61 i arg1 harg1 arg2 harg2 arg3 harg3 arg4 harg4 arg5 harg5 arg6 harg6 arg7 harg7 arg8 harg8 arg9 harg9 arg10 harg10 arg11 harg11 arg12 harg12 arg13 v1242 v2196
  let v2270 : FVec F S128x128 .bf16 ← k0_part62 i arg1 harg1 arg2 harg2 arg3 harg3 arg4 harg4 arg5 harg5 arg6 harg6 arg7 harg7 arg8 harg8 arg9 harg9 arg10 harg10 arg11 harg11 arg12 harg12 arg13 v1242 c2_i32_1159
  let v2306 : FVec F S128x128 .bf16 ← k0_part63 i arg1 harg1 arg2 harg2 arg3 harg3 arg4 harg4 arg5 harg5 arg6 harg6 arg7 harg7 arg8 harg8 arg9 harg9 arg10 harg10 arg11 harg11 arg12 harg12 arg13 v1242 v2270
  let c0_i32_1219 : BitVec 32 ← k0_part64 i arg1 harg1 arg2 harg2 arg3 harg3 arg4 harg4 arg5 harg5 arg6 harg6 arg7 harg7 arg8 harg8 arg9 harg9 arg10 harg10 arg11 harg11 arg12 harg12 arg13 v1242 v2306
  let v2380 : FVec F S128x128 .bf16 ← k0_part65 i arg1 harg1 arg2 harg2 arg3 harg3 arg4 harg4 arg5 harg5 arg6 harg6 arg7 harg7 arg8 harg8 arg9 harg9 arg10 harg10 arg11 harg11 arg12 harg12 arg13 v1242 c0_i32_1219
  let v2416 : FVec F S128x128 .bf16 ← k0_part66 i arg1 harg1 arg2 harg2 arg3 harg3 arg4 harg4 arg5 harg5 arg6 harg6 arg7 harg7 arg8 harg8 arg9 harg9 arg10 harg10 arg11 harg11 arg12 harg12 arg13 v1242 v2380
  let c2_i32_1279 : BitVec 32 ← k0_part67 i arg1 harg1 arg2 harg2 arg3 harg3 arg4 harg4 arg5 harg5 arg6 harg6 arg7 harg7 arg8 harg8 arg9 harg9 arg10 harg10 arg11 harg11 arg12 harg12 arg13 v1242 v2416
  k arg0 v1242 c2_i32_1279

/-- The last two tiles, then the products and the quantiser. -/
def computeProg (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (arg0 : BitVec 32) (v1242 : BitVec 32) (c2_i32_1279 : BitVec 32) :
    Prog (TpuEff nD τ sig (Elt F) Λ₀ .tc) PUnit := do
  let ⟨v2482, v2484, v2485, v2486, v2488⟩ : Σ' (v2482 : FVec F S384x512 .f32) (v2484 : FVec F S384x148 .f32) (v2485 : IVec S384x148 32) (v2486 : FVec F S384x128 .f32), FVec F S384 .f32 ← k0_part68 i arg1 harg1 arg2 harg2 arg3 harg3 arg4 harg4 arg5 harg5 arg6 harg6 arg7 harg7 arg8 harg8 arg9 harg9 arg10 harg10 arg11 harg11 arg12 harg12 arg13 v1242 c2_i32_1279
  let ⟨v2532, v2534, v2536⟩ : Σ' (v2532 : IVec S384x1 32) (v2534 : IVec S384x1 1), IVec S384x1 32 ← k0_part69 i arg1 harg1 arg2 harg2 arg3 harg3 arg4 harg4 arg5 harg5 arg6 harg6 arg7 harg7 arg8 harg8 arg9 harg9 arg10 harg10 arg11 harg11 arg12 harg12 arg13 v2488
  let ⟨v2565, v2566, v2571, v2577, v2578⟩ : Σ' (v2565 : FVec F S384x148 .f32) (v2566 : FVec F S384x128 .f32) (v2571 : FVec F S384x1 .f32) (v2577 : IVec S384x1 32), IVec S384x1 32 ← k0_part70 i arg1 harg1 arg2 harg2 arg3 harg3 arg4 harg4 arg5 harg5 arg6 harg6 arg7 harg7 arg8 harg8 arg9 harg9 arg10 harg10 arg11 harg11 arg12 harg12 arg13 arg0 v2482 v2484 v2485 v2486 v2532 v2534 v2536
  let ⟨v2619, v2626, cst_1330⟩ : Σ' (v2619 : FVec F S384x1 .f32) (v2626 : FVec F S384x128 .f32), F .f32 ← k0_part71 i arg1 harg1 arg2 harg2 arg3 harg3 arg4 harg4 arg5 harg5 arg6 harg6 arg7 harg7 arg8 harg8 arg9 harg9 arg10 harg10 arg11 harg11 arg12 harg12 arg13 v2566 v2571 v2577 v2578
  let ⟨v2645, v2646, v2651, v2667, v2669, v2670⟩ : Σ' (v2645 : FVec F S384x148 .f32) (v2646 : FVec F S384x128 .f32) (v2651 : FVec F S384x1 .f32) (v2667 : IVec S384x1 32) (v2669 : IVec S384x1 32), FVec F S384x1 .f32 ← k0_part72 i arg1 harg1 arg2 harg2 arg3 harg3 arg4 harg4 arg5 harg5 arg6 harg6 arg7 harg7 arg8 harg8 arg9 harg9 arg10 harg10 arg11 harg11 arg12 harg12 arg13 arg0 v2482 v2485 v2565 v2619 v2626 cst_1330
  let ⟨v2699, v2711, v2716⟩ : Σ' (v2699 : FVec F S384x1 .f32) (v2711 : FVec F S384x128 .fp8e4m3), FVec F S384x128 .bf16 ← k0_part73 i arg1 harg1 arg2 harg2 arg3 harg3 arg4 harg4 arg5 harg5 arg6 harg6 arg7 harg7 arg8 harg8 arg9 harg9 arg10 harg10 arg11 harg11 arg12 harg12 arg13 v2646 v2651 v2667 v2669 v2670
  let ⟨v2725, v2726, v2731, v2762⟩ : Σ' (v2725 : FVec F S384x148 .f32) (v2726 : FVec F S384x128 .f32) (v2731 : FVec F S384x1 .f32), IVec S384x1 32 ← k0_part74 i arg1 harg1 arg2 harg2 arg3 harg3 arg4 harg4 arg5 harg5 arg6 harg6 arg7 harg7 arg8 harg8 arg9 harg9 arg10 harg10 arg11 harg11 arg12 harg12 arg13 arg0 v2482 v2485 v2645 v2699 v2711 v2716
  let v2805 : FVec F S384x148 .f32 ← k0_part75 i arg1 harg1 arg2 harg2 arg3 harg3 arg4 harg4 arg5 harg5 arg6 harg6 arg7 harg7 arg8 harg8 arg9 harg9 arg10 harg10 arg11 harg11 arg12 harg12 arg13 arg0 v2485 v2725 v2726 v2731 v2762
  let ⟨v2814, v2816, v2817, v2818, v2823, v2844, c67108864_i32_1405⟩ : Σ' (v2814 : FVec F S384x512 .f32) (v2816 : FVec F S384x148 .f32) (v2817 : IVec S384x148 32) (v2818 : FVec F S384x128 .f32) (v2823 : FVec F S384x1 .f32) (v2844 : IVec S384x1 32), BitVec 32 ← k0_part76 i arg1 harg1 arg2 harg2 arg3 harg3 arg4 harg4 arg5 harg5 arg6 harg6 arg7 harg7 arg8 harg8 arg9 harg9 arg10 harg10 arg11 harg11 arg12 harg12 arg13 v2805
  let ⟨v2871, v2888⟩ : Σ' (v2871 : FVec F S384x1 .f32), FVec F S384x128 .bf16 ← k0_part77 i arg1 harg1 arg2 harg2 arg3 harg3 arg4 harg4 arg5 harg5 arg6 harg6 arg7 harg7 arg8 harg8 arg9 harg9 arg10 harg10 arg11 harg11 arg12 harg12 arg13 v2818 v2823 v2844 c67108864_i32_1405
  let ⟨v2897, v2898, v2903, v2934, v2936⟩ : Σ' (v2897 : FVec F S384x148 .f32) (v2898 : FVec F S384x128 .f32) (v2903 : FVec F S384x1 .f32) (v2934 : IVec S384x1 32), IVec S384x1 32 ← k0_part78 i arg1 harg1 arg2 harg2 arg3 harg3 arg4 harg4 arg5 harg5 arg6 harg6 arg7 harg7 arg8 harg8 arg9 harg9 arg10 harg10 arg11 harg11 arg12 harg12 arg13 arg0 v2814 v2816 v2817 v2871 v2888
  let ⟨v2977, v2978, v2979⟩ : Σ' (v2977 : FVec F S384x148 .f32) (v2978 : FVec F S384x128 .f32), FVec F S384x128 .f32 ← k0_part79 i arg1 harg1 arg2 harg2 arg3 harg3 arg4 harg4 arg5 harg5 arg6 harg6 arg7 harg7 arg8 harg8 arg9 harg9 arg10 harg10 arg11 harg11 arg12 harg12 arg13 arg0 v2814 v2817 v2897 v2898 v2903 v2934 v2936
  let ⟨v3024, v3026, v3027⟩ : Σ' (v3024 : IVec S384x1 32) (v3026 : IVec S384x1 1), IVec S384x1 32 ← k0_part80 i arg1 harg1 arg2 harg2 arg3 harg3 arg4 harg4 arg5 harg5 arg6 harg6 arg7 harg7 arg8 harg8 arg9 harg9 arg10 harg10 arg11 harg11 arg12 harg12 arg13 v2979
  let ⟨v3057, v3058, v3063, v3069, c536870912_i32_1474⟩ : Σ' (v3057 : FVec F S384x148 .f32) (v3058 : FVec F S384x128 .f32) (v3063 : FVec F S384x1 .f32) (v3069 : IVec S384x1 32), BitVec 32 ← k0_part81 i arg1 harg1 arg2 harg2 arg3 harg3 arg4 harg4 arg5 harg5 arg6 harg6 arg7 harg7 arg8 harg8 arg9 harg9 arg10 harg10 arg11 harg11 arg12 harg12 arg13 arg0 v2814 v2817 v2977 v2978 v3024 v3026 v3027
  let ⟨v3111, v3118⟩ : Σ' (v3111 : FVec F S384x1 .f32), FVec F S384x128 .f32 ← k0_part82 i arg1 harg1 arg2 harg2 arg3 harg3 arg4 harg4 arg5 harg5 arg6 harg6 arg7 harg7 arg8 harg8 arg9 harg9 arg10 harg10 arg11 harg11 arg12 harg12 arg13 v3058 v3063 v3069 c536870912_i32_1474
  let ⟨v3146, v3148, v3149, v3150, v3153, cst_1507⟩ : Σ' (v3146 : FVec F S384x512 .f32) (v3148 : FVec F S384x148 .f32) (v3149 : IVec S384x148 32) (v3150 : FVec F S384x128 .f32) (v3153 : FVec F S384x1 .f32), F .f32 ← k0_part83 i arg1 harg1 arg2 harg2 arg3 harg3 arg4 harg4 arg5 harg5 arg6 harg6 arg7 harg7 arg8 harg8 arg9 harg9 arg10 harg10 arg11 harg11 arg12 harg12 arg13 arg0 v2817 v3057 v3111 v3118
  let ⟨v3196, v3198, v3200, v3201⟩ : Σ' (v3196 : IVec S384x1 32) (v3198 : IVec S384x1 1) (v3200 : IVec S384x1 32), IVec S384x1 32 ← k0_part84 i arg1 harg1 arg2 harg2 arg3 harg3 arg4 harg4 arg5 harg5 arg6 harg6 arg7 harg7 arg8 harg8 arg9 harg9 arg10 harg10 arg11 harg11 arg12 harg12 arg13 v3153 cst_1507
  let ⟨v3229, v3230, v3235, v3241, v3243, v3244⟩ : Σ' (v3229 : FVec F S384x148 .f32) (v3230 : FVec F S384x128 .f32) (v3235 : FVec F S384x1 .f32) (v3241 : IVec S384x1 32) (v3243 : IVec S384x1 32), FVec F S384x1 .f32 ← k0_part85 i arg1 harg1 arg2 harg2 arg3 harg3 arg4 harg4 arg5 harg5 arg6 harg6 arg7 harg7 arg8 harg8 arg9 harg9 arg10 harg10 arg11 harg11 arg12 harg12 arg13 arg0 v3146 v3148 v3149 v3150 v3196 v3198 v3200 v3201
  let ⟨v3283, v3290, cst_1547, v3291⟩ : Σ' (v3283 : FVec F S384x1 .f32) (v3290 : FVec F S384x128 .f32) (cst_1547 : F .f32), FVec F S384x128 .f32 ← k0_part86 i arg1 harg1 arg2 harg2 arg3 harg3 arg4 harg4 arg5 harg5 arg6 harg6 arg7 harg7 arg8 harg8 arg9 harg9 arg10 harg10 arg11 harg11 arg12 harg12 arg13 v3230 v3235 v3241 v3243 v3244
  let ⟨v3309, v3310, v3315, v3336⟩ : Σ' (v3309 : FVec F S384x148 .f32) (v3310 : FVec F S384x128 .f32) (v3315 : FVec F S384x1 .f32), IVec S384x1 32 ← k0_part87 i arg1 harg1 arg2 harg2 arg3 harg3 arg4 harg4 arg5 harg5 arg6 harg6 arg7 harg7 arg8 harg8 arg9 harg9 arg10 harg10 arg11 harg11 arg12 harg12 arg13 arg0 v3146 v3149 v3229 v3283 v3290 cst_1547 v3291
  let ⟨v3363, v3380⟩ : Σ' (v3363 : FVec F S384x1 .f32), FVec F S384x128 .bf16 ← k0_part88 i arg1 harg1 arg2 harg2 arg3 harg3 arg4 harg4 arg5 harg5 arg6 harg6 arg7 harg7 arg8 harg8 arg9 harg9 arg10 harg10 arg11 harg11 arg12 harg12 arg13 v3310 v3315 v3336
  let ⟨v3389, v3390, v3395, v3426, v3427⟩ : Σ' (v3389 : FVec F S384x148 .f32) (v3390 : FVec F S384x128 .f32) (v3395 : FVec F S384x1 .f32) (v3426 : IVec S384x1 32), IVec S384x1 32 ← k0_part89 i arg1 harg1 arg2 harg2 arg3 harg3 arg4 harg4 arg5 harg5 arg6 harg6 arg7 harg7 arg8 harg8 arg9 harg9 arg10 harg10 arg11 harg11 arg12 harg12 arg13 arg0 v3146 v3149 v3309 v3363 v3380
  let v3469 : FVec F S384x148 .f32 ← k0_part90 i arg1 harg1 arg2 harg2 arg3 harg3 arg4 harg4 arg5 harg5 arg6 harg6 arg7 harg7 arg8 harg8 arg9 harg9 arg10 harg10 arg11 harg11 arg12 harg12 arg13 arg0 v3149 v3389 v3390 v3395 v3426 v3427
  let v3470 : Vec F S384x148 .f32 ← Prog.lift (.load arg9 (Rect.unit (s := S1152x148) ![768, 0] S384x148.size inb_S1152x148_S384x148_768_0).toLoadRect (View.loadsAt_vmem h_S384x148))
  Prog.lift (.store arg9 (Rect.unit (s := S1152x148) ![768, 0] S384x148.size inb_S1152x148_S384x148_768_0) v3469 Finset.univ (View.stores_vmem_bits_univ h_S384x148 rfl) (.inl rfl))
  pure ⟨⟩

/-- The last two tiles of the up weights. -/
def tail68 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) :
    Prog (TpuEff nD τ sig (Elt F) Λ₀ .tc) PUnit := do
  let v2455 : Elt F .f32 ← smemLoad arg2 (Rect.unit (s := S28x148) (k0_off30 i 2#32) S1x1.size (k0_off30_inb i 2)) numel1_S1x1 rfl
  let v2458 : Vec F S128x128 .fp8e4m3 ← Prog.lift (.load arg5 (Rect.unit (s := S3584x512) ![3456, 256] S128x128.size inb_S3584x512_S128x128_3456_256).toLoadRect (View.loadsAt_vmem h_S128x128))
  let v2461 : Vec F S128x128 .bf16 ← Prog.lift (.load arg12 (Rect.unit (s := S3584x512) ![3456, 256] S128x128.size inb_S3584x512_S128x128_3456_256).toLoadRect (View.loadsAt_vmem h_S128x128))
  Prog.lift (.store arg12 (Rect.unit (s := S3584x512) ![3456, 256] S128x128.size inb_S3584x512_S128x128_3456_256) (k0_pay268 v2455 v2458) Finset.univ (View.stores_vmem h_S128x128 (harg12.storeExact_slice rfl _ packedbf16_S3584x512_S128x128_3456_256) (fun _ => rfl)) (.inl rfl))
  let v2466 : Elt F .f32 ← smemLoad arg2 (Rect.unit (s := S28x148) (k0_off30 i 3#32) S1x1.size (k0_off30_inb i 3)) numel1_S1x1 rfl
  let v2469 : Vec F S128x128 .fp8e4m3 ← Prog.lift (.load arg5 (Rect.unit (s := S3584x512) ![3456, 384] S128x128.size inb_S3584x512_S128x128_3456_384).toLoadRect (View.loadsAt_vmem h_S128x128))
  let v2472 : Vec F S128x128 .bf16 ← Prog.lift (.load arg12 (Rect.unit (s := S3584x512) ![3456, 384] S128x128.size inb_S3584x512_S128x128_3456_384).toLoadRect (View.loadsAt_vmem h_S128x128))
  Prog.lift (.store arg12 (Rect.unit (s := S3584x512) ![3456, 384] S128x128.size inb_S3584x512_S128x128_3456_384) (k0_pay269 v2466 v2469) Finset.univ (View.stores_vmem h_S128x128 (harg12.storeExact_slice rfl _ packedbf16_S3584x512_S128x128_3456_384) (fun _ => rfl)) (.inl rfl))
  pure ⟨⟩

/-- The first row chunk's operands, and what is computed of them. -/
def loads68 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) :
    Prog (TpuEff nD τ sig (Elt F) Λ₀ .tc) (Σ' (v2482 : FVec F S384x512 .f32) (v2484 : FVec F S384x148 .f32) (v2485 : IVec S384x148 32) (v2486 : FVec F S384x128 .f32), FVec F S384 .f32) := do
  let v2475 : Vec F S384x3584 .bf16 ← Prog.lift (.load arg3 (Rect.unit (s := S1152x3584) ![0, 0] S384x3584.size inb_S1152x3584_S384x3584_0_0).toLoadRect (View.loadsAt_vmem h_S384x3584))
  let v2476 : Vec F S3584x512 .bf16 ← Prog.lift (.load arg11 (Rect.unit (s := S3584x512) ![0, 0] S3584x512.size inb_S3584x512_S3584x512_0_0).toLoadRect (View.loadsAt_vmem h_S3584x512))
  let v2478 : Vec F S3584x512 .bf16 ← Prog.lift (.load arg12 (Rect.unit (s := S3584x512) ![0, 0] S3584x512.size inb_S3584x512_S3584x512_0_0).toLoadRect (View.loadsAt_vmem h_S3584x512))
  let v2483 : Vec F S384x148 .f32 ← Prog.lift (.load arg9 (Rect.unit (s := S1152x148) ![0, 0] S384x148.size inb_S1152x148_S384x148_0_0).toLoadRect (View.loadsAt_vmem h_S384x148))
  have v2485 : IVec S384x148 32 := iota .tc S384x148 32 [1] iota_S384x148_d1_w32
  pure ⟨k0_pay270 v2475 v2476 v2478, k0_pay271 v2483, v2485, k0_pay272 v2475 v2476 v2478, k0_pay273 v2475 v2476 v2478⟩

theorem part1_split (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) :
    k0_part1 (F := F) i arg1 harg1 arg2 harg2 arg3 harg3 arg4 harg4 arg5 harg5 arg6 harg6 arg7 harg7 arg8 harg8 arg9 harg9 arg10 harg10 arg11 harg11 arg12 harg12 arg13 = (do waitProg i arg1 harg1 arg2 harg2 arg3 harg3 arg4 harg4 arg5 harg5 arg6 harg6 arg7 harg7 arg8 harg8 arg9 harg9 arg10 harg10 arg11 harg11 arg12 harg12 arg13; startProg i arg1 harg1 arg2 harg2 arg3 harg3 arg4 harg4 arg5 harg5 arg6 harg6 arg7 harg7 arg8 harg8 arg9 harg9 arg10 harg10 arg11 harg11 arg12 harg12 arg13; zeroProg i arg1 harg1 arg2 harg2 arg3 harg3 arg4 harg4 arg5 harg5 arg6 harg6 arg7 harg7 arg8 harg8 arg9 harg9 arg10 harg10 arg11 harg11 arg12 harg12 arg13; tilesProg i arg1 harg1 arg2 harg2 arg3 harg3 arg4 harg4 arg5 harg5 arg6 harg6 arg7 harg7 arg8 harg8 arg9 harg9 arg10 harg10 arg11 harg11 arg12 harg12 arg13) := by
  rw [k0_part1_eq_skeleton]
  unfold k0_part1_skel waitProg startProg zeroProg tilesProg
  by_cases h1 : k0_cond1 i = 1#1 <;> by_cases h2 : k0_cond2 i = 1#1 <;>
    by_cases h3 : Scalar.cmpi .ne (Scalar.extui (Scalar.cmpi .eq (BitVec.ofNat 32 (i 0).val) 0#32) : BitVec 32) 0#32 = 1#1 <;>
    simp only [h1, h2, h3, dite_true, dite_false, bind_assoc, pure_bind, reduceDIte, ↓reduceDIte]

theorem part68_split (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v1242 c2 : BitVec 32) :
    k0_part68 (F := F) i arg1 harg1 arg2 harg2 arg3 harg3 arg4 harg4 arg5 harg5 arg6 harg6 arg7 harg7 arg8 harg8 arg9 harg9 arg10 harg10 arg11 harg11 arg12 harg12 arg13 v1242 c2 = (do tail68 i arg1 harg1 arg2 harg2 arg3 harg3 arg4 harg4 arg5 harg5 arg6 harg6 arg7 harg7 arg8 harg8 arg9 harg9 arg10 harg10 arg11 harg11 arg12 harg12 arg13; loads68 i arg1 harg1 arg2 harg2 arg3 harg3 arg4 harg4 arg5 harg5 arg6 harg6 arg7 harg7 arg8 harg8 arg9 harg9 arg10 harg10 arg11 harg11 arg12 harg12 arg13) := rfl

/-- The body is its phases, one after another. -/
theorem body_eq (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) :
    cc0_gateup (F := F) i arg1 harg1 arg2 harg2 arg3 harg3 arg4 harg4 arg5 harg5 arg6 harg6 arg7 harg7 arg8 harg8 arg9 harg9 arg10 harg10 arg11 harg11 arg12 harg12 arg13 = (do waitProg i arg1 harg1 arg2 harg2 arg3 harg3 arg4 harg4 arg5 harg5 arg6 harg6 arg7 harg7 arg8 harg8 arg9 harg9 arg10 harg10 arg11 harg11 arg12 harg12 arg13; startProg i arg1 harg1 arg2 harg2 arg3 harg3 arg4 harg4 arg5 harg5 arg6 harg6 arg7 harg7 arg8 harg8 arg9 harg9 arg10 harg10 arg11 harg11 arg12 harg12 arg13; zeroProg i arg1 harg1 arg2 harg2 arg3 harg3 arg4 harg4 arg5 harg5 arg6 harg6 arg7 harg7 arg8 harg8 arg9 harg9 arg10 harg10 arg11 harg11 arg12 harg12 arg13; weightsProg i arg1 harg1 arg2 harg2 arg3 harg3 arg4 harg4 arg5 harg5 arg6 harg6 arg7 harg7 arg8 harg8 arg9 harg9 arg10 harg10 arg11 harg11 arg12 harg12 arg13 (computeProg i arg1 harg1 arg2 harg2 arg3 harg3 arg4 harg4 arg5 harg5 arg6 harg6 arg7 harg7 arg8 harg8 arg9 harg9 arg10 harg10 arg11 harg11 arg12 harg12 arg13)) := by
  have h91 : k0_part91 (F := F) i arg1 harg1 arg2 harg2 arg3 harg3 arg4 harg4 arg5 harg5 arg6 harg6 arg7 harg7 arg8 harg8 arg9 harg9 arg10 harg10 arg11 harg11 arg12 harg12 arg13 = (do waitProg i arg1 harg1 arg2 harg2 arg3 harg3 arg4 harg4 arg5 harg5 arg6 harg6 arg7 harg7 arg8 harg8 arg9 harg9 arg10 harg10 arg11 harg11 arg12 harg12 arg13; startProg i arg1 harg1 arg2 harg2 arg3 harg3 arg4 harg4 arg5 harg5 arg6 harg6 arg7 harg7 arg8 harg8 arg9 harg9 arg10 harg10 arg11 harg11 arg12 harg12 arg13; zeroProg i arg1 harg1 arg2 harg2 arg3 harg3 arg4 harg4 arg5 harg5 arg6 harg6 arg7 harg7 arg8 harg8 arg9 harg9 arg10 harg10 arg11 harg11 arg12 harg12 arg13; weights60 i arg1 harg1 arg2 harg2 arg3 harg3 arg4 harg4 arg5 harg5 arg6 harg6 arg7 harg7 arg8 harg8 arg9 harg9 arg10 harg10 arg11 harg11 arg12 harg12 arg13) := by
    show k0_part91_skel (F := F) i arg1 harg1 arg2 harg2 arg3 harg3 arg4 harg4 arg5 harg5 arg6 harg6 arg7 harg7 arg8 harg8 arg9 harg9 arg10 harg10 arg11 harg11 arg12 harg12 arg13 = _
    unfold k0_part91_skel weights60
    rw [part1_split]
    simp only [bind_assoc]
  show cc0_gateup_skel (F := F) i arg1 harg1 arg2 harg2 arg3 harg3 arg4 harg4 arg5 harg5 arg6 harg6 arg7 harg7 arg8 harg8 arg9 harg9 arg10 harg10 arg11 harg11 arg12 harg12 arg13 = _
  unfold cc0_gateup_skel weightsProg computeProg
  rw [h91]
  simp only [bind_assoc]

end Cert.KernelIdeal.Hand

end
-- ==== Proof.Values.lean ====
/-
  What one grid point computes, as functions of what it reads: the widened weights, a row chunk's gated product, and the
  quantiser of one tile of 384 rows by 128 lanes.
-/
module

public import proofs.«01_k».proof.Proof.Prog
public import Idealize.ShloMosaic.Lib.ValueIdx

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx (ix2 eq_ix2)

/-- A whole memref held at the contents that read `x` is held at `x`. -/
theorem owns_unread {sp : Space} {s : Shape} {e : EltTy} (c : Dev nD) {m : Memref sig .tc sp s e} (hm : m.IsWhole) (x : Vec F s e) :
    (m.view.loc (c : Thread nD τ) ↦[m.view.set]{fullShare} hm.unread x : sProp 𝕄) ⊢ owns (c : Thread nD τ) m fullShare x := by
  unfold owns
  iintro H
  iexists _; isplitr
  · ipureintro; exact hm.read_unread _
  · iexact H

/-- A block of weights widened: every code times its 128 by 128 block's scale. -/
def wide (i : grid0.Coords) (s : Vec F S28x148 .f32) (q : Vec F S3584x512 .fp8e4m3) : Vec F S3584x512 .bf16 :=
  mulf (extf .bf16 (q : FVec F S3584x512 .fp8e4m3) bitsLt_fp8e4m3_bf16)
    (truncf .bf16 ((fun y => s (ix2 ⟨(y 0).val / 128, by have := (y 0).isLt; change (y 0).val < 3584 at this; omega⟩
      ⟨4 * (i 0).val + (y 1).val / 128, by have := (y 1).isLt; have h := (i 0).isLt; change (y 1).val < 512 at this; change (i 0).val < 37 at h; omega⟩)) : FVec F S3584x512 .f32)
      bitsLt_bf16_f32)

/-- The 384 rows of the activation from row `384 a` on. -/
def rows (a : Fin 3) (x : Vec F S1152x3584 .bf16) : Vec F S384x3584 .bf16 :=
  fun z => x (ix2 ⟨384 * a.val + (z 0).val, by have := (z 0).isLt; have := a.isLt; change (z 0).val < 384 at *; omega⟩ (z 1))

/-- The 384 rows of the scales' block from row `384 a` on. -/
def srows (a : Fin 3) (x : Vec F S1152x148 .f32) : Vec F S384x148 .f32 :=
  fun z => x (ix2 ⟨384 * a.val + (z 0).val, by have := (z 0).isLt; have := a.isLt; change (z 0).val < 384 at *; omega⟩ (z 1))

/-- The tile of 128 lanes from lane `128 b` on. -/
def tile (b : Fin 4) (h : FVec F S384x512 .f32) : FVec F S384x128 .f32 :=
  fun z => h (ix2 (z 0) ⟨128 * b.val + (z 1).val, by have := (z 1).isLt; have := b.isLt; change (z 1).val < 128 at *; omega⟩)

/-- A tile's rows' largest magnitudes over 448, as a column. -/
def amax (t : FVec F S384x128 .f32) : FVec F S384x1 .f32 :=
  mulf (shapeCast S384x1 (multiReduction .maximumf [1] S384 (absf t) 0xFF800000#32 reduces_S384x128_S384 (.inl rfl) rfl) shapeCasts_S384_S384x1)
    (broadcast S384x1 (Scalar.ofBits .f32 0x3B124925#32))

/-- One step of the search for the exponent field: the word with the bits `k` set too, if the column is no smaller. -/
def bstep (a : FVec F S384x1 .f32) (k : BitVec 32) (b : IVec S384x1 32) : IVec S384x1 32 :=
  select (cmpf .olt a (bitcastToFloat .f32 (addi b (broadcast S384x1 k)))) b (addi b (broadcast S384x1 k))

/-- The word that holds a column's exponent field and nothing else. -/
def field (a : FVec F S384x1 .f32) : IVec S384x1 32 :=
  bstep a 8388608#32 (bstep a 16777216#32 (bstep a 33554432#32 (bstep a 67108864#32 (bstep a 134217728#32 (bstep a 268435456#32
    (bstep a 536870912#32 (bstep a 1073741824#32 (broadcast S384x1 0#32))))))))

/-- Where the exponent field is zero. -/
def fzero (a : FVec F S384x1 .f32) : IVec S384x1 1 := cmpi .eq (field a) (broadcast S384x1 0#32)

/-- A column's scales. -/
def scaleC (a : FVec F S384x1 .f32) : FVec F S384x1 .f32 :=
  bitcastToFloat .f32 (select (fzero a) (broadcast S384x1 1065353216#32) (addi (field a) (broadcast S384x1 8388608#32)))

/-- A column's inverse scales. -/
def invC (a : FVec F S384x1 .f32) : FVec F S384x1 .f32 :=
  bitcastToFloat .f32 (select (fzero a) (broadcast S384x1 1065353216#32) (subi (broadcast S384x1 2122317824#32) (field a)))

/-- A tile's codes. -/
def codeT (t : FVec F S384x128 .f32) : FVec F S384x128 .fp8e4m3 :=
  truncf .fp8e4m3 (minimumf (broadcast S384x128 (Scalar.ofBits .f32 0x43E00000#32)) (maximumf (broadcast S384x128 (Scalar.ofBits .f32 0xC3E00000#32))
    (mulf t (broadcastTo S384x128 (invC (amax t)) broadcasts_S384x1_S384x128)))) bitsLt_fp8e4m3_f32

/-- A tile's codes times their scales, at the narrower format. -/
def deqT (t : FVec F S384x128 .f32) : FVec F S384x128 .bf16 :=
  mulf (extf .bf16 (codeT t) bitsLt_fp8e4m3_bf16)
    (truncf .bf16 (broadcastTo S384x128 (shapeCast S384x1 (scaleC (amax t)) shapeCasts_S384x1_S384x1) broadcasts_S384x1_S384x128) bitsLt_bf16_f32)

/-- The scales' rows with one lane, `4 arg0 + g`, set to a tile's scales. -/
def laneT (arg0 g : BitVec 32) (t : FVec F S384x128 .f32) (hs : FVec F S384x148 .f32) : FVec F S384x148 .f32 :=
  select (cmpi .eq (iota .tc S384x148 32 [1] iota_S384x148_d1_w32) (broadcast S384x148 (Scalar.addi (Scalar.muli arg0 4#32) g)))
    (broadcastTo S384x148 (shapeCast S384x1 (scaleC (amax t)) shapeCasts_S384x1_S384x1) broadcasts_S384x1_S384x148) hs

/-- A row chunk's gated product. -/
def hBlk (x : Vec F S384x3584 .bf16) (w0 w1 : Vec F S3584x512 .bf16) : FVec F S384x512 .f32 := k0_pay270 x w0 w1

/-- The scales' rows after a point: the four lanes of the point's four tiles set. -/
def lanes (arg0 : BitVec 32) (h : FVec F S384x512 .f32) (hs : Vec F S384x148 .f32) : FVec F S384x148 .f32 :=
  laneT arg0 3#32 (tile 3 h) (laneT arg0 2#32 (tile 2 h) (laneT arg0 1#32 (tile 1 h) (laneT arg0 0#32 (tile 0 h) hs)))

end Cert.KernelIdeal.Hand

end
-- ==== Proof.Tiles0.lean ====
/-
  A group of the weights' tiles, run.
-/
module

public import proofs.«01_k».proof.Proof.Values

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The tiles of part 1, and on. -/
def grp1 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (k : BitVec 32 → BitVec 32 → BitVec 32 → Prog (TpuEff nD τ sig (Elt F) Λ₀ .tc) PUnit) : Prog (TpuEff nD τ sig (Elt F) Λ₀ .tc) PUnit := do
  let ⟨arg0, v9, v32⟩ : Σ' (arg0 : BitVec 32) (v9 : BitVec 32), BitVec 32 ← tilesProg i arg1 harg1 arg2 harg2 arg3 harg3 arg4 harg4 arg5 harg5 arg6 harg6 arg7 harg7 arg8 harg8 arg9 harg9 arg10 harg10 arg11 harg11 arg12 harg12 arg13
  k arg0 v9 v32

set_option maxHeartbeats 2000000 in
/-- The gate weights' tiles of part 1. -/
noncomputable def run1 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x0 : Vec F S28x148 .f32) (x3 : Vec F S3584x512 .fp8e4m3) :
    { T : List (View.Piece (Elt F) S3584x512 .bf16) //
      ∀ (E : Set ℕ) (f : Buf (Elt F) (arg11.view.loc (c : Thread nD τ))) (R : sProp 𝕄) (k : BitVec 32 → BitVec 32 → BitVec 32 → Prog (TpuEff nD τ sig (Elt F) Λ₀ .tc) PUnit) (K : PUnit → sProp 𝕄)
        (hk : ∀ o, iprop(owns (c : Thread nD τ) arg1 fullShare x0 ∗ owns (c : Thread nD τ) arg4 fullShare x3 ∗ (arg11.view.loc (c : Thread nD τ) ↦[arg11.view.set]{fullShare} arg11.view.writes (Elt F) f T) ∗ R) ⊢ wp frame (wpE (defs₀ (F := F)) Variants.none c none) E (k (BitVec.ofNat 32 (i 0).val) (Scalar.muli (BitVec.ofNat 32 (i 0).val) 4#32) o) K),
      iprop(owns (c : Thread nD τ) arg1 fullShare x0 ∗ owns (c : Thread nD τ) arg4 fullShare x3 ∗ (arg11.view.loc (c : Thread nD τ) ↦[arg11.view.set]{fullShare} f) ∗ R) ⊢ wp frame (wpE (defs₀ (F := F)) Variants.none c none) E (grp1 i arg1 harg1 arg2 harg2 arg3 harg3 arg4 harg4 arg5 harg5 arg6 harg6 arg7 harg7 arg8 harg8 arg9 harg9 arg10 harg10 arg11 harg11 arg12 harg12 arg13 k) K } := by
  refine ⟨?_, fun E f R k K hk => ?run⟩
  case run =>
    unfold grp1
    unfold tilesProg
    unfold owns
    iintro ⟨⟨%f0, %hf0, H0⟩, ⟨%f3, %hf3, H3⟩, Ht0, HR⟩
    obtain rfl := harg1.eq_unread hf0; obtain rfl := harg4.eq_unread hf3
    sl_exec
    dsimp only
    iapply hk
    isplitl [H0]
    · iapply (owns_unread c harg1 x0); iexact H0
    isplitl [H3]
    · iapply (owns_unread c harg4 x3); iexact H3
    isplitl [Ht0]
    · iexact Ht0
    iexact HR

/-- The tiles of parts 2 to 4, and on. -/
def grp2 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v9 : BitVec 32) (v32 : BitVec 32) (k : BitVec 32 → Prog (TpuEff nD τ sig (Elt F) Λ₀ .tc) PUnit) : Prog (TpuEff nD τ sig (Elt F) Λ₀ .tc) PUnit := do
  let v69 : FVec F S128x128 .bf16 ← k0_part2 i arg1 harg1 arg2 harg2 arg3 harg3 arg4 harg4 arg5 harg5 arg6 harg6 arg7 harg7 arg8 harg8 arg9 harg9 arg10 harg10 arg11 harg11 arg12 harg12 arg13 v9 v32
  let ⟨v105, v106⟩ : Σ' (v105 : FVec F S128x128 .bf16), Vec F S128x128 .bf16 ← k0_part3 i arg1 harg1 arg2 harg2 arg3 harg3 arg4 harg4 arg5 harg5 arg6 harg6 arg7 harg7 arg8 harg8 arg9 harg9 arg10 harg10 arg11 harg11 arg12 harg12 arg13 v9 v69
  let v142 : BitVec 32 ← k0_part4 i arg1 harg1 arg2 harg2 arg3 harg3 arg4 harg4 arg5 harg5 arg6 harg6 arg7 harg7 arg8 harg8 arg9 harg9 arg10 harg10 arg11 harg11 arg12 harg12 arg13 v9 v105 v106
  k v142

set_option maxHeartbeats 2000000 in
/-- The gate weights' tiles of parts 2 to 4. -/
noncomputable def run2 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x0 : Vec F S28x148 .f32) (x3 : Vec F S3584x512 .fp8e4m3) :
    { T : List (View.Piece (Elt F) S3584x512 .bf16) //
      ∀ (E : Set ℕ) (f : Buf (Elt F) (arg11.view.loc (c : Thread nD τ))) (R : sProp 𝕄)  (v9 : BitVec 32) (v32 : BitVec 32) (k : BitVec 32 → Prog (TpuEff nD τ sig (Elt F) Λ₀ .tc) PUnit) (K : PUnit → sProp 𝕄)
        (hk : ∀ o, iprop(owns (c : Thread nD τ) arg1 fullShare x0 ∗ owns (c : Thread nD τ) arg4 fullShare x3 ∗ (arg11.view.loc (c : Thread nD τ) ↦[arg11.view.set]{fullShare} arg11.view.writes (Elt F) f T) ∗ R) ⊢ wp frame (wpE (defs₀ (F := F)) Variants.none c none) E (k o) K),
      iprop(owns (c : Thread nD τ) arg1 fullShare x0 ∗ owns (c : Thread nD τ) arg4 fullShare x3 ∗ (arg11.view.loc (c : Thread nD τ) ↦[arg11.view.set]{fullShare} f) ∗ R) ⊢ wp frame (wpE (defs₀ (F := F)) Variants.none c none) E (grp2 i arg1 harg1 arg2 harg2 arg3 harg3 arg4 harg4 arg5 harg5 arg6 harg6 arg7 harg7 arg8 harg8 arg9 harg9 arg10 harg10 arg11 harg11 arg12 harg12 arg13 v9 v32 k) K } := by
  refine ⟨?_, fun E f R v9 v32 k K hk => ?run⟩
  case run =>
    unfold grp2
    simp only [k0_part2_eq_skeleton, k0_part3_eq_skeleton, k0_part4_eq_skeleton]
    unfold k0_part2_skel k0_part3_skel k0_part4_skel
    unfold owns
    iintro ⟨⟨%f0, %hf0, H0⟩, ⟨%f3, %hf3, H3⟩, Ht0, HR⟩
    obtain rfl := harg1.eq_unread hf0; obtain rfl := harg4.eq_unread hf3
    sl_exec
    dsimp only
    iapply hk
    isplitl [H0]
    · iapply (owns_unread c harg1 x0); iexact H0
    isplitl [H3]
    · iapply (owns_unread c harg4 x3); iexact H3
    isplitl [Ht0]
    · iexact Ht0
    iexact HR

/-- The tiles of parts 5 to 7, and on. -/
def grp5 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v9 : BitVec 32) (v142 : BitVec 32) (k : BitVec 32 → Prog (TpuEff nD τ sig (Elt F) Λ₀ .tc) PUnit) : Prog (TpuEff nD τ sig (Elt F) Λ₀ .tc) PUnit := do
  let v179 : FVec F S128x128 .bf16 ← k0_part5 i arg1 harg1 arg2 harg2 arg3 harg3 arg4 harg4 arg5 harg5 arg6 harg6 arg7 harg7 arg8 harg8 arg9 harg9 arg10 harg10 arg11 harg11 arg12 harg12 arg13 v9 v142
  let ⟨v215, v216⟩ : Σ' (v215 : FVec F S128x128 .bf16), Vec F S128x128 .bf16 ← k0_part6 i arg1 harg1 arg2 harg2 arg3 harg3 arg4 harg4 arg5 harg5 arg6 harg6 arg7 harg7 arg8 harg8 arg9 harg9 arg10 harg10 arg11 harg11 arg12 harg12 arg13 v9 v179
  let v252 : BitVec 32 ← k0_part7 i arg1 harg1 arg2 harg2 arg3 harg3 arg4 harg4 arg5 harg5 arg6 harg6 arg7 harg7 arg8 harg8 arg9 harg9 arg10 harg10 arg11 harg11 arg12 harg12 arg13 v9 v215 v216
  k v252

set_option maxHeartbeats 2000000 in
/-- The gate weights' tiles of parts 5 to 7. -/
noncomputable def run5 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x0 : Vec F S28x148 .f32) (x3 : Vec F S3584x512 .fp8e4m3) :
    { T : List (View.Piece (Elt F) S3584x512 .bf16) //
      ∀ (E : Set ℕ) (f : Buf (Elt F) (arg11.view.loc (c : Thread nD τ))) (R : sProp 𝕄)  (v9 : BitVec 32) (v142 : BitVec 32) (k : BitVec 32 → Prog (TpuEff nD τ sig (Elt F) Λ₀ .tc) PUnit) (K : PUnit → sProp 𝕄)
        (hk : ∀ o, iprop(owns (c : Thread nD τ) arg1 fullShare x0 ∗ owns (c : Thread nD τ) arg4 fullShare x3 ∗ (arg11.view.loc (c : Thread nD τ) ↦[arg11.view.set]{fullShare} arg11.view.writes (Elt F) f T) ∗ R) ⊢ wp frame (wpE (defs₀ (F := F)) Variants.none c none) E (k o) K),
      iprop(owns (c : Thread nD τ) arg1 fullShare x0 ∗ owns (c : Thread nD τ) arg4 fullShare x3 ∗ (arg11.view.loc (c : Thread nD τ) ↦[arg11.view.set]{fullShare} f) ∗ R) ⊢ wp frame (wpE (defs₀ (F := F)) Variants.none c none) E (grp5 i arg1 harg1 arg2 harg2 arg3 harg3 arg4 harg4 arg5 harg5 arg6 harg6 arg7 harg7 arg8 harg8 arg9 harg9 arg10 harg10 arg11 harg11 arg12 harg12 arg13 v9 v142 k) K } := by
  refine ⟨?_, fun E f R v9 v142 k K hk => ?run⟩
  case run =>
    unfold grp5
    simp only [k0_part5_eq_skeleton, k0_part6_eq_skeleton, k0_part7_eq_skeleton]
    unfold k0_part5_skel k0_part6_skel k0_part7_skel
    unfold owns
    iintro ⟨⟨%f0, %hf0, H0⟩, ⟨%f3, %hf3, H3⟩, Ht0, HR⟩
    obtain rfl := harg1.eq_unread hf0; obtain rfl := harg4.eq_unread hf3
    sl_exec
    dsimp only
    iapply hk
    isplitl [H0]
    · iapply (owns_unread c harg1 x0); iexact H0
    isplitl [H3]
    · iapply (owns_unread c harg4 x3); iexact H3
    isplitl [Ht0]
    · iexact Ht0
    iexact HR

end Cert.KernelIdeal.Hand

end
-- ==== Proof.Tiles1.lean ====
/-
  A group of the weights' tiles, run.
-/
module

public import proofs.«01_k».proof.Proof.Values

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The tiles of parts 8 to 10, and on. -/
def grp8 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v9 : BitVec 32) (v252 : BitVec 32) (k : BitVec 32 → Prog (TpuEff nD τ sig (Elt F) Λ₀ .tc) PUnit) : Prog (TpuEff nD τ sig (Elt F) Λ₀ .tc) PUnit := do
  let v289 : FVec F S128x128 .bf16 ← k0_part8 i arg1 harg1 arg2 harg2 arg3 harg3 arg4 harg4 arg5 harg5 arg6 harg6 arg7 harg7 arg8 harg8 arg9 harg9 arg10 harg10 arg11 harg11 arg12 harg12 arg13 v9 v252
  let ⟨v325, v326⟩ : Σ' (v325 : FVec F S128x128 .bf16), Vec F S128x128 .bf16 ← k0_part9 i arg1 harg1 arg2 harg2 arg3 harg3 arg4 harg4 arg5 harg5 arg6 harg6 arg7 harg7 arg8 harg8 arg9 harg9 arg10 harg10 arg11 harg11 arg12 harg12 arg13 v9 v289
  let v362 : BitVec 32 ← k0_part10 i arg1 harg1 arg2 harg2 arg3 harg3 arg4 harg4 arg5 harg5 arg6 harg6 arg7 harg7 arg8 harg8 arg9 harg9 arg10 harg10 arg11 harg11 arg12 harg12 arg13 v9 v325 v326
  k v362

set_option maxHeartbeats 2000000 in
/-- The gate weights' tiles of parts 8 to 10. -/
noncomputable def run8 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x0 : Vec F S28x148 .f32) (x3 : Vec F S3584x512 .fp8e4m3) :
    { T : List (View.Piece (Elt F) S3584x512 .bf16) //
      ∀ (E : Set ℕ) (f : Buf (Elt F) (arg11.view.loc (c : Thread nD τ))) (R : sProp 𝕄)  (v9 : BitVec 32) (v252 : BitVec 32) (k : BitVec 32 → Prog (TpuEff nD τ sig (Elt F) Λ₀ .tc) PUnit) (K : PUnit → sProp 𝕄)
        (hk : ∀ o, iprop(owns (c : Thread nD τ) arg1 fullShare x0 ∗ owns (c : Thread nD τ) arg4 fullShare x3 ∗ (arg11.view.loc (c : Thread nD τ) ↦[arg11.view.set]{fullShare} arg11.view.writes (Elt F) f T) ∗ R) ⊢ wp frame (wpE (defs₀ (F := F)) Variants.none c none) E (k o) K),
      iprop(owns (c : Thread nD τ) arg1 fullShare x0 ∗ owns (c : Thread nD τ) arg4 fullShare x3 ∗ (arg11.view.loc (c : Thread nD τ) ↦[arg11.view.set]{fullShare} f) ∗ R) ⊢ wp frame (wpE (defs₀ (F := F)) Variants.none c none) E (grp8 i arg1 harg1 arg2 harg2 arg3 harg3 arg4 harg4 arg5 harg5 arg6 harg6 arg7 harg7 arg8 harg8 arg9 harg9 arg10 harg10 arg11 harg11 arg12 harg12 arg13 v9 v252 k) K } := by
  refine ⟨?_, fun E f R v9 v252 k K hk => ?run⟩
  case run =>
    unfold grp8
    simp only [k0_part8_eq_skeleton, k0_part9_eq_skeleton, k0_part10_eq_skeleton]
    unfold k0_part8_skel k0_part9_skel k0_part10_skel
    unfold owns
    iintro ⟨⟨%f0, %hf0, H0⟩, ⟨%f3, %hf3, H3⟩, Ht0, HR⟩
    obtain rfl := harg1.eq_unread hf0; obtain rfl := harg4.eq_unread hf3
    sl_exec
    dsimp only
    iapply hk
    isplitl [H0]
    · iapply (owns_unread c harg1 x0); iexact H0
    isplitl [H3]
    · iapply (owns_unread c harg4 x3); iexact H3
    isplitl [Ht0]
    · iexact Ht0
    iexact HR

/-- The tiles of parts 11 to 13, and on. -/
def grp11 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v9 : BitVec 32) (v362 : BitVec 32) (k : BitVec 32 → Prog (TpuEff nD τ sig (Elt F) Λ₀ .tc) PUnit) : Prog (TpuEff nD τ sig (Elt F) Λ₀ .tc) PUnit := do
  let v399 : FVec F S128x128 .bf16 ← k0_part11 i arg1 harg1 arg2 harg2 arg3 harg3 arg4 harg4 arg5 harg5 arg6 harg6 arg7 harg7 arg8 harg8 arg9 harg9 arg10 harg10 arg11 harg11 arg12 harg12 arg13 v9 v362
  let ⟨v435, v436⟩ : Σ' (v435 : FVec F S128x128 .bf16), Vec F S128x128 .bf16 ← k0_part12 i arg1 harg1 arg2 harg2 arg3 harg3 arg4 harg4 arg5 harg5 arg6 harg6 arg7 harg7 arg8 harg8 arg9 harg9 arg10 harg10 arg11 harg11 arg12 harg12 arg13 v9 v399
  let v472 : BitVec 32 ← k0_part13 i arg1 harg1 arg2 harg2 arg3 harg3 arg4 harg4 arg5 harg5 arg6 harg6 arg7 harg7 arg8 harg8 arg9 harg9 arg10 harg10 arg11 harg11 arg12 harg12 arg13 v9 v435 v436
  k v472

set_option maxHeartbeats 2000000 in
/-- The gate weights' tiles of parts 11 to 13. -/
noncomputable def run11 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x0 : Vec F S28x148 .f32) (x3 : Vec F S3584x512 .fp8e4m3) :
    { T : List (View.Piece (Elt F) S3584x512 .bf16) //
      ∀ (E : Set ℕ) (f : Buf (Elt F) (arg11.view.loc (c : Thread nD τ))) (R : sProp 𝕄)  (v9 : BitVec 32) (v362 : BitVec 32) (k : BitVec 32 → Prog (TpuEff nD τ sig (Elt F) Λ₀ .tc) PUnit) (K : PUnit → sProp 𝕄)
        (hk : ∀ o, iprop(owns (c : Thread nD τ) arg1 fullShare x0 ∗ owns (c : Thread nD τ) arg4 fullShare x3 ∗ (arg11.view.loc (c : Thread nD τ) ↦[arg11.view.set]{fullShare} arg11.view.writes (Elt F) f T) ∗ R) ⊢ wp frame (wpE (defs₀ (F := F)) Variants.none c none) E (k o) K),
      iprop(owns (c : Thread nD τ) arg1 fullShare x0 ∗ owns (c : Thread nD τ) arg4 fullShare x3 ∗ (arg11.view.loc (c : Thread nD τ) ↦[arg11.view.set]{fullShare} f) ∗ R) ⊢ wp frame (wpE (defs₀ (F := F)) Variants.none c none) E (grp11 i arg1 harg1 arg2 harg2 arg3 harg3 arg4 harg4 arg5 harg5 arg6 harg6 arg7 harg7 arg8 harg8 arg9 harg9 arg10 harg10 arg11 harg11 arg12 harg12 arg13 v9 v362 k) K } := by
  refine ⟨?_, fun E f R v9 v362 k K hk => ?run⟩
  case run =>
    unfold grp11
    simp only [k0_part11_eq_skeleton, k0_part12_eq_skeleton, k0_part13_eq_skeleton]
    unfold k0_part11_skel k0_part12_skel k0_part13_skel
    unfold owns
    iintro ⟨⟨%f0, %hf0, H0⟩, ⟨%f3, %hf3, H3⟩, Ht0, HR⟩
    obtain rfl := harg1.eq_unread hf0; obtain rfl := harg4.eq_unread hf3
    sl_exec
    dsimp only
    iapply hk
    isplitl [H0]
    · iapply (owns_unread c harg1 x0); iexact H0
    isplitl [H3]
    · iapply (owns_unread c harg4 x3); iexact H3
    isplitl [Ht0]
    · iexact Ht0
    iexact HR

/-- The tiles of parts 14 to 16, and on. -/
def grp14 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v9 : BitVec 32) (v472 : BitVec 32) (k : BitVec 32 → Prog (TpuEff nD τ sig (Elt F) Λ₀ .tc) PUnit) : Prog (TpuEff nD τ sig (Elt F) Λ₀ .tc) PUnit := do
  let v509 : FVec F S128x128 .bf16 ← k0_part14 i arg1 harg1 arg2 harg2 arg3 harg3 arg4 harg4 arg5 harg5 arg6 harg6 arg7 harg7 arg8 harg8 arg9 harg9 arg10 harg10 arg11 harg11 arg12 harg12 arg13 v9 v472
  let ⟨v545, v546⟩ : Σ' (v545 : FVec F S128x128 .bf16), Vec F S128x128 .bf16 ← k0_part15 i arg1 harg1 arg2 harg2 arg3 harg3 arg4 harg4 arg5 harg5 arg6 harg6 arg7 harg7 arg8 harg8 arg9 harg9 arg10 harg10 arg11 harg11 arg12 harg12 arg13 v9 v509
  let v582 : BitVec 32 ← k0_part16 i arg1 harg1 arg2 harg2 arg3 harg3 arg4 harg4 arg5 harg5 arg6 harg6 arg7 harg7 arg8 harg8 arg9 harg9 arg10 harg10 arg11 harg11 arg12 harg12 arg13 v9 v545 v546
  k v582

set_option maxHeartbeats 2000000 in
/-- The gate weights' tiles of parts 14 to 16. -/
noncomputable def run14 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x0 : Vec F S28x148 .f32) (x3 : Vec F S3584x512 .fp8e4m3) :
    { T : List (View.Piece (Elt F) S3584x512 .bf16) //
      ∀ (E : Set ℕ) (f : Buf (Elt F) (arg11.view.loc (c : Thread nD τ))) (R : sProp 𝕄)  (v9 : BitVec 32) (v472 : BitVec 32) (k : BitVec 32 → Prog (TpuEff nD τ sig (Elt F) Λ₀ .tc) PUnit) (K : PUnit → sProp 𝕄)
        (hk : ∀ o, iprop(owns (c : Thread nD τ) arg1 fullShare x0 ∗ owns (c : Thread nD τ) arg4 fullShare x3 ∗ (arg11.view.loc (c : Thread nD τ) ↦[arg11.view.set]{fullShare} arg11.view.writes (Elt F) f T) ∗ R) ⊢ wp frame (wpE (defs₀ (F := F)) Variants.none c none) E (k o) K),
      iprop(owns (c : Thread nD τ) arg1 fullShare x0 ∗ owns (c : Thread nD τ) arg4 fullShare x3 ∗ (arg11.view.loc (c : Thread nD τ) ↦[arg11.view.set]{fullShare} f) ∗ R) ⊢ wp frame (wpE (defs₀ (F := F)) Variants.none c none) E (grp14 i arg1 harg1 arg2 harg2 arg3 harg3 arg4 harg4 arg5 harg5 arg6 harg6 arg7 harg7 arg8 harg8 arg9 harg9 arg10 harg10 arg11 harg11 arg12 harg12 arg13 v9 v472 k) K } := by
  refine ⟨?_, fun E f R v9 v472 k K hk => ?run⟩
  case run =>
    unfold grp14
    simp only [k0_part14_eq_skeleton, k0_part15_eq_skeleton, k0_part16_eq_skeleton]
    unfold k0_part14_skel k0_part15_skel k0_part16_skel
    unfold owns
    iintro ⟨⟨%f0, %hf0, H0⟩, ⟨%f3, %hf3, H3⟩, Ht0, HR⟩
    obtain rfl := harg1.eq_unread hf0; obtain rfl := harg4.eq_unread hf3
    sl_exec
    dsimp only
    iapply hk
    isplitl [H0]
    · iapply (owns_unread c harg1 x0); iexact H0
    isplitl [H3]
    · iapply (owns_unread c harg4 x3); iexact H3
    isplitl [Ht0]
    · iexact Ht0
    iexact HR

end Cert.KernelIdeal.Hand

end
-- ==== Proof.Tiles2.lean ====
/-
  A group of the weights' tiles, run.
-/
module

public import proofs.«01_k».proof.Proof.Values

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The tiles of parts 17 to 19, and on. -/
def grp17 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v9 : BitVec 32) (v582 : BitVec 32) (k : BitVec 32 → Prog (TpuEff nD τ sig (Elt F) Λ₀ .tc) PUnit) : Prog (TpuEff nD τ sig (Elt F) Λ₀ .tc) PUnit := do
  let v619 : FVec F S128x128 .bf16 ← k0_part17 i arg1 harg1 arg2 harg2 arg3 harg3 arg4 harg4 arg5 harg5 arg6 harg6 arg7 harg7 arg8 harg8 arg9 harg9 arg10 harg10 arg11 harg11 arg12 harg12 arg13 v9 v582
  let ⟨v655, v656⟩ : Σ' (v655 : FVec F S128x128 .bf16), Vec F S128x128 .bf16 ← k0_part18 i arg1 harg1 arg2 harg2 arg3 harg3 arg4 harg4 arg5 harg5 arg6 harg6 arg7 harg7 arg8 harg8 arg9 harg9 arg10 harg10 arg11 harg11 arg12 harg12 arg13 v9 v619
  let v692 : BitVec 32 ← k0_part19 i arg1 harg1 arg2 harg2 arg3 harg3 arg4 harg4 arg5 harg5 arg6 harg6 arg7 harg7 arg8 harg8 arg9 harg9 arg10 harg10 arg11 harg11 arg12 harg12 arg13 v9 v655 v656
  k v692

set_option maxHeartbeats 2000000 in
/-- The gate weights' tiles of parts 17 to 19. -/
noncomputable def run17 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x0 : Vec F S28x148 .f32) (x3 : Vec F S3584x512 .fp8e4m3) :
    { T : List (View.Piece (Elt F) S3584x512 .bf16) //
      ∀ (E : Set ℕ) (f : Buf (Elt F) (arg11.view.loc (c : Thread nD τ))) (R : sProp 𝕄)  (v9 : BitVec 32) (v582 : BitVec 32) (k : BitVec 32 → Prog (TpuEff nD τ sig (Elt F) Λ₀ .tc) PUnit) (K : PUnit → sProp 𝕄)
        (hk : ∀ o, iprop(owns (c : Thread nD τ) arg1 fullShare x0 ∗ owns (c : Thread nD τ) arg4 fullShare x3 ∗ (arg11.view.loc (c : Thread nD τ) ↦[arg11.view.set]{fullShare} arg11.view.writes (Elt F) f T) ∗ R) ⊢ wp frame (wpE (defs₀ (F := F)) Variants.none c none) E (k o) K),
      iprop(owns (c : Thread nD τ) arg1 fullShare x0 ∗ owns (c : Thread nD τ) arg4 fullShare x3 ∗ (arg11.view.loc (c : Thread nD τ) ↦[arg11.view.set]{fullShare} f) ∗ R) ⊢ wp frame (wpE (defs₀ (F := F)) Variants.none c none) E (grp17 i arg1 harg1 arg2 harg2 arg3 harg3 arg4 harg4 arg5 harg5 arg6 harg6 arg7 harg7 arg8 harg8 arg9 harg9 arg10 harg10 arg11 harg11 arg12 harg12 arg13 v9 v582 k) K } := by
  refine ⟨?_, fun E f R v9 v582 k K hk => ?run⟩
  case run =>
    unfold grp17
    simp only [k0_part17_eq_skeleton, k0_part18_eq_skeleton, k0_part19_eq_skeleton]
    unfold k0_part17_skel k0_part18_skel k0_part19_skel
    unfold owns
    iintro ⟨⟨%f0, %hf0, H0⟩, ⟨%f3, %hf3, H3⟩, Ht0, HR⟩
    obtain rfl := harg1.eq_unread hf0; obtain rfl := harg4.eq_unread hf3
    sl_exec
    dsimp only
    iapply hk
    isplitl [H0]
    · iapply (owns_unread c harg1 x0); iexact H0
    isplitl [H3]
    · iapply (owns_unread c harg4 x3); iexact H3
    isplitl [Ht0]
    · iexact Ht0
    iexact HR

/-- The tiles of parts 20 to 22, and on. -/
def grp20 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v9 : BitVec 32) (v692 : BitVec 32) (k : BitVec 32 → Prog (TpuEff nD τ sig (Elt F) Λ₀ .tc) PUnit) : Prog (TpuEff nD τ sig (Elt F) Λ₀ .tc) PUnit := do
  let v729 : FVec F S128x128 .bf16 ← k0_part20 i arg1 harg1 arg2 harg2 arg3 harg3 arg4 harg4 arg5 harg5 arg6 harg6 arg7 harg7 arg8 harg8 arg9 harg9 arg10 harg10 arg11 harg11 arg12 harg12 arg13 v9 v692
  let ⟨v765, v766⟩ : Σ' (v765 : FVec F S128x128 .bf16), Vec F S128x128 .bf16 ← k0_part21 i arg1 harg1 arg2 harg2 arg3 harg3 arg4 harg4 arg5 harg5 arg6 harg6 arg7 harg7 arg8 harg8 arg9 harg9 arg10 harg10 arg11 harg11 arg12 harg12 arg13 v9 v729
  let v802 : BitVec 32 ← k0_part22 i arg1 harg1 arg2 harg2 arg3 harg3 arg4 harg4 arg5 harg5 arg6 harg6 arg7 harg7 arg8 harg8 arg9 harg9 arg10 harg10 arg11 harg11 arg12 harg12 arg13 v9 v765 v766
  k v802

set_option maxHeartbeats 2000000 in
/-- The gate weights' tiles of parts 20 to 22. -/
noncomputable def run20 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x0 : Vec F S28x148 .f32) (x3 : Vec F S3584x512 .fp8e4m3) :
    { T : List (View.Piece (Elt F) S3584x512 .bf16) //
      ∀ (E : Set ℕ) (f : Buf (Elt F) (arg11.view.loc (c : Thread nD τ))) (R : sProp 𝕄)  (v9 : BitVec 32) (v692 : BitVec 32) (k : BitVec 32 → Prog (TpuEff nD τ sig (Elt F) Λ₀ .tc) PUnit) (K : PUnit → sProp 𝕄)
        (hk : ∀ o, iprop(owns (c : Thread nD τ) arg1 fullShare x0 ∗ owns (c : Thread nD τ) arg4 fullShare x3 ∗ (arg11.view.loc (c : Thread nD τ) ↦[arg11.view.set]{fullShare} arg11.view.writes (Elt F) f T) ∗ R) ⊢ wp frame (wpE (defs₀ (F := F)) Variants.none c none) E (k o) K),
      iprop(owns (c : Thread nD τ) arg1 fullShare x0 ∗ owns (c : Thread nD τ) arg4 fullShare x3 ∗ (arg11.view.loc (c : Thread nD τ) ↦[arg11.view.set]{fullShare} f) ∗ R) ⊢ wp frame (wpE (defs₀ (F := F)) Variants.none c none) E (grp20 i arg1 harg1 arg2 harg2 arg3 harg3 arg4 harg4 arg5 harg5 arg6 harg6 arg7 harg7 arg8 harg8 arg9 harg9 arg10 harg10 arg11 harg11 arg12 harg12 arg13 v9 v692 k) K } := by
  refine ⟨?_, fun E f R v9 v692 k K hk => ?run⟩
  case run =>
    unfold grp20
    simp only [k0_part20_eq_skeleton, k0_part21_eq_skeleton, k0_part22_eq_skeleton]
    unfold k0_part20_skel k0_part21_skel k0_part22_skel
    unfold owns
    iintro ⟨⟨%f0, %hf0, H0⟩, ⟨%f3, %hf3, H3⟩, Ht0, HR⟩
    obtain rfl := harg1.eq_unread hf0; obtain rfl := harg4.eq_unread hf3
    sl_exec
    dsimp only
    iapply hk
    isplitl [H0]
    · iapply (owns_unread c harg1 x0); iexact H0
    isplitl [H3]
    · iapply (owns_unread c harg4 x3); iexact H3
    isplitl [Ht0]
    · iexact Ht0
    iexact HR

/-- The tiles of parts 23 to 25, and on. -/
def grp23 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v9 : BitVec 32) (v802 : BitVec 32) (k : BitVec 32 → Prog (TpuEff nD τ sig (Elt F) Λ₀ .tc) PUnit) : Prog (TpuEff nD τ sig (Elt F) Λ₀ .tc) PUnit := do
  let v839 : FVec F S128x128 .bf16 ← k0_part23 i arg1 harg1 arg2 harg2 arg3 harg3 arg4 harg4 arg5 harg5 arg6 harg6 arg7 harg7 arg8 harg8 arg9 harg9 arg10 harg10 arg11 harg11 arg12 harg12 arg13 v9 v802
  let ⟨v875, v876⟩ : Σ' (v875 : FVec F S128x128 .bf16), Vec F S128x128 .bf16 ← k0_part24 i arg1 harg1 arg2 harg2 arg3 harg3 arg4 harg4 arg5 harg5 arg6 harg6 arg7 harg7 arg8 harg8 arg9 harg9 arg10 harg10 arg11 harg11 arg12 harg12 arg13 v9 v839
  let v912 : BitVec 32 ← k0_part25 i arg1 harg1 arg2 harg2 arg3 harg3 arg4 harg4 arg5 harg5 arg6 harg6 arg7 harg7 arg8 harg8 arg9 harg9 arg10 harg10 arg11 harg11 arg12 harg12 arg13 v9 v875 v876
  k v912

set_option maxHeartbeats 2000000 in
/-- The gate weights' tiles of parts 23 to 25. -/
noncomputable def run23 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x0 : Vec F S28x148 .f32) (x3 : Vec F S3584x512 .fp8e4m3) :
    { T : List (View.Piece (Elt F) S3584x512 .bf16) //
      ∀ (E : Set ℕ) (f : Buf (Elt F) (arg11.view.loc (c : Thread nD τ))) (R : sProp 𝕄)  (v9 : BitVec 32) (v802 : BitVec 32) (k : BitVec 32 → Prog (TpuEff nD τ sig (Elt F) Λ₀ .tc) PUnit) (K : PUnit → sProp 𝕄)
        (hk : ∀ o, iprop(owns (c : Thread nD τ) arg1 fullShare x0 ∗ owns (c : Thread nD τ) arg4 fullShare x3 ∗ (arg11.view.loc (c : Thread nD τ) ↦[arg11.view.set]{fullShare} arg11.view.writes (Elt F) f T) ∗ R) ⊢ wp frame (wpE (defs₀ (F := F)) Variants.none c none) E (k o) K),
      iprop(owns (c : Thread nD τ) arg1 fullShare x0 ∗ owns (c : Thread nD τ) arg4 fullShare x3 ∗ (arg11.view.loc (c : Thread nD τ) ↦[arg11.view.set]{fullShare} f) ∗ R) ⊢ wp frame (wpE (defs₀ (F := F)) Variants.none c none) E (grp23 i arg1 harg1 arg2 harg2 arg3 harg3 arg4 harg4 arg5 harg5 arg6 harg6 arg7 harg7 arg8 harg8 arg9 harg9 arg10 harg10 arg11 harg11 arg12 harg12 arg13 v9 v802 k) K } := by
  refine ⟨?_, fun E f R v9 v802 k K hk => ?run⟩
  case run =>
    unfold grp23
    simp only [k0_part23_eq_skeleton, k0_part24_eq_skeleton, k0_part25_eq_skeleton]
    unfold k0_part23_skel k0_part24_skel k0_part25_skel
    unfold owns
    iintro ⟨⟨%f0, %hf0, H0⟩, ⟨%f3, %hf3, H3⟩, Ht0, HR⟩
    obtain rfl := harg1.eq_unread hf0; obtain rfl := harg4.eq_unread hf3
    sl_exec
    dsimp only
    iapply hk
    isplitl [H0]
    · iapply (owns_unread c harg1 x0); iexact H0
    isplitl [H3]
    · iapply (owns_unread c harg4 x3); iexact H3
    isplitl [Ht0]
    · iexact Ht0
    iexact HR

end Cert.KernelIdeal.Hand

end
-- ==== Proof.Tiles3.lean ====
/-
  A group of the weights' tiles, run.
-/
module

public import proofs.«01_k».proof.Proof.Values

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The tiles of parts 26 to 28, and on. -/
def grp26 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v9 : BitVec 32) (v912 : BitVec 32) (k : BitVec 32 → Prog (TpuEff nD τ sig (Elt F) Λ₀ .tc) PUnit) : Prog (TpuEff nD τ sig (Elt F) Λ₀ .tc) PUnit := do
  let v949 : FVec F S128x128 .bf16 ← k0_part26 i arg1 harg1 arg2 harg2 arg3 harg3 arg4 harg4 arg5 harg5 arg6 harg6 arg7 harg7 arg8 harg8 arg9 harg9 arg10 harg10 arg11 harg11 arg12 harg12 arg13 v9 v912
  let ⟨v985, v986⟩ : Σ' (v985 : FVec F S128x128 .bf16), Vec F S128x128 .bf16 ← k0_part27 i arg1 harg1 arg2 harg2 arg3 harg3 arg4 harg4 arg5 harg5 arg6 harg6 arg7 harg7 arg8 harg8 arg9 harg9 arg10 harg10 arg11 harg11 arg12 harg12 arg13 v9 v949
  let v1022 : BitVec 32 ← k0_part28 i arg1 harg1 arg2 harg2 arg3 harg3 arg4 harg4 arg5 harg5 arg6 harg6 arg7 harg7 arg8 harg8 arg9 harg9 arg10 harg10 arg11 harg11 arg12 harg12 arg13 v9 v985 v986
  k v1022

set_option maxHeartbeats 2000000 in
/-- The gate weights' tiles of parts 26 to 28. -/
noncomputable def run26 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x0 : Vec F S28x148 .f32) (x3 : Vec F S3584x512 .fp8e4m3) :
    { T : List (View.Piece (Elt F) S3584x512 .bf16) //
      ∀ (E : Set ℕ) (f : Buf (Elt F) (arg11.view.loc (c : Thread nD τ))) (R : sProp 𝕄)  (v9 : BitVec 32) (v912 : BitVec 32) (k : BitVec 32 → Prog (TpuEff nD τ sig (Elt F) Λ₀ .tc) PUnit) (K : PUnit → sProp 𝕄)
        (hk : ∀ o, iprop(owns (c : Thread nD τ) arg1 fullShare x0 ∗ owns (c : Thread nD τ) arg4 fullShare x3 ∗ (arg11.view.loc (c : Thread nD τ) ↦[arg11.view.set]{fullShare} arg11.view.writes (Elt F) f T) ∗ R) ⊢ wp frame (wpE (defs₀ (F := F)) Variants.none c none) E (k o) K),
      iprop(owns (c : Thread nD τ) arg1 fullShare x0 ∗ owns (c : Thread nD τ) arg4 fullShare x3 ∗ (arg11.view.loc (c : Thread nD τ) ↦[arg11.view.set]{fullShare} f) ∗ R) ⊢ wp frame (wpE (defs₀ (F := F)) Variants.none c none) E (grp26 i arg1 harg1 arg2 harg2 arg3 harg3 arg4 harg4 arg5 harg5 arg6 harg6 arg7 harg7 arg8 harg8 arg9 harg9 arg10 harg10 arg11 harg11 arg12 harg12 arg13 v9 v912 k) K } := by
  refine ⟨?_, fun E f R v9 v912 k K hk => ?run⟩
  case run =>
    unfold grp26
    simp only [k0_part26_eq_skeleton, k0_part27_eq_skeleton, k0_part28_eq_skeleton]
    unfold k0_part26_skel k0_part27_skel k0_part28_skel
    unfold owns
    iintro ⟨⟨%f0, %hf0, H0⟩, ⟨%f3, %hf3, H3⟩, Ht0, HR⟩
    obtain rfl := harg1.eq_unread hf0; obtain rfl := harg4.eq_unread hf3
    sl_exec
    dsimp only
    iapply hk
    isplitl [H0]
    · iapply (owns_unread c harg1 x0); iexact H0
    isplitl [H3]
    · iapply (owns_unread c harg4 x3); iexact H3
    isplitl [Ht0]
    · iexact Ht0
    iexact HR

/-- The tiles of parts 29 to 31, and on. -/
def grp29 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v9 : BitVec 32) (v1022 : BitVec 32) (k : BitVec 32 → Prog (TpuEff nD τ sig (Elt F) Λ₀ .tc) PUnit) : Prog (TpuEff nD τ sig (Elt F) Λ₀ .tc) PUnit := do
  let v1059 : FVec F S128x128 .bf16 ← k0_part29 i arg1 harg1 arg2 harg2 arg3 harg3 arg4 harg4 arg5 harg5 arg6 harg6 arg7 harg7 arg8 harg8 arg9 harg9 arg10 harg10 arg11 harg11 arg12 harg12 arg13 v9 v1022
  let ⟨v1095, v1096⟩ : Σ' (v1095 : FVec F S128x128 .bf16), Vec F S128x128 .bf16 ← k0_part30 i arg1 harg1 arg2 harg2 arg3 harg3 arg4 harg4 arg5 harg5 arg6 harg6 arg7 harg7 arg8 harg8 arg9 harg9 arg10 harg10 arg11 harg11 arg12 harg12 arg13 v9 v1059
  let v1132 : BitVec 32 ← k0_part31 i arg1 harg1 arg2 harg2 arg3 harg3 arg4 harg4 arg5 harg5 arg6 harg6 arg7 harg7 arg8 harg8 arg9 harg9 arg10 harg10 arg11 harg11 arg12 harg12 arg13 v9 v1095 v1096
  k v1132

set_option maxHeartbeats 2000000 in
/-- The gate weights' tiles of parts 29 to 31. -/
noncomputable def run29 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x0 : Vec F S28x148 .f32) (x3 : Vec F S3584x512 .fp8e4m3) :
    { T : List (View.Piece (Elt F) S3584x512 .bf16) //
      ∀ (E : Set ℕ) (f : Buf (Elt F) (arg11.view.loc (c : Thread nD τ))) (R : sProp 𝕄)  (v9 : BitVec 32) (v1022 : BitVec 32) (k : BitVec 32 → Prog (TpuEff nD τ sig (Elt F) Λ₀ .tc) PUnit) (K : PUnit → sProp 𝕄)
        (hk : ∀ o, iprop(owns (c : Thread nD τ) arg1 fullShare x0 ∗ owns (c : Thread nD τ) arg4 fullShare x3 ∗ (arg11.view.loc (c : Thread nD τ) ↦[arg11.view.set]{fullShare} arg11.view.writes (Elt F) f T) ∗ R) ⊢ wp frame (wpE (defs₀ (F := F)) Variants.none c none) E (k o) K),
      iprop(owns (c : Thread nD τ) arg1 fullShare x0 ∗ owns (c : Thread nD τ) arg4 fullShare x3 ∗ (arg11.view.loc (c : Thread nD τ) ↦[arg11.view.set]{fullShare} f) ∗ R) ⊢ wp frame (wpE (defs₀ (F := F)) Variants.none c none) E (grp29 i arg1 harg1 arg2 harg2 arg3 harg3 arg4 harg4 arg5 harg5 arg6 harg6 arg7 harg7 arg8 harg8 arg9 harg9 arg10 harg10 arg11 harg11 arg12 harg12 arg13 v9 v1022 k) K } := by
  refine ⟨?_, fun E f R v9 v1022 k K hk => ?run⟩
  case run =>
    unfold grp29
    simp only [k0_part29_eq_skeleton, k0_part30_eq_skeleton, k0_part31_eq_skeleton]
    unfold k0_part29_skel k0_part30_skel k0_part31_skel
    unfold owns
    iintro ⟨⟨%f0, %hf0, H0⟩, ⟨%f3, %hf3, H3⟩, Ht0, HR⟩
    obtain rfl := harg1.eq_unread hf0; obtain rfl := harg4.eq_unread hf3
    sl_exec
    dsimp only
    iapply hk
    isplitl [H0]
    · iapply (owns_unread c harg1 x0); iexact H0
    isplitl [H3]
    · iapply (owns_unread c harg4 x3); iexact H3
    isplitl [Ht0]
    · iexact Ht0
    iexact HR

/-- The tiles of parts 32 to 34, and on. -/
def grp32 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v9 : BitVec 32) (v1132 : BitVec 32) (arg0 : BitVec 32) (k : BitVec 32 → BitVec 32 → Prog (TpuEff nD τ sig (Elt F) Λ₀ .tc) PUnit) : Prog (TpuEff nD τ sig (Elt F) Λ₀ .tc) PUnit := do
  let v1169 : FVec F S128x128 .bf16 ← k0_part32 i arg1 harg1 arg2 harg2 arg3 harg3 arg4 harg4 arg5 harg5 arg6 harg6 arg7 harg7 arg8 harg8 arg9 harg9 arg10 harg10 arg11 harg11 arg12 harg12 arg13 v9 v1132
  let ⟨v1205, v1206⟩ : Σ' (v1205 : FVec F S128x128 .bf16), Vec F S128x128 .bf16 ← k0_part33 i arg1 harg1 arg2 harg2 arg3 harg3 arg4 harg4 arg5 harg5 arg6 harg6 arg7 harg7 arg8 harg8 arg9 harg9 arg10 harg10 arg11 harg11 arg12 harg12 arg13 v9 v1169
  let ⟨v1242, c0_i32_619⟩ : Σ' (v1242 : BitVec 32), BitVec 32 ← k0_part34 i arg1 harg1 arg2 harg2 arg3 harg3 arg4 harg4 arg5 harg5 arg6 harg6 arg7 harg7 arg8 harg8 arg9 harg9 arg10 harg10 arg11 harg11 arg12 harg12 arg13 arg0 v9 v1205 v1206
  k v1242 c0_i32_619

set_option maxHeartbeats 2000000 in
/-- The gate weights' tiles of parts 32 to 34. -/
noncomputable def run32 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x0 : Vec F S28x148 .f32) (x3 : Vec F S3584x512 .fp8e4m3) :
    { T : List (View.Piece (Elt F) S3584x512 .bf16) //
      ∀ (E : Set ℕ) (f : Buf (Elt F) (arg11.view.loc (c : Thread nD τ))) (R : sProp 𝕄)  (v9 : BitVec 32) (v1132 : BitVec 32) (arg0 : BitVec 32) (k : BitVec 32 → BitVec 32 → Prog (TpuEff nD τ sig (Elt F) Λ₀ .tc) PUnit) (K : PUnit → sProp 𝕄)
        (hk : ∀ o o2, iprop(owns (c : Thread nD τ) arg1 fullShare x0 ∗ owns (c : Thread nD τ) arg4 fullShare x3 ∗ (arg11.view.loc (c : Thread nD τ) ↦[arg11.view.set]{fullShare} arg11.view.writes (Elt F) f T) ∗ R) ⊢ wp frame (wpE (defs₀ (F := F)) Variants.none c none) E (k o o2) K),
      iprop(owns (c : Thread nD τ) arg1 fullShare x0 ∗ owns (c : Thread nD τ) arg4 fullShare x3 ∗ (arg11.view.loc (c : Thread nD τ) ↦[arg11.view.set]{fullShare} f) ∗ R) ⊢ wp frame (wpE (defs₀ (F := F)) Variants.none c none) E (grp32 i arg1 harg1 arg2 harg2 arg3 harg3 arg4 harg4 arg5 harg5 arg6 harg6 arg7 harg7 arg8 harg8 arg9 harg9 arg10 harg10 arg11 harg11 arg12 harg12 arg13 v9 v1132 arg0 k) K } := by
  refine ⟨?_, fun E f R v9 v1132 arg0 k K hk => ?run⟩
  case run =>
    unfold grp32
    simp only [k0_part32_eq_skeleton, k0_part33_eq_skeleton, k0_part34_eq_skeleton]
    unfold k0_part32_skel k0_part33_skel k0_part34_skel
    unfold owns
    iintro ⟨⟨%f0, %hf0, H0⟩, ⟨%f3, %hf3, H3⟩, Ht0, HR⟩
    obtain rfl := harg1.eq_unread hf0; obtain rfl := harg4.eq_unread hf3
    sl_exec
    dsimp only
    iapply hk
    isplitl [H0]
    · iapply (owns_unread c harg1 x0); iexact H0
    isplitl [H3]
    · iapply (owns_unread c harg4 x3); iexact H3
    isplitl [Ht0]
    · iexact Ht0
    iexact HR

end Cert.KernelIdeal.Hand

end
-- ==== Proof.Tiles4.lean ====
/-
  A group of the weights' tiles, run.
-/
module

public import proofs.«01_k».proof.Proof.Values

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The tiles of parts 35 to 37, and on. -/
def grp35 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v1242 : BitVec 32) (c0_i32_619 : BitVec 32) (k : BitVec 32 → Prog (TpuEff nD τ sig (Elt F) Λ₀ .tc) PUnit) : Prog (TpuEff nD τ sig (Elt F) Λ₀ .tc) PUnit := do
  let v1280 : FVec F S128x128 .bf16 ← k0_part35 i arg1 harg1 arg2 harg2 arg3 harg3 arg4 harg4 arg5 harg5 arg6 harg6 arg7 harg7 arg8 harg8 arg9 harg9 arg10 harg10 arg11 harg11 arg12 harg12 arg13 v1242 c0_i32_619
  let v1316 : FVec F S128x128 .bf16 ← k0_part36 i arg1 harg1 arg2 harg2 arg3 harg3 arg4 harg4 arg5 harg5 arg6 harg6 arg7 harg7 arg8 harg8 arg9 harg9 arg10 harg10 arg11 harg11 arg12 harg12 arg13 v1242 v1280
  let c2_i32_679 : BitVec 32 ← k0_part37 i arg1 harg1 arg2 harg2 arg3 harg3 arg4 harg4 arg5 harg5 arg6 harg6 arg7 harg7 arg8 harg8 arg9 harg9 arg10 harg10 arg11 harg11 arg12 harg12 arg13 v1242 v1316
  k c2_i32_679

set_option maxHeartbeats 2000000 in
/-- The up weights' tiles of parts 35 to 37. -/
noncomputable def run35 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x1 : Vec F S28x148 .f32) (x4 : Vec F S3584x512 .fp8e4m3) :
    { T : List (View.Piece (Elt F) S3584x512 .bf16) //
      ∀ (E : Set ℕ) (f : Buf (Elt F) (arg12.view.loc (c : Thread nD τ))) (R : sProp 𝕄)  (v1242 : BitVec 32) (c0_i32_619 : BitVec 32) (k : BitVec 32 → Prog (TpuEff nD τ sig (Elt F) Λ₀ .tc) PUnit) (K : PUnit → sProp 𝕄)
        (hk : ∀ o, iprop(owns (c : Thread nD τ) arg2 fullShare x1 ∗ owns (c : Thread nD τ) arg5 fullShare x4 ∗ (arg12.view.loc (c : Thread nD τ) ↦[arg12.view.set]{fullShare} arg12.view.writes (Elt F) f T) ∗ R) ⊢ wp frame (wpE (defs₀ (F := F)) Variants.none c none) E (k o) K),
      iprop(owns (c : Thread nD τ) arg2 fullShare x1 ∗ owns (c : Thread nD τ) arg5 fullShare x4 ∗ (arg12.view.loc (c : Thread nD τ) ↦[arg12.view.set]{fullShare} f) ∗ R) ⊢ wp frame (wpE (defs₀ (F := F)) Variants.none c none) E (grp35 i arg1 harg1 arg2 harg2 arg3 harg3 arg4 harg4 arg5 harg5 arg6 harg6 arg7 harg7 arg8 harg8 arg9 harg9 arg10 harg10 arg11 harg11 arg12 harg12 arg13 v1242 c0_i32_619 k) K } := by
  refine ⟨?_, fun E f R v1242 c0_i32_619 k K hk => ?run⟩
  case run =>
    unfold grp35
    simp only [k0_part35_eq_skeleton, k0_part36_eq_skeleton, k0_part37_eq_skeleton]
    unfold k0_part35_skel k0_part36_skel k0_part37_skel
    unfold owns
    iintro ⟨⟨%f0, %hf0, H0⟩, ⟨%f3, %hf3, H3⟩, Ht0, HR⟩
    obtain rfl := harg2.eq_unread hf0; obtain rfl := harg5.eq_unread hf3
    sl_exec
    dsimp only
    iapply hk
    isplitl [H0]
    · iapply (owns_unread c harg2 x1); iexact H0
    isplitl [H3]
    · iapply (owns_unread c harg5 x4); iexact H3
    isplitl [Ht0]
    · iexact Ht0
    iexact HR

/-- The tiles of parts 38 to 40, and on. -/
def grp38 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v1242 : BitVec 32) (c2_i32_679 : BitVec 32) (k : BitVec 32 → Prog (TpuEff nD τ sig (Elt F) Λ₀ .tc) PUnit) : Prog (TpuEff nD τ sig (Elt F) Λ₀ .tc) PUnit := do
  let v1390 : FVec F S128x128 .bf16 ← k0_part38 i arg1 harg1 arg2 harg2 arg3 harg3 arg4 harg4 arg5 harg5 arg6 harg6 arg7 harg7 arg8 harg8 arg9 harg9 arg10 harg10 arg11 harg11 arg12 harg12 arg13 v1242 c2_i32_679
  let v1426 : FVec F S128x128 .bf16 ← k0_part39 i arg1 harg1 arg2 harg2 arg3 harg3 arg4 harg4 arg5 harg5 arg6 harg6 arg7 harg7 arg8 harg8 arg9 harg9 arg10 harg10 arg11 harg11 arg12 harg12 arg13 v1242 v1390
  let c0_i32_739 : BitVec 32 ← k0_part40 i arg1 harg1 arg2 harg2 arg3 harg3 arg4 harg4 arg5 harg5 arg6 harg6 arg7 harg7 arg8 harg8 arg9 harg9 arg10 harg10 arg11 harg11 arg12 harg12 arg13 v1242 v1426
  k c0_i32_739

set_option maxHeartbeats 2000000 in
/-- The up weights' tiles of parts 38 to 40. -/
noncomputable def run38 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x1 : Vec F S28x148 .f32) (x4 : Vec F S3584x512 .fp8e4m3) :
    { T : List (View.Piece (Elt F) S3584x512 .bf16) //
      ∀ (E : Set ℕ) (f : Buf (Elt F) (arg12.view.loc (c : Thread nD τ))) (R : sProp 𝕄)  (v1242 : BitVec 32) (c2_i32_679 : BitVec 32) (k : BitVec 32 → Prog (TpuEff nD τ sig (Elt F) Λ₀ .tc) PUnit) (K : PUnit → sProp 𝕄)
        (hk : ∀ o, iprop(owns (c : Thread nD τ) arg2 fullShare x1 ∗ owns (c : Thread nD τ) arg5 fullShare x4 ∗ (arg12.view.loc (c : Thread nD τ) ↦[arg12.view.set]{fullShare} arg12.view.writes (Elt F) f T) ∗ R) ⊢ wp frame (wpE (defs₀ (F := F)) Variants.none c none) E (k o) K),
      iprop(owns (c : Thread nD τ) arg2 fullShare x1 ∗ owns (c : Thread nD τ) arg5 fullShare x4 ∗ (arg12.view.loc (c : Thread nD τ) ↦[arg12.view.set]{fullShare} f) ∗ R) ⊢ wp frame (wpE (defs₀ (F := F)) Variants.none c none) E (grp38 i arg1 harg1 arg2 harg2 arg3 harg3 arg4 harg4 arg5 harg5 arg6 harg6 arg7 harg7 arg8 harg8 arg9 harg9 arg10 harg10 arg11 harg11 arg12 harg12 arg13 v1242 c2_i32_679 k) K } := by
  refine ⟨?_, fun E f R v1242 c2_i32_679 k K hk => ?run⟩
  case run =>
    unfold grp38
    simp only [k0_part38_eq_skeleton, k0_part39_eq_skeleton, k0_part40_eq_skeleton]
    unfold k0_part38_skel k0_part39_skel k0_part40_skel
    unfold owns
    iintro ⟨⟨%f0, %hf0, H0⟩, ⟨%f3, %hf3, H3⟩, Ht0, HR⟩
    obtain rfl := harg2.eq_unread hf0; obtain rfl := harg5.eq_unread hf3
    sl_exec
    dsimp only
    iapply hk
    isplitl [H0]
    · iapply (owns_unread c harg2 x1); iexact H0
    isplitl [H3]
    · iapply (owns_unread c harg5 x4); iexact H3
    isplitl [Ht0]
    · iexact Ht0
    iexact HR

/-- The tiles of parts 41 to 43, and on. -/
def grp41 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v1242 : BitVec 32) (c0_i32_739 : BitVec 32) (k : BitVec 32 → Prog (TpuEff nD τ sig (Elt F) Λ₀ .tc) PUnit) : Prog (TpuEff nD τ sig (Elt F) Λ₀ .tc) PUnit := do
  let v1500 : FVec F S128x128 .bf16 ← k0_part41 i arg1 harg1 arg2 harg2 arg3 harg3 arg4 harg4 arg5 harg5 arg6 harg6 arg7 harg7 arg8 harg8 arg9 harg9 arg10 harg10 arg11 harg11 arg12 harg12 arg13 v1242 c0_i32_739
  let v1536 : FVec F S128x128 .bf16 ← k0_part42 i arg1 harg1 arg2 harg2 arg3 harg3 arg4 harg4 arg5 harg5 arg6 harg6 arg7 harg7 arg8 harg8 arg9 harg9 arg10 harg10 arg11 harg11 arg12 harg12 arg13 v1242 v1500
  let c2_i32_799 : BitVec 32 ← k0_part43 i arg1 harg1 arg2 harg2 arg3 harg3 arg4 harg4 arg5 harg5 arg6 harg6 arg7 harg7 arg8 harg8 arg9 harg9 arg10 harg10 arg11 harg11 arg12 harg12 arg13 v1242 v1536
  k c2_i32_799

set_option maxHeartbeats 2000000 in
/-- The up weights' tiles of parts 41 to 43. -/
noncomputable def run41 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x1 : Vec F S28x148 .f32) (x4 : Vec F S3584x512 .fp8e4m3) :
    { T : List (View.Piece (Elt F) S3584x512 .bf16) //
      ∀ (E : Set ℕ) (f : Buf (Elt F) (arg12.view.loc (c : Thread nD τ))) (R : sProp 𝕄)  (v1242 : BitVec 32) (c0_i32_739 : BitVec 32) (k : BitVec 32 → Prog (TpuEff nD τ sig (Elt F) Λ₀ .tc) PUnit) (K : PUnit → sProp 𝕄)
        (hk : ∀ o, iprop(owns (c : Thread nD τ) arg2 fullShare x1 ∗ owns (c : Thread nD τ) arg5 fullShare x4 ∗ (arg12.view.loc (c : Thread nD τ) ↦[arg12.view.set]{fullShare} arg12.view.writes (Elt F) f T) ∗ R) ⊢ wp frame (wpE (defs₀ (F := F)) Variants.none c none) E (k o) K),
      iprop(owns (c : Thread nD τ) arg2 fullShare x1 ∗ owns (c : Thread nD τ) arg5 fullShare x4 ∗ (arg12.view.loc (c : Thread nD τ) ↦[arg12.view.set]{fullShare} f) ∗ R) ⊢ wp frame (wpE (defs₀ (F := F)) Variants.none c none) E (grp41 i arg1 harg1 arg2 harg2 arg3 harg3 arg4 harg4 arg5 harg5 arg6 harg6 arg7 harg7 arg8 harg8 arg9 harg9 arg10 harg10 arg11 harg11 arg12 harg12 arg13 v1242 c0_i32_739 k) K } := by
  refine ⟨?_, fun E f R v1242 c0_i32_739 k K hk => ?run⟩
  case run =>
    unfold grp41
    simp only [k0_part41_eq_skeleton, k0_part42_eq_skeleton, k0_part43_eq_skeleton]
    unfold k0_part41_skel k0_part42_skel k0_part43_skel
    unfold owns
    iintro ⟨⟨%f0, %hf0, H0⟩, ⟨%f3, %hf3, H3⟩, Ht0, HR⟩
    obtain rfl := harg2.eq_unread hf0; obtain rfl := harg5.eq_unread hf3
    sl_exec
    dsimp only
    iapply hk
    isplitl [H0]
    · iapply (owns_unread c harg2 x1); iexact H0
    isplitl [H3]
    · iapply (owns_unread c harg5 x4); iexact H3
    isplitl [Ht0]
    · iexact Ht0
    iexact HR

end Cert.KernelIdeal.Hand

end
-- ==== Proof.Tiles5.lean ====
/-
  A group of the weights' tiles, run.
-/
module

public import proofs.«01_k».proof.Proof.Values

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The tiles of parts 44 to 46, and on. -/
def grp44 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v1242 : BitVec 32) (c2_i32_799 : BitVec 32) (k : BitVec 32 → Prog (TpuEff nD τ sig (Elt F) Λ₀ .tc) PUnit) : Prog (TpuEff nD τ sig (Elt F) Λ₀ .tc) PUnit := do
  let v1610 : FVec F S128x128 .bf16 ← k0_part44 i arg1 harg1 arg2 harg2 arg3 harg3 arg4 harg4 arg5 harg5 arg6 harg6 arg7 harg7 arg8 harg8 arg9 harg9 arg10 harg10 arg11 harg11 arg12 harg12 arg13 v1242 c2_i32_799
  let v1646 : FVec F S128x128 .bf16 ← k0_part45 i arg1 harg1 arg2 harg2 arg3 harg3 arg4 harg4 arg5 harg5 arg6 harg6 arg7 harg7 arg8 harg8 arg9 harg9 arg10 harg10 arg11 harg11 arg12 harg12 arg13 v1242 v1610
  let c0_i32_859 : BitVec 32 ← k0_part46 i arg1 harg1 arg2 harg2 arg3 harg3 arg4 harg4 arg5 harg5 arg6 harg6 arg7 harg7 arg8 harg8 arg9 harg9 arg10 harg10 arg11 harg11 arg12 harg12 arg13 v1242 v1646
  k c0_i32_859

set_option maxHeartbeats 2000000 in
/-- The up weights' tiles of parts 44 to 46. -/
noncomputable def run44 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x1 : Vec F S28x148 .f32) (x4 : Vec F S3584x512 .fp8e4m3) :
    { T : List (View.Piece (Elt F) S3584x512 .bf16) //
      ∀ (E : Set ℕ) (f : Buf (Elt F) (arg12.view.loc (c : Thread nD τ))) (R : sProp 𝕄)  (v1242 : BitVec 32) (c2_i32_799 : BitVec 32) (k : BitVec 32 → Prog (TpuEff nD τ sig (Elt F) Λ₀ .tc) PUnit) (K : PUnit → sProp 𝕄)
        (hk : ∀ o, iprop(owns (c : Thread nD τ) arg2 fullShare x1 ∗ owns (c : Thread nD τ) arg5 fullShare x4 ∗ (arg12.view.loc (c : Thread nD τ) ↦[arg12.view.set]{fullShare} arg12.view.writes (Elt F) f T) ∗ R) ⊢ wp frame (wpE (defs₀ (F := F)) Variants.none c none) E (k o) K),
      iprop(owns (c : Thread nD τ) arg2 fullShare x1 ∗ owns (c : Thread nD τ) arg5 fullShare x4 ∗ (arg12.view.loc (c : Thread nD τ) ↦[arg12.view.set]{fullShare} f) ∗ R) ⊢ wp frame (wpE (defs₀ (F := F)) Variants.none c none) E (grp44 i arg1 harg1 arg2 harg2 arg3 harg3 arg4 harg4 arg5 harg5 arg6 harg6 arg7 harg7 arg8 harg8 arg9 harg9 arg10 harg10 arg11 harg11 arg12 harg12 arg13 v1242 c2_i32_799 k) K } := by
  refine ⟨?_, fun E f R v1242 c2_i32_799 k K hk => ?run⟩
  case run =>
    unfold grp44
    simp only [k0_part44_eq_skeleton, k0_part45_eq_skeleton, k0_part46_eq_skeleton]
    unfold k0_part44_skel k0_part45_skel k0_part46_skel
    unfold owns
    iintro ⟨⟨%f0, %hf0, H0⟩, ⟨%f3, %hf3, H3⟩, Ht0, HR⟩
    obtain rfl := harg2.eq_unread hf0; obtain rfl := harg5.eq_unread hf3
    sl_exec
    dsimp only
    iapply hk
    isplitl [H0]
    · iapply (owns_unread c harg2 x1); iexact H0
    isplitl [H3]
    · iapply (owns_unread c harg5 x4); iexact H3
    isplitl [Ht0]
    · iexact Ht0
    iexact HR

/-- The tiles of parts 47 to 49, and on. -/
def grp47 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v1242 : BitVec 32) (c0_i32_859 : BitVec 32) (k : BitVec 32 → Prog (TpuEff nD τ sig (Elt F) Λ₀ .tc) PUnit) : Prog (TpuEff nD τ sig (Elt F) Λ₀ .tc) PUnit := do
  let v1720 : FVec F S128x128 .bf16 ← k0_part47 i arg1 harg1 arg2 harg2 arg3 harg3 arg4 harg4 arg5 harg5 arg6 harg6 arg7 harg7 arg8 harg8 arg9 harg9 arg10 harg10 arg11 harg11 arg12 harg12 arg13 v1242 c0_i32_859
  let v1756 : FVec F S128x128 .bf16 ← k0_part48 i arg1 harg1 arg2 harg2 arg3 harg3 arg4 harg4 arg5 harg5 arg6 harg6 arg7 harg7 arg8 harg8 arg9 harg9 arg10 harg10 arg11 harg11 arg12 harg12 arg13 v1242 v1720
  let c2_i32_919 : BitVec 32 ← k0_part49 i arg1 harg1 arg2 harg2 arg3 harg3 arg4 harg4 arg5 harg5 arg6 harg6 arg7 harg7 arg8 harg8 arg9 harg9 arg10 harg10 arg11 harg11 arg12 harg12 arg13 v1242 v1756
  k c2_i32_919

set_option maxHeartbeats 2000000 in
/-- The up weights' tiles of parts 47 to 49. -/
noncomputable def run47 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x1 : Vec F S28x148 .f32) (x4 : Vec F S3584x512 .fp8e4m3) :
    { T : List (View.Piece (Elt F) S3584x512 .bf16) //
      ∀ (E : Set ℕ) (f : Buf (Elt F) (arg12.view.loc (c : Thread nD τ))) (R : sProp 𝕄)  (v1242 : BitVec 32) (c0_i32_859 : BitVec 32) (k : BitVec 32 → Prog (TpuEff nD τ sig (Elt F) Λ₀ .tc) PUnit) (K : PUnit → sProp 𝕄)
        (hk : ∀ o, iprop(owns (c : Thread nD τ) arg2 fullShare x1 ∗ owns (c : Thread nD τ) arg5 fullShare x4 ∗ (arg12.view.loc (c : Thread nD τ) ↦[arg12.view.set]{fullShare} arg12.view.writes (Elt F) f T) ∗ R) ⊢ wp frame (wpE (defs₀ (F := F)) Variants.none c none) E (k o) K),
      iprop(owns (c : Thread nD τ) arg2 fullShare x1 ∗ owns (c : Thread nD τ) arg5 fullShare x4 ∗ (arg12.view.loc (c : Thread nD τ) ↦[arg12.view.set]{fullShare} f) ∗ R) ⊢ wp frame (wpE (defs₀ (F := F)) Variants.none c none) E (grp47 i arg1 harg1 arg2 harg2 arg3 harg3 arg4 harg4 arg5 harg5 arg6 harg6 arg7 harg7 arg8 harg8 arg9 harg9 arg10 harg10 arg11 harg11 arg12 harg12 arg13 v1242 c0_i32_859 k) K } := by
  refine ⟨?_, fun E f R v1242 c0_i32_859 k K hk => ?run⟩
  case run =>
    unfold grp47
    simp only [k0_part47_eq_skeleton, k0_part48_eq_skeleton, k0_part49_eq_skeleton]
    unfold k0_part47_skel k0_part48_skel k0_part49_skel
    unfold owns
    iintro ⟨⟨%f0, %hf0, H0⟩, ⟨%f3, %hf3, H3⟩, Ht0, HR⟩
    obtain rfl := harg2.eq_unread hf0; obtain rfl := harg5.eq_unread hf3
    sl_exec
    dsimp only
    iapply hk
    isplitl [H0]
    · iapply (owns_unread c harg2 x1); iexact H0
    isplitl [H3]
    · iapply (owns_unread c harg5 x4); iexact H3
    isplitl [Ht0]
    · iexact Ht0
    iexact HR

/-- The tiles of parts 50 to 52, and on. -/
def grp50 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v1242 : BitVec 32) (c2_i32_919 : BitVec 32) (k : BitVec 32 → Prog (TpuEff nD τ sig (Elt F) Λ₀ .tc) PUnit) : Prog (TpuEff nD τ sig (Elt F) Λ₀ .tc) PUnit := do
  let v1830 : FVec F S128x128 .bf16 ← k0_part50 i arg1 harg1 arg2 harg2 arg3 harg3 arg4 harg4 arg5 harg5 arg6 harg6 arg7 harg7 arg8 harg8 arg9 harg9 arg10 harg10 arg11 harg11 arg12 harg12 arg13 v1242 c2_i32_919
  let v1866 : FVec F S128x128 .bf16 ← k0_part51 i arg1 harg1 arg2 harg2 arg3 harg3 arg4 harg4 arg5 harg5 arg6 harg6 arg7 harg7 arg8 harg8 arg9 harg9 arg10 harg10 arg11 harg11 arg12 harg12 arg13 v1242 v1830
  let c0_i32_979 : BitVec 32 ← k0_part52 i arg1 harg1 arg2 harg2 arg3 harg3 arg4 harg4 arg5 harg5 arg6 harg6 arg7 harg7 arg8 harg8 arg9 harg9 arg10 harg10 arg11 harg11 arg12 harg12 arg13 v1242 v1866
  k c0_i32_979

set_option maxHeartbeats 2000000 in
/-- The up weights' tiles of parts 50 to 52. -/
noncomputable def run50 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x1 : Vec F S28x148 .f32) (x4 : Vec F S3584x512 .fp8e4m3) :
    { T : List (View.Piece (Elt F) S3584x512 .bf16) //
      ∀ (E : Set ℕ) (f : Buf (Elt F) (arg12.view.loc (c : Thread nD τ))) (R : sProp 𝕄)  (v1242 : BitVec 32) (c2_i32_919 : BitVec 32) (k : BitVec 32 → Prog (TpuEff nD τ sig (Elt F) Λ₀ .tc) PUnit) (K : PUnit → sProp 𝕄)
        (hk : ∀ o, iprop(owns (c : Thread nD τ) arg2 fullShare x1 ∗ owns (c : Thread nD τ) arg5 fullShare x4 ∗ (arg12.view.loc (c : Thread nD τ) ↦[arg12.view.set]{fullShare} arg12.view.writes (Elt F) f T) ∗ R) ⊢ wp frame (wpE (defs₀ (F := F)) Variants.none c none) E (k o) K),
      iprop(owns (c : Thread nD τ) arg2 fullShare x1 ∗ owns (c : Thread nD τ) arg5 fullShare x4 ∗ (arg12.view.loc (c : Thread nD τ) ↦[arg12.view.set]{fullShare} f) ∗ R) ⊢ wp frame (wpE (defs₀ (F := F)) Variants.none c none) E (grp50 i arg1 harg1 arg2 harg2 arg3 harg3 arg4 harg4 arg5 harg5 arg6 harg6 arg7 harg7 arg8 harg8 arg9 harg9 arg10 harg10 arg11 harg11 arg12 harg12 arg13 v1242 c2_i32_919 k) K } := by
  refine ⟨?_, fun E f R v1242 c2_i32_919 k K hk => ?run⟩
  case run =>
    unfold grp50
    simp only [k0_part50_eq_skeleton, k0_part51_eq_skeleton, k0_part52_eq_skeleton]
    unfold k0_part50_skel k0_part51_skel k0_part52_skel
    unfold owns
    iintro ⟨⟨%f0, %hf0, H0⟩, ⟨%f3, %hf3, H3⟩, Ht0, HR⟩
    obtain rfl := harg2.eq_unread hf0; obtain rfl := harg5.eq_unread hf3
    sl_exec
    dsimp only
    iapply hk
    isplitl [H0]
    · iapply (owns_unread c harg2 x1); iexact H0
    isplitl [H3]
    · iapply (owns_unread c harg5 x4); iexact H3
    isplitl [Ht0]
    · iexact Ht0
    iexact HR

end Cert.KernelIdeal.Hand

end
-- ==== Proof.Tiles6.lean ====
/-
  A group of the weights' tiles, run.
-/
module

public import proofs.«01_k».proof.Proof.Values

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The tiles of parts 53 to 55, and on. -/
def grp53 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v1242 : BitVec 32) (c0_i32_979 : BitVec 32) (k : BitVec 32 → Prog (TpuEff nD τ sig (Elt F) Λ₀ .tc) PUnit) : Prog (TpuEff nD τ sig (Elt F) Λ₀ .tc) PUnit := do
  let v1940 : FVec F S128x128 .bf16 ← k0_part53 i arg1 harg1 arg2 harg2 arg3 harg3 arg4 harg4 arg5 harg5 arg6 harg6 arg7 harg7 arg8 harg8 arg9 harg9 arg10 harg10 arg11 harg11 arg12 harg12 arg13 v1242 c0_i32_979
  let v1976 : FVec F S128x128 .bf16 ← k0_part54 i arg1 harg1 arg2 harg2 arg3 harg3 arg4 harg4 arg5 harg5 arg6 harg6 arg7 harg7 arg8 harg8 arg9 harg9 arg10 harg10 arg11 harg11 arg12 harg12 arg13 v1242 v1940
  let c2_i32_1039 : BitVec 32 ← k0_part55 i arg1 harg1 arg2 harg2 arg3 harg3 arg4 harg4 arg5 harg5 arg6 harg6 arg7 harg7 arg8 harg8 arg9 harg9 arg10 harg10 arg11 harg11 arg12 harg12 arg13 v1242 v1976
  k c2_i32_1039

set_option maxHeartbeats 2000000 in
/-- The up weights' tiles of parts 53 to 55. -/
noncomputable def run53 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x1 : Vec F S28x148 .f32) (x4 : Vec F S3584x512 .fp8e4m3) :
    { T : List (View.Piece (Elt F) S3584x512 .bf16) //
      ∀ (E : Set ℕ) (f : Buf (Elt F) (arg12.view.loc (c : Thread nD τ))) (R : sProp 𝕄)  (v1242 : BitVec 32) (c0_i32_979 : BitVec 32) (k : BitVec 32 → Prog (TpuEff nD τ sig (Elt F) Λ₀ .tc) PUnit) (K : PUnit → sProp 𝕄)
        (hk : ∀ o, iprop(owns (c : Thread nD τ) arg2 fullShare x1 ∗ owns (c : Thread nD τ) arg5 fullShare x4 ∗ (arg12.view.loc (c : Thread nD τ) ↦[arg12.view.set]{fullShare} arg12.view.writes (Elt F) f T) ∗ R) ⊢ wp frame (wpE (defs₀ (F := F)) Variants.none c none) E (k o) K),
      iprop(owns (c : Thread nD τ) arg2 fullShare x1 ∗ owns (c : Thread nD τ) arg5 fullShare x4 ∗ (arg12.view.loc (c : Thread nD τ) ↦[arg12.view.set]{fullShare} f) ∗ R) ⊢ wp frame (wpE (defs₀ (F := F)) Variants.none c none) E (grp53 i arg1 harg1 arg2 harg2 arg3 harg3 arg4 harg4 arg5 harg5 arg6 harg6 arg7 harg7 arg8 harg8 arg9 harg9 arg10 harg10 arg11 harg11 arg12 harg12 arg13 v1242 c0_i32_979 k) K } := by
  refine ⟨?_, fun E f R v1242 c0_i32_979 k K hk => ?run⟩
  case run =>
    unfold grp53
    simp only [k0_part53_eq_skeleton, k0_part54_eq_skeleton, k0_part55_eq_skeleton]
    unfold k0_part53_skel k0_part54_skel k0_part55_skel
    unfold owns
    iintro ⟨⟨%f0, %hf0, H0⟩, ⟨%f3, %hf3, H3⟩, Ht0, HR⟩
    obtain rfl := harg2.eq_unread hf0; obtain rfl := harg5.eq_unread hf3
    sl_exec
    dsimp only
    iapply hk
    isplitl [H0]
    · iapply (owns_unread c harg2 x1); iexact H0
    isplitl [H3]
    · iapply (owns_unread c harg5 x4); iexact H3
    isplitl [Ht0]
    · iexact Ht0
    iexact HR

/-- The tiles of parts 56 to 58, and on. -/
def grp56 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v1242 : BitVec 32) (c2_i32_1039 : BitVec 32) (k : BitVec 32 → Prog (TpuEff nD τ sig (Elt F) Λ₀ .tc) PUnit) : Prog (TpuEff nD τ sig (Elt F) Λ₀ .tc) PUnit := do
  let v2050 : FVec F S128x128 .bf16 ← k0_part56 i arg1 harg1 arg2 harg2 arg3 harg3 arg4 harg4 arg5 harg5 arg6 harg6 arg7 harg7 arg8 harg8 arg9 harg9 arg10 harg10 arg11 harg11 arg12 harg12 arg13 v1242 c2_i32_1039
  let v2086 : FVec F S128x128 .bf16 ← k0_part57 i arg1 harg1 arg2 harg2 arg3 harg3 arg4 harg4 arg5 harg5 arg6 harg6 arg7 harg7 arg8 harg8 arg9 harg9 arg10 harg10 arg11 harg11 arg12 harg12 arg13 v1242 v2050
  let c0_i32_1099 : BitVec 32 ← k0_part58 i arg1 harg1 arg2 harg2 arg3 harg3 arg4 harg4 arg5 harg5 arg6 harg6 arg7 harg7 arg8 harg8 arg9 harg9 arg10 harg10 arg11 harg11 arg12 harg12 arg13 v1242 v2086
  k c0_i32_1099

set_option maxHeartbeats 2000000 in
/-- The up weights' tiles of parts 56 to 58. -/
noncomputable def run56 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x1 : Vec F S28x148 .f32) (x4 : Vec F S3584x512 .fp8e4m3) :
    { T : List (View.Piece (Elt F) S3584x512 .bf16) //
      ∀ (E : Set ℕ) (f : Buf (Elt F) (arg12.view.loc (c : Thread nD τ))) (R : sProp 𝕄)  (v1242 : BitVec 32) (c2_i32_1039 : BitVec 32) (k : BitVec 32 → Prog (TpuEff nD τ sig (Elt F) Λ₀ .tc) PUnit) (K : PUnit → sProp 𝕄)
        (hk : ∀ o, iprop(owns (c : Thread nD τ) arg2 fullShare x1 ∗ owns (c : Thread nD τ) arg5 fullShare x4 ∗ (arg12.view.loc (c : Thread nD τ) ↦[arg12.view.set]{fullShare} arg12.view.writes (Elt F) f T) ∗ R) ⊢ wp frame (wpE (defs₀ (F := F)) Variants.none c none) E (k o) K),
      iprop(owns (c : Thread nD τ) arg2 fullShare x1 ∗ owns (c : Thread nD τ) arg5 fullShare x4 ∗ (arg12.view.loc (c : Thread nD τ) ↦[arg12.view.set]{fullShare} f) ∗ R) ⊢ wp frame (wpE (defs₀ (F := F)) Variants.none c none) E (grp56 i arg1 harg1 arg2 harg2 arg3 harg3 arg4 harg4 arg5 harg5 arg6 harg6 arg7 harg7 arg8 harg8 arg9 harg9 arg10 harg10 arg11 harg11 arg12 harg12 arg13 v1242 c2_i32_1039 k) K } := by
  refine ⟨?_, fun E f R v1242 c2_i32_1039 k K hk => ?run⟩
  case run =>
    unfold grp56
    simp only [k0_part56_eq_skeleton, k0_part57_eq_skeleton, k0_part58_eq_skeleton]
    unfold k0_part56_skel k0_part57_skel k0_part58_skel
    unfold owns
    iintro ⟨⟨%f0, %hf0, H0⟩, ⟨%f3, %hf3, H3⟩, Ht0, HR⟩
    obtain rfl := harg2.eq_unread hf0; obtain rfl := harg5.eq_unread hf3
    sl_exec
    dsimp only
    iapply hk
    isplitl [H0]
    · iapply (owns_unread c harg2 x1); iexact H0
    isplitl [H3]
    · iapply (owns_unread c harg5 x4); iexact H3
    isplitl [Ht0]
    · iexact Ht0
    iexact HR

/-- The tiles of parts 59 to 61, and on. -/
def grp59 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v1242 : BitVec 32) (c0_i32_1099 : BitVec 32) (k : BitVec 32 → Prog (TpuEff nD τ sig (Elt F) Λ₀ .tc) PUnit) : Prog (TpuEff nD τ sig (Elt F) Λ₀ .tc) PUnit := do
  let v2160 : FVec F S128x128 .bf16 ← k0_part59 i arg1 harg1 arg2 harg2 arg3 harg3 arg4 harg4 arg5 harg5 arg6 harg6 arg7 harg7 arg8 harg8 arg9 harg9 arg10 harg10 arg11 harg11 arg12 harg12 arg13 v1242 c0_i32_1099
  let v2196 : FVec F S128x128 .bf16 ← k0_part60 i arg1 harg1 arg2 harg2 arg3 harg3 arg4 harg4 arg5 harg5 arg6 harg6 arg7 harg7 arg8 harg8 arg9 harg9 arg10 harg10 arg11 harg11 arg12 harg12 arg13 v1242 v2160
  let c2_i32_1159 : BitVec 32 ← k0_part61 i arg1 harg1 arg2 harg2 arg3 harg3 arg4 harg4 arg5 harg5 arg6 harg6 arg7 harg7 arg8 harg8 arg9 harg9 arg10 harg10 arg11 harg11 arg12 harg12 arg13 v1242 v2196
  k c2_i32_1159

set_option maxHeartbeats 2000000 in
/-- The up weights' tiles of parts 59 to 61. -/
noncomputable def run59 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x1 : Vec F S28x148 .f32) (x4 : Vec F S3584x512 .fp8e4m3) :
    { T : List (View.Piece (Elt F) S3584x512 .bf16) //
      ∀ (E : Set ℕ) (f : Buf (Elt F) (arg12.view.loc (c : Thread nD τ))) (R : sProp 𝕄)  (v1242 : BitVec 32) (c0_i32_1099 : BitVec 32) (k : BitVec 32 → Prog (TpuEff nD τ sig (Elt F) Λ₀ .tc) PUnit) (K : PUnit → sProp 𝕄)
        (hk : ∀ o, iprop(owns (c : Thread nD τ) arg2 fullShare x1 ∗ owns (c : Thread nD τ) arg5 fullShare x4 ∗ (arg12.view.loc (c : Thread nD τ) ↦[arg12.view.set]{fullShare} arg12.view.writes (Elt F) f T) ∗ R) ⊢ wp frame (wpE (defs₀ (F := F)) Variants.none c none) E (k o) K),
      iprop(owns (c : Thread nD τ) arg2 fullShare x1 ∗ owns (c : Thread nD τ) arg5 fullShare x4 ∗ (arg12.view.loc (c : Thread nD τ) ↦[arg12.view.set]{fullShare} f) ∗ R) ⊢ wp frame (wpE (defs₀ (F := F)) Variants.none c none) E (grp59 i arg1 harg1 arg2 harg2 arg3 harg3 arg4 harg4 arg5 harg5 arg6 harg6 arg7 harg7 arg8 harg8 arg9 harg9 arg10 harg10 arg11 harg11 arg12 harg12 arg13 v1242 c0_i32_1099 k) K } := by
  refine ⟨?_, fun E f R v1242 c0_i32_1099 k K hk => ?run⟩
  case run =>
    unfold grp59
    simp only [k0_part59_eq_skeleton, k0_part60_eq_skeleton, k0_part61_eq_skeleton]
    unfold k0_part59_skel k0_part60_skel k0_part61_skel
    unfold owns
    iintro ⟨⟨%f0, %hf0, H0⟩, ⟨%f3, %hf3, H3⟩, Ht0, HR⟩
    obtain rfl := harg2.eq_unread hf0; obtain rfl := harg5.eq_unread hf3
    sl_exec
    dsimp only
    iapply hk
    isplitl [H0]
    · iapply (owns_unread c harg2 x1); iexact H0
    isplitl [H3]
    · iapply (owns_unread c harg5 x4); iexact H3
    isplitl [Ht0]
    · iexact Ht0
    iexact HR

end Cert.KernelIdeal.Hand

end
-- ==== Proof.Tiles7.lean ====
/-
  A group of the weights' tiles, run.
-/
module

public import proofs.«01_k».proof.Proof.Values

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The tiles of parts 62 to 64, and on. -/
def grp62 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v1242 : BitVec 32) (c2_i32_1159 : BitVec 32) (k : BitVec 32 → Prog (TpuEff nD τ sig (Elt F) Λ₀ .tc) PUnit) : Prog (TpuEff nD τ sig (Elt F) Λ₀ .tc) PUnit := do
  let v2270 : FVec F S128x128 .bf16 ← k0_part62 i arg1 harg1 arg2 harg2 arg3 harg3 arg4 harg4 arg5 harg5 arg6 harg6 arg7 harg7 arg8 harg8 arg9 harg9 arg10 harg10 arg11 harg11 arg12 harg12 arg13 v1242 c2_i32_1159
  let v2306 : FVec F S128x128 .bf16 ← k0_part63 i arg1 harg1 arg2 harg2 arg3 harg3 arg4 harg4 arg5 harg5 arg6 harg6 arg7 harg7 arg8 harg8 arg9 harg9 arg10 harg10 arg11 harg11 arg12 harg12 arg13 v1242 v2270
  let c0_i32_1219 : BitVec 32 ← k0_part64 i arg1 harg1 arg2 harg2 arg3 harg3 arg4 harg4 arg5 harg5 arg6 harg6 arg7 harg7 arg8 harg8 arg9 harg9 arg10 harg10 arg11 harg11 arg12 harg12 arg13 v1242 v2306
  k c0_i32_1219

set_option maxHeartbeats 2000000 in
/-- The up weights' tiles of parts 62 to 64. -/
noncomputable def run62 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x1 : Vec F S28x148 .f32) (x4 : Vec F S3584x512 .fp8e4m3) :
    { T : List (View.Piece (Elt F) S3584x512 .bf16) //
      ∀ (E : Set ℕ) (f : Buf (Elt F) (arg12.view.loc (c : Thread nD τ))) (R : sProp 𝕄)  (v1242 : BitVec 32) (c2_i32_1159 : BitVec 32) (k : BitVec 32 → Prog (TpuEff nD τ sig (Elt F) Λ₀ .tc) PUnit) (K : PUnit → sProp 𝕄)
        (hk : ∀ o, iprop(owns (c : Thread nD τ) arg2 fullShare x1 ∗ owns (c : Thread nD τ) arg5 fullShare x4 ∗ (arg12.view.loc (c : Thread nD τ) ↦[arg12.view.set]{fullShare} arg12.view.writes (Elt F) f T) ∗ R) ⊢ wp frame (wpE (defs₀ (F := F)) Variants.none c none) E (k o) K),
      iprop(owns (c : Thread nD τ) arg2 fullShare x1 ∗ owns (c : Thread nD τ) arg5 fullShare x4 ∗ (arg12.view.loc (c : Thread nD τ) ↦[arg12.view.set]{fullShare} f) ∗ R) ⊢ wp frame (wpE (defs₀ (F := F)) Variants.none c none) E (grp62 i arg1 harg1 arg2 harg2 arg3 harg3 arg4 harg4 arg5 harg5 arg6 harg6 arg7 harg7 arg8 harg8 arg9 harg9 arg10 harg10 arg11 harg11 arg12 harg12 arg13 v1242 c2_i32_1159 k) K } := by
  refine ⟨?_, fun E f R v1242 c2_i32_1159 k K hk => ?run⟩
  case run =>
    unfold grp62
    simp only [k0_part62_eq_skeleton, k0_part63_eq_skeleton, k0_part64_eq_skeleton]
    unfold k0_part62_skel k0_part63_skel k0_part64_skel
    unfold owns
    iintro ⟨⟨%f0, %hf0, H0⟩, ⟨%f3, %hf3, H3⟩, Ht0, HR⟩
    obtain rfl := harg2.eq_unread hf0; obtain rfl := harg5.eq_unread hf3
    sl_exec
    dsimp only
    iapply hk
    isplitl [H0]
    · iapply (owns_unread c harg2 x1); iexact H0
    isplitl [H3]
    · iapply (owns_unread c harg5 x4); iexact H3
    isplitl [Ht0]
    · iexact Ht0
    iexact HR

/-- The tiles of parts 65 to 67, and on. -/
def grp65 (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (v1242 : BitVec 32) (c0_i32_1219 : BitVec 32) (k : BitVec 32 → Prog (TpuEff nD τ sig (Elt F) Λ₀ .tc) PUnit) : Prog (TpuEff nD τ sig (Elt F) Λ₀ .tc) PUnit := do
  let v2380 : FVec F S128x128 .bf16 ← k0_part65 i arg1 harg1 arg2 harg2 arg3 harg3 arg4 harg4 arg5 harg5 arg6 harg6 arg7 harg7 arg8 harg8 arg9 harg9 arg10 harg10 arg11 harg11 arg12 harg12 arg13 v1242 c0_i32_1219
  let v2416 : FVec F S128x128 .bf16 ← k0_part66 i arg1 harg1 arg2 harg2 arg3 harg3 arg4 harg4 arg5 harg5 arg6 harg6 arg7 harg7 arg8 harg8 arg9 harg9 arg10 harg10 arg11 harg11 arg12 harg12 arg13 v1242 v2380
  let c2_i32_1279 : BitVec 32 ← k0_part67 i arg1 harg1 arg2 harg2 arg3 harg3 arg4 harg4 arg5 harg5 arg6 harg6 arg7 harg7 arg8 harg8 arg9 harg9 arg10 harg10 arg11 harg11 arg12 harg12 arg13 v1242 v2416
  k c2_i32_1279

set_option maxHeartbeats 2000000 in
/-- The up weights' tiles of parts 65 to 67. -/
noncomputable def run65 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x1 : Vec F S28x148 .f32) (x4 : Vec F S3584x512 .fp8e4m3) :
    { T : List (View.Piece (Elt F) S3584x512 .bf16) //
      ∀ (E : Set ℕ) (f : Buf (Elt F) (arg12.view.loc (c : Thread nD τ))) (R : sProp 𝕄)  (v1242 : BitVec 32) (c0_i32_1219 : BitVec 32) (k : BitVec 32 → Prog (TpuEff nD τ sig (Elt F) Λ₀ .tc) PUnit) (K : PUnit → sProp 𝕄)
        (hk : ∀ o, iprop(owns (c : Thread nD τ) arg2 fullShare x1 ∗ owns (c : Thread nD τ) arg5 fullShare x4 ∗ (arg12.view.loc (c : Thread nD τ) ↦[arg12.view.set]{fullShare} arg12.view.writes (Elt F) f T) ∗ R) ⊢ wp frame (wpE (defs₀ (F := F)) Variants.none c none) E (k o) K),
      iprop(owns (c : Thread nD τ) arg2 fullShare x1 ∗ owns (c : Thread nD τ) arg5 fullShare x4 ∗ (arg12.view.loc (c : Thread nD τ) ↦[arg12.view.set]{fullShare} f) ∗ R) ⊢ wp frame (wpE (defs₀ (F := F)) Variants.none c none) E (grp65 i arg1 harg1 arg2 harg2 arg3 harg3 arg4 harg4 arg5 harg5 arg6 harg6 arg7 harg7 arg8 harg8 arg9 harg9 arg10 harg10 arg11 harg11 arg12 harg12 arg13 v1242 c0_i32_1219 k) K } := by
  refine ⟨?_, fun E f R v1242 c0_i32_1219 k K hk => ?run⟩
  case run =>
    unfold grp65
    simp only [k0_part65_eq_skeleton, k0_part66_eq_skeleton, k0_part67_eq_skeleton]
    unfold k0_part65_skel k0_part66_skel k0_part67_skel
    unfold owns
    iintro ⟨⟨%f0, %hf0, H0⟩, ⟨%f3, %hf3, H3⟩, Ht0, HR⟩
    obtain rfl := harg2.eq_unread hf0; obtain rfl := harg5.eq_unread hf3
    sl_exec
    dsimp only
    iapply hk
    isplitl [H0]
    · iapply (owns_unread c harg2 x1); iexact H0
    isplitl [H3]
    · iapply (owns_unread c harg5 x4); iexact H3
    isplitl [Ht0]
    · iexact Ht0
    iexact HR

end Cert.KernelIdeal.Hand

end
-- ==== Proof.Weights.lean ====
/-
  The widening of the weights, run in groups of tiles: each group leaves in its scratch block the tiles it stores, over
  whatever the block held, and the rest goes on.
-/
module

public import proofs.«01_k».proof.Proof.Values
public import proofs.«01_k».proof.Proof.Tiles0
public import proofs.«01_k».proof.Proof.Tiles1
public import proofs.«01_k».proof.Proof.Tiles2
public import proofs.«01_k».proof.Proof.Tiles3
public import proofs.«01_k».proof.Proof.Tiles4
public import proofs.«01_k».proof.Proof.Tiles5
public import proofs.«01_k».proof.Proof.Tiles6
public import proofs.«01_k».proof.Proof.Tiles7

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What a block holds after two runs of stores is what it holds after the stores of both. -/
theorem writes_append {κ : Kind} {sp : Space} {s : Shape} {e : EltTy} (v : View sig κ sp s e) (f : _) (L L' : List (View.Piece (Elt F) s e)) :
    v.writes (Elt F) f (L ++ L') = v.writes (Elt F) (v.writes (Elt F) f L') L := by
  induction L with
  | nil => rfl
  | cons p L ih => exact congrArg (fun g => v.writes (Elt F) g [p]) ih

/-- Seven separate facts, the second three first. -/
theorem shuffle (A B C D E G R : sProp 𝕄) : iprop(A ∗ B ∗ C ∗ D ∗ E ∗ G ∗ R) ⊢ iprop(D ∗ E ∗ G ∗ A ∗ B ∗ C ∗ R) := by
  iintro ⟨HA, HB, HC, HD, HE, HG, HR⟩
  iframe

/-- Every tile of the gate weights, the last stored first. -/
noncomputable def gateTiles (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 : Vec F S28x148 .f32) (x3 : Vec F S3584x512 .fp8e4m3) :
    List (View.Piece (Elt F) S3584x512 .bf16) :=
  (run32 c i arg1 harg1 arg2 harg2 arg3 harg3 arg4 harg4 arg5 harg5 arg6 harg6 arg7 harg7 arg8 harg8 arg9 harg9 arg10 harg10 arg11 harg11 arg12 harg12 arg13 x0 x3).1 ++ ((run29 c i arg1 harg1 arg2 harg2 arg3 harg3 arg4 harg4 arg5 harg5 arg6 harg6 arg7 harg7 arg8 harg8 arg9 harg9 arg10 harg10 arg11 harg11 arg12 harg12 arg13 x0 x3).1 ++ ((run26 c i arg1 harg1 arg2 harg2 arg3 harg3 arg4 harg4 arg5 harg5 arg6 harg6 arg7 harg7 arg8 harg8 arg9 harg9 arg10 harg10 arg11 harg11 arg12 harg12 arg13 x0 x3).1 ++ ((run23 c i arg1 harg1 arg2 harg2 arg3 harg3 arg4 harg4 arg5 harg5 arg6 harg6 arg7 harg7 arg8 harg8 arg9 harg9 arg10 harg10 arg11 harg11 arg12 harg12 arg13 x0 x3).1 ++ ((run20 c i arg1 harg1 arg2 harg2 arg3 harg3 arg4 harg4 arg5 harg5 arg6 harg6 arg7 harg7 arg8 harg8 arg9 harg9 arg10 harg10 arg11 harg11 arg12 harg12 arg13 x0 x3).1 ++ ((run17 c i arg1 harg1 arg2 harg2 arg3 harg3 arg4 harg4 arg5 harg5 arg6 harg6 arg7 harg7 arg8 harg8 arg9 harg9 arg10 harg10 arg11 harg11 arg12 harg12 arg13 x0 x3).1 ++ ((run14 c i arg1 harg1 arg2 harg2 arg3 harg3 arg4 harg4 arg5 harg5 arg6 harg6 arg7 harg7 arg8 harg8 arg9 harg9 arg10 harg10 arg11 harg11 arg12 harg12 arg13 x0 x3).1 ++ ((run11 c i arg1 harg1 arg2 harg2 arg3 harg3 arg4 harg4 arg5 harg5 arg6 harg6 arg7 harg7 arg8 harg8 arg9 harg9 arg10 harg10 arg11 harg11 arg12 harg12 arg13 x0 x3).1 ++ ((run8 c i arg1 harg1 arg2 harg2 arg3 harg3 arg4 harg4 arg5 harg5 arg6 harg6 arg7 harg7 arg8 harg8 arg9 harg9 arg10 harg10 arg11 harg11 arg12 harg12 arg13 x0 x3).1 ++ ((run5 c i arg1 harg1 arg2 harg2 arg3 harg3 arg4 harg4 arg5 harg5 arg6 harg6 arg7 harg7 arg8 harg8 arg9 harg9 arg10 harg10 arg11 harg11 arg12 harg12 arg13 x0 x3).1 ++ ((run2 c i arg1 harg1 arg2 harg2 arg3 harg3 arg4 harg4 arg5 harg5 arg6 harg6 arg7 harg7 arg8 harg8 arg9 harg9 arg10 harg10 arg11 harg11 arg12 harg12 arg13 x0 x3).1 ++ ((run1 c i arg1 harg1 arg2 harg2 arg3 harg3 arg4 harg4 arg5 harg5 arg6 harg6 arg7 harg7 arg8 harg8 arg9 harg9 arg10 harg10 arg11 harg11 arg12 harg12 arg13 x0 x3).1)))))))))))

/-- Every tile of the up weights but the last two, the last stored first. -/
noncomputable def upTiles (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x1 : Vec F S28x148 .f32) (x4 : Vec F S3584x512 .fp8e4m3) :
    List (View.Piece (Elt F) S3584x512 .bf16) :=
  (run65 c i arg1 harg1 arg2 harg2 arg3 harg3 arg4 harg4 arg5 harg5 arg6 harg6 arg7 harg7 arg8 harg8 arg9 harg9 arg10 harg10 arg11 harg11 arg12 harg12 arg13 x1 x4).1 ++ ((run62 c i arg1 harg1 arg2 harg2 arg3 harg3 arg4 harg4 arg5 harg5 arg6 harg6 arg7 harg7 arg8 harg8 arg9 harg9 arg10 harg10 arg11 harg11 arg12 harg12 arg13 x1 x4).1 ++ ((run59 c i arg1 harg1 arg2 harg2 arg3 harg3 arg4 harg4 arg5 harg5 arg6 harg6 arg7 harg7 arg8 harg8 arg9 harg9 arg10 harg10 arg11 harg11 arg12 harg12 arg13 x1 x4).1 ++ ((run56 c i arg1 harg1 arg2 harg2 arg3 harg3 arg4 harg4 arg5 harg5 arg6 harg6 arg7 harg7 arg8 harg8 arg9 harg9 arg10 harg10 arg11 harg11 arg12 harg12 arg13 x1 x4).1 ++ ((run53 c i arg1 harg1 arg2 harg2 arg3 harg3 arg4 harg4 arg5 harg5 arg6 harg6 arg7 harg7 arg8 harg8 arg9 harg9 arg10 harg10 arg11 harg11 arg12 harg12 arg13 x1 x4).1 ++ ((run50 c i arg1 harg1 arg2 harg2 arg3 harg3 arg4 harg4 arg5 harg5 arg6 harg6 arg7 harg7 arg8 harg8 arg9 harg9 arg10 harg10 arg11 harg11 arg12 harg12 arg13 x1 x4).1 ++ ((run47 c i arg1 harg1 arg2 harg2 arg3 harg3 arg4 harg4 arg5 harg5 arg6 harg6 arg7 harg7 arg8 harg8 arg9 harg9 arg10 harg10 arg11 harg11 arg12 harg12 arg13 x1 x4).1 ++ ((run44 c i arg1 harg1 arg2 harg2 arg3 harg3 arg4 harg4 arg5 harg5 arg6 harg6 arg7 harg7 arg8 harg8 arg9 harg9 arg10 harg10 arg11 harg11 arg12 harg12 arg13 x1 x4).1 ++ ((run41 c i arg1 harg1 arg2 harg2 arg3 harg3 arg4 harg4 arg5 harg5 arg6 harg6 arg7 harg7 arg8 harg8 arg9 harg9 arg10 harg10 arg11 harg11 arg12 harg12 arg13 x1 x4).1 ++ ((run38 c i arg1 harg1 arg2 harg2 arg3 harg3 arg4 harg4 arg5 harg5 arg6 harg6 arg7 harg7 arg8 harg8 arg9 harg9 arg10 harg10 arg11 harg11 arg12 harg12 arg13 x1 x4).1 ++ ((run35 c i arg1 harg1 arg2 harg2 arg3 harg3 arg4 harg4 arg5 harg5 arg6 harg6 arg7 harg7 arg8 harg8 arg9 harg9 arg10 harg10 arg11 harg11 arg12 harg12 arg13 x1 x4).1))))))))))

/-- The weights' phase, group after group. -/
def weightsFlat (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (k : BitVec 32 → BitVec 32 → BitVec 32 → Prog (TpuEff nD τ sig (Elt F) Λ₀ .tc) PUnit) : Prog (TpuEff nD τ sig (Elt F) Λ₀ .tc) PUnit :=
  grp1 i arg1 harg1 arg2 harg2 arg3 harg3 arg4 harg4 arg5 harg5 arg6 harg6 arg7 harg7 arg8 harg8 arg9 harg9 arg10 harg10 arg11 harg11 arg12 harg12 arg13 fun arg0 v9 v32 =>
  grp2 i arg1 harg1 arg2 harg2 arg3 harg3 arg4 harg4 arg5 harg5 arg6 harg6 arg7 harg7 arg8 harg8 arg9 harg9 arg10 harg10 arg11 harg11 arg12 harg12 arg13 v9 v32 fun v142 =>
  grp5 i arg1 harg1 arg2 harg2 arg3 harg3 arg4 harg4 arg5 harg5 arg6 harg6 arg7 harg7 arg8 harg8 arg9 harg9 arg10 harg10 arg11 harg11 arg12 harg12 arg13 v9 v142 fun v252 =>
  grp8 i arg1 harg1 arg2 harg2 arg3 harg3 arg4 harg4 arg5 harg5 arg6 harg6 arg7 harg7 arg8 harg8 arg9 harg9 arg10 harg10 arg11 harg11 arg12 harg12 arg13 v9 v252 fun v362 =>
  grp11 i arg1 harg1 arg2 harg2 arg3 harg3 arg4 harg4 arg5 harg5 arg6 harg6 arg7 harg7 arg8 harg8 arg9 harg9 arg10 harg10 arg11 harg11 arg12 harg12 arg13 v9 v362 fun v472 =>
  grp14 i arg1 harg1 arg2 harg2 arg3 harg3 arg4 harg4 arg5 harg5 arg6 harg6 arg7 harg7 arg8 harg8 arg9 harg9 arg10 harg10 arg11 harg11 arg12 harg12 arg13 v9 v472 fun v582 =>
  grp17 i arg1 harg1 arg2 harg2 arg3 harg3 arg4 harg4 arg5 harg5 arg6 harg6 arg7 harg7 arg8 harg8 arg9 harg9 arg10 harg10 arg11 harg11 arg12 harg12 arg13 v9 v582 fun v692 =>
  grp20 i arg1 harg1 arg2 harg2 arg3 harg3 arg4 harg4 arg5 harg5 arg6 harg6 arg7 harg7 arg8 harg8 arg9 harg9 arg10 harg10 arg11 harg11 arg12 harg12 arg13 v9 v692 fun v802 =>
  grp23 i arg1 harg1 arg2 harg2 arg3 harg3 arg4 harg4 arg5 harg5 arg6 harg6 arg7 harg7 arg8 harg8 arg9 harg9 arg10 harg10 arg11 harg11 arg12 harg12 arg13 v9 v802 fun v912 =>
  grp26 i arg1 harg1 arg2 harg2 arg3 harg3 arg4 harg4 arg5 harg5 arg6 harg6 arg7 harg7 arg8 harg8 arg9 harg9 arg10 harg10 arg11 harg11 arg12 harg12 arg13 v9 v912 fun v1022 =>
  grp29 i arg1 harg1 arg2 harg2 arg3 harg3 arg4 harg4 arg5 harg5 arg6 harg6 arg7 harg7 arg8 harg8 arg9 harg9 arg10 harg10 arg11 harg11 arg12 harg12 arg13 v9 v1022 fun v1132 =>
  grp32 i arg1 harg1 arg2 harg2 arg3 harg3 arg4 harg4 arg5 harg5 arg6 harg6 arg7 harg7 arg8 harg8 arg9 harg9 arg10 harg10 arg11 harg11 arg12 harg12 arg13 v9 v1132 arg0 fun v1242 c0_i32_619 =>
  grp35 i arg1 harg1 arg2 harg2 arg3 harg3 arg4 harg4 arg5 harg5 arg6 harg6 arg7 harg7 arg8 harg8 arg9 harg9 arg10 harg10 arg11 harg11 arg12 harg12 arg13 v1242 c0_i32_619 fun c2_i32_679 =>
  grp38 i arg1 harg1 arg2 harg2 arg3 harg3 arg4 harg4 arg5 harg5 arg6 harg6 arg7 harg7 arg8 harg8 arg9 harg9 arg10 harg10 arg11 harg11 arg12 harg12 arg13 v1242 c2_i32_679 fun c0_i32_739 =>
  grp41 i arg1 harg1 arg2 harg2 arg3 harg3 arg4 harg4 arg5 harg5 arg6 harg6 arg7 harg7 arg8 harg8 arg9 harg9 arg10 harg10 arg11 harg11 arg12 harg12 arg13 v1242 c0_i32_739 fun c2_i32_799 =>
  grp44 i arg1 harg1 arg2 harg2 arg3 harg3 arg4 harg4 arg5 harg5 arg6 harg6 arg7 harg7 arg8 harg8 arg9 harg9 arg10 harg10 arg11 harg11 arg12 harg12 arg13 v1242 c2_i32_799 fun c0_i32_859 =>
  grp47 i arg1 harg1 arg2 harg2 arg3 harg3 arg4 harg4 arg5 harg5 arg6 harg6 arg7 harg7 arg8 harg8 arg9 harg9 arg10 harg10 arg11 harg11 arg12 harg12 arg13 v1242 c0_i32_859 fun c2_i32_919 =>
  grp50 i arg1 harg1 arg2 harg2 arg3 harg3 arg4 harg4 arg5 harg5 arg6 harg6 arg7 harg7 arg8 harg8 arg9 harg9 arg10 harg10 arg11 harg11 arg12 harg12 arg13 v1242 c2_i32_919 fun c0_i32_979 =>
  grp53 i arg1 harg1 arg2 harg2 arg3 harg3 arg4 harg4 arg5 harg5 arg6 harg6 arg7 harg7 arg8 harg8 arg9 harg9 arg10 harg10 arg11 harg11 arg12 harg12 arg13 v1242 c0_i32_979 fun c2_i32_1039 =>
  grp56 i arg1 harg1 arg2 harg2 arg3 harg3 arg4 harg4 arg5 harg5 arg6 harg6 arg7 harg7 arg8 harg8 arg9 harg9 arg10 harg10 arg11 harg11 arg12 harg12 arg13 v1242 c2_i32_1039 fun c0_i32_1099 =>
  grp59 i arg1 harg1 arg2 harg2 arg3 harg3 arg4 harg4 arg5 harg5 arg6 harg6 arg7 harg7 arg8 harg8 arg9 harg9 arg10 harg10 arg11 harg11 arg12 harg12 arg13 v1242 c0_i32_1099 fun c2_i32_1159 =>
  grp62 i arg1 harg1 arg2 harg2 arg3 harg3 arg4 harg4 arg5 harg5 arg6 harg6 arg7 harg7 arg8 harg8 arg9 harg9 arg10 harg10 arg11 harg11 arg12 harg12 arg13 v1242 c2_i32_1159 fun c0_i32_1219 =>
  grp65 i arg1 harg1 arg2 harg2 arg3 harg3 arg4 harg4 arg5 harg5 arg6 harg6 arg7 harg7 arg8 harg8 arg9 harg9 arg10 harg10 arg11 harg11 arg12 harg12 arg13 v1242 c0_i32_1219 fun c2_i32_1279 =>
  k arg0 v1242 c2_i32_1279

theorem weights_eq (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (k : BitVec 32 → BitVec 32 → BitVec 32 → Prog (TpuEff nD τ sig (Elt F) Λ₀ .tc) PUnit) :
    weightsProg i arg1 harg1 arg2 harg2 arg3 harg3 arg4 harg4 arg5 harg5 arg6 harg6 arg7 harg7 arg8 harg8 arg9 harg9 arg10 harg10 arg11 harg11 arg12 harg12 arg13 k = weightsFlat i arg1 harg1 arg2 harg2 arg3 harg3 arg4 harg4 arg5 harg5 arg6 harg6 arg7 harg7 arg8 harg8 arg9 harg9 arg10 harg10 arg11 harg11 arg12 harg12 arg13 k := by
  simp only [weightsProg, weights60, weightsFlat, grp1, grp2, grp5, grp8, grp11, grp14, grp17, grp20, grp23, grp26, grp29, grp32, grp35, grp38, grp41, grp44, grp47, grp50, grp53, grp56, grp59, grp62, grp65, bind_assoc, pure_bind]

set_option maxHeartbeats 4000000 in
/-- The weights' phase leaves every tile it stores in the two scratch blocks. -/
theorem weightsRun (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x0 : Vec F S28x148 .f32) (x1 : Vec F S28x148 .f32) (x3 : Vec F S3584x512 .fp8e4m3) (x4 : Vec F S3584x512 .fp8e4m3)
    (E : Set ℕ) (f : Buf (Elt F) (arg11.view.loc (c : Thread nD τ))) (g : Buf (Elt F) (arg12.view.loc (c : Thread nD τ))) (R : sProp 𝕄)
    (k : BitVec 32 → BitVec 32 → BitVec 32 → Prog (TpuEff nD τ sig (Elt F) Λ₀ .tc) PUnit) (K : PUnit → sProp 𝕄)
    (hk : ∀ o o2, iprop(owns (c : Thread nD τ) arg2 fullShare x1 ∗ owns (c : Thread nD τ) arg5 fullShare x4 ∗ (arg12.view.loc (c : Thread nD τ) ↦[arg12.view.set]{fullShare} arg12.view.writes (Elt F) g (upTiles c i arg1 harg1 arg2 harg2 arg3 harg3 arg4 harg4 arg5 harg5 arg6 harg6 arg7 harg7 arg8 harg8 arg9 harg9 arg10 harg10 arg11 harg11 arg12 harg12 arg13 x1 x4))
        ∗ owns (c : Thread nD τ) arg1 fullShare x0 ∗ owns (c : Thread nD τ) arg4 fullShare x3 ∗ (arg11.view.loc (c : Thread nD τ) ↦[arg11.view.set]{fullShare} arg11.view.writes (Elt F) f (gateTiles c i arg1 harg1 arg2 harg2 arg3 harg3 arg4 harg4 arg5 harg5 arg6 harg6 arg7 harg7 arg8 harg8 arg9 harg9 arg10 harg10 arg11 harg11 arg12 harg12 arg13 x0 x3)) ∗ R)
      ⊢ wp frame (wpE (defs₀ (F := F)) Variants.none c none) E (k (BitVec.ofNat 32 (i 0).val) o o2) K) :
    iprop(owns (c : Thread nD τ) arg1 fullShare x0 ∗ owns (c : Thread nD τ) arg4 fullShare x3 ∗ (arg11.view.loc (c : Thread nD τ) ↦[arg11.view.set]{fullShare} f)
        ∗ owns (c : Thread nD τ) arg2 fullShare x1 ∗ owns (c : Thread nD τ) arg5 fullShare x4 ∗ (arg12.view.loc (c : Thread nD τ) ↦[arg12.view.set]{fullShare} g) ∗ R)
      ⊢ wp frame (wpE (defs₀ (F := F)) Variants.none c none) E (weightsProg i arg1 harg1 arg2 harg2 arg3 harg3 arg4 harg4 arg5 harg5 arg6 harg6 arg7 harg7 arg8 harg8 arg9 harg9 arg10 harg10 arg11 harg11 arg12 harg12 arg13 k) K := by
  unfold gateTiles at hk
  unfold upTiles at hk
  simp only [writes_append] at hk
  rw [weights_eq]
  unfold weightsFlat
  refine (run1 c i arg1 harg1 arg2 harg2 arg3 harg3 arg4 harg4 arg5 harg5 arg6 harg6 arg7 harg7 arg8 harg8 arg9 harg9 arg10 harg10 arg11 harg11 arg12 harg12 arg13 x0 x3).2 E _ _ _ K fun o => ?_
  refine (run2 c i arg1 harg1 arg2 harg2 arg3 harg3 arg4 harg4 arg5 harg5 arg6 harg6 arg7 harg7 arg8 harg8 arg9 harg9 arg10 harg10 arg11 harg11 arg12 harg12 arg13 x0 x3).2 E _ _ _ _ _ K fun o => ?_
  refine (run5 c i arg1 harg1 arg2 harg2 arg3 harg3 arg4 harg4 arg5 harg5 arg6 harg6 arg7 harg7 arg8 harg8 arg9 harg9 arg10 harg10 arg11 harg11 arg12 harg12 arg13 x0 x3).2 E _ _ _ _ _ K fun o => ?_
  refine (run8 c i arg1 harg1 arg2 harg2 arg3 harg3 arg4 harg4 arg5 harg5 arg6 harg6 arg7 harg7 arg8 harg8 arg9 harg9 arg10 harg10 arg11 harg11 arg12 harg12 arg13 x0 x3).2 E _ _ _ _ _ K fun o => ?_
  refine (run11 c i arg1 harg1 arg2 harg2 arg3 harg3 arg4 harg4 arg5 harg5 arg6 harg6 arg7 harg7 arg8 harg8 arg9 harg9 arg10 harg10 arg11 harg11 arg12 harg12 arg13 x0 x3).2 E _ _ _ _ _ K fun o => ?_
  refine (run14 c i arg1 harg1 arg2 harg2 arg3 harg3 arg4 harg4 arg5 harg5 arg6 harg6 arg7 harg7 arg8 harg8 arg9 harg9 arg10 harg10 arg11 harg11 arg12 harg12 arg13 x0 x3).2 E _ _ _ _ _ K fun o => ?_
  refine (run17 c i arg1 harg1 arg2 harg2 arg3 harg3 arg4 harg4 arg5 harg5 arg6 harg6 arg7 harg7 arg8 harg8 arg9 harg9 arg10 harg10 arg11 harg11 arg12 harg12 arg13 x0 x3).2 E _ _ _ _ _ K fun o => ?_
  refine (run20 c i arg1 harg1 arg2 harg2 arg3 harg3 arg4 harg4 arg5 harg5 arg6 harg6 arg7 harg7 arg8 harg8 arg9 harg9 arg10 harg10 arg11 harg11 arg12 harg12 arg13 x0 x3).2 E _ _ _ _ _ K fun o => ?_
  refine (run23 c i arg1 harg1 arg2 harg2 arg3 harg3 arg4 harg4 arg5 harg5 arg6 harg6 arg7 harg7 arg8 harg8 arg9 harg9 arg10 harg10 arg11 harg11 arg12 harg12 arg13 x0 x3).2 E _ _ _ _ _ K fun o => ?_
  refine (run26 c i arg1 harg1 arg2 harg2 arg3 harg3 arg4 harg4 arg5 harg5 arg6 harg6 arg7 harg7 arg8 harg8 arg9 harg9 arg10 harg10 arg11 harg11 arg12 harg12 arg13 x0 x3).2 E _ _ _ _ _ K fun o => ?_
  refine (run29 c i arg1 harg1 arg2 harg2 arg3 harg3 arg4 harg4 arg5 harg5 arg6 harg6 arg7 harg7 arg8 harg8 arg9 harg9 arg10 harg10 arg11 harg11 arg12 harg12 arg13 x0 x3).2 E _ _ _ _ _ K fun o => ?_
  refine (run32 c i arg1 harg1 arg2 harg2 arg3 harg3 arg4 harg4 arg5 harg5 arg6 harg6 arg7 harg7 arg8 harg8 arg9 harg9 arg10 harg10 arg11 harg11 arg12 harg12 arg13 x0 x3).2 E _ _ _ _ _ _ K fun o o2 => ?_
  refine (shuffle _ _ _ _ _ _ _).trans ?_
  refine (run35 c i arg1 harg1 arg2 harg2 arg3 harg3 arg4 harg4 arg5 harg5 arg6 harg6 arg7 harg7 arg8 harg8 arg9 harg9 arg10 harg10 arg11 harg11 arg12 harg12 arg13 x1 x4).2 E _ _ _ _ _ K fun o => ?_
  refine (run38 c i arg1 harg1 arg2 harg2 arg3 harg3 arg4 harg4 arg5 harg5 arg6 harg6 arg7 harg7 arg8 harg8 arg9 harg9 arg10 harg10 arg11 harg11 arg12 harg12 arg13 x1 x4).2 E _ _ _ _ _ K fun o => ?_
  refine (run41 c i arg1 harg1 arg2 harg2 arg3 harg3 arg4 harg4 arg5 harg5 arg6 harg6 arg7 harg7 arg8 harg8 arg9 harg9 arg10 harg10 arg11 harg11 arg12 harg12 arg13 x1 x4).2 E _ _ _ _ _ K fun o => ?_
  refine (run44 c i arg1 harg1 arg2 harg2 arg3 harg3 arg4 harg4 arg5 harg5 arg6 harg6 arg7 harg7 arg8 harg8 arg9 harg9 arg10 harg10 arg11 harg11 arg12 harg12 arg13 x1 x4).2 E _ _ _ _ _ K fun o => ?_
  refine (run47 c i arg1 harg1 arg2 harg2 arg3 harg3 arg4 harg4 arg5 harg5 arg6 harg6 arg7 harg7 arg8 harg8 arg9 harg9 arg10 harg10 arg11 harg11 arg12 harg12 arg13 x1 x4).2 E _ _ _ _ _ K fun o => ?_
  refine (run50 c i arg1 harg1 arg2 harg2 arg3 harg3 arg4 harg4 arg5 harg5 arg6 harg6 arg7 harg7 arg8 harg8 arg9 harg9 arg10 harg10 arg11 harg11 arg12 harg12 arg13 x1 x4).2 E _ _ _ _ _ K fun o => ?_
  refine (run53 c i arg1 harg1 arg2 harg2 arg3 harg3 arg4 harg4 arg5 harg5 arg6 harg6 arg7 harg7 arg8 harg8 arg9 harg9 arg10 harg10 arg11 harg11 arg12 harg12 arg13 x1 x4).2 E _ _ _ _ _ K fun o => ?_
  refine (run56 c i arg1 harg1 arg2 harg2 arg3 harg3 arg4 harg4 arg5 harg5 arg6 harg6 arg7 harg7 arg8 harg8 arg9 harg9 arg10 harg10 arg11 harg11 arg12 harg12 arg13 x1 x4).2 E _ _ _ _ _ K fun o => ?_
  refine (run59 c i arg1 harg1 arg2 harg2 arg3 harg3 arg4 harg4 arg5 harg5 arg6 harg6 arg7 harg7 arg8 harg8 arg9 harg9 arg10 harg10 arg11 harg11 arg12 harg12 arg13 x1 x4).2 E _ _ _ _ _ K fun o => ?_
  refine (run62 c i arg1 harg1 arg2 harg2 arg3 harg3 arg4 harg4 arg5 harg5 arg6 harg6 arg7 harg7 arg8 harg8 arg9 harg9 arg10 harg10 arg11 harg11 arg12 harg12 arg13 x1 x4).2 E _ _ _ _ _ K fun o => ?_
  refine (run65 c i arg1 harg1 arg2 harg2 arg3 harg3 arg4 harg4 arg5 harg5 arg6 harg6 arg7 harg7 arg8 harg8 arg9 harg9 arg10 harg10 arg11 harg11 arg12 harg12 arg13 x1 x4).2 E _ _ _ _ _ K fun o => ?_
  exact hk _ _

end Cert.KernelIdeal.Hand

end
-- ==== Proof.Arith.lean ====
/-
  The last two tiles of the second weight block, then the products and the quantiser, run over the two widened blocks:
  what is stored of the two blocks of codes and of the scales.
-/
module

public import proofs.«01_k».proof.Proof.Prog

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The last two tiles. -/
noncomputable def tailRun (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_)
    (x1 : Vec F S28x148 .f32) (x4 : Vec F S3584x512 .fp8e4m3) :
    { T1 : List (View.Piece (Elt F) S3584x512 .bf16) //
      ∀ (E : Set ℕ) (f : Buf (Elt F) (arg12.view.loc (c : Thread nD τ))) (K : PUnit → sProp 𝕄),
      iprop(owns (c : Thread nD τ) arg2 fullShare x1 ∗ owns (c : Thread nD τ) arg5 fullShare x4 ∗ (arg12.view.loc (c : Thread nD τ) ↦[arg12.view.set]{fullShare} f)
        ∗ (iprop(owns (c : Thread nD τ) arg2 fullShare x1 ∗ owns (c : Thread nD τ) arg5 fullShare x4 ∗ (arg12.view.loc (c : Thread nD τ) ↦[arg12.view.set]{fullShare} arg12.view.writes (Elt F) f T1))
            -∗ K ⟨⟩))
      ⊢ wp frame (wpE (defs₀ (F := F)) Variants.none c none) E (tail68 i arg1 harg1 arg2 harg2 arg3 harg3 arg4 harg4 arg5 harg5 arg6 harg6 arg7 harg7 arg8 harg8 arg9 harg9 arg10 harg10 arg11 harg11 arg12 harg12 arg13) K } := by
  refine ⟨?_, fun E f K => ?run⟩
  case run =>
    unfold tail68
    unfold owns
    iintro ⟨⟨%f1, %hf1, H1⟩, ⟨%f4, %hf4, H4⟩, Ht1, Hk⟩
    obtain rfl := harg2.eq_unread hf1; obtain rfl := harg5.eq_unread hf4
    sl_exec
    sl_step
    iapply Hk
    isplitl [H1]
    · iexists _; isplitr
      · ipureintro; exact harg2.read_unread _
      · iexact H1
    isplitl [H4]
    · iexists _; isplitr
      · ipureintro; exact harg5.read_unread _
      · iexact H4
    iexact Ht1

/-- The arithmetic: from the first row chunk's operands on. -/
def arithProg (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (arg0 : BitVec 32) :
    Prog (TpuEff nD τ sig (Elt F) Λ₀ .tc) PUnit := do
  let ⟨v2482, v2484, v2485, v2486, v2488⟩ : Σ' (v2482 : FVec F S384x512 .f32) (v2484 : FVec F S384x148 .f32) (v2485 : IVec S384x148 32) (v2486 : FVec F S384x128 .f32), FVec F S384 .f32 ← loads68 i arg1 harg1 arg2 harg2 arg3 harg3 arg4 harg4 arg5 harg5 arg6 harg6 arg7 harg7 arg8 harg8 arg9 harg9 arg10 harg10 arg11 harg11 arg12 harg12 arg13
  let ⟨v2532, v2534, v2536⟩ : Σ' (v2532 : IVec S384x1 32) (v2534 : IVec S384x1 1), IVec S384x1 32 ← k0_part69 i arg1 harg1 arg2 harg2 arg3 harg3 arg4 harg4 arg5 harg5 arg6 harg6 arg7 harg7 arg8 harg8 arg9 harg9 arg10 harg10 arg11 harg11 arg12 harg12 arg13 v2488
  let ⟨v2565, v2566, v2571, v2577, v2578⟩ : Σ' (v2565 : FVec F S384x148 .f32) (v2566 : FVec F S384x128 .f32) (v2571 : FVec F S384x1 .f32) (v2577 : IVec S384x1 32), IVec S384x1 32 ← k0_part70 i arg1 harg1 arg2 harg2 arg3 harg3 arg4 harg4 arg5 harg5 arg6 harg6 arg7 harg7 arg8 harg8 arg9 harg9 arg10 harg10 arg11 harg11 arg12 harg12 arg13 arg0 v2482 v2484 v2485 v2486 v2532 v2534 v2536
  let ⟨v2619, v2626, cst_1330⟩ : Σ' (v2619 : FVec F S384x1 .f32) (v2626 : FVec F S384x128 .f32), F .f32 ← k0_part71 i arg1 harg1 arg2 harg2 arg3 harg3 arg4 harg4 arg5 harg5 arg6 harg6 arg7 harg7 arg8 harg8 arg9 harg9 arg10 harg10 arg11 harg11 arg12 harg12 arg13 v2566 v2571 v2577 v2578
  let ⟨v2645, v2646, v2651, v2667, v2669, v2670⟩ : Σ' (v2645 : FVec F S384x148 .f32) (v2646 : FVec F S384x128 .f32) (v2651 : FVec F S384x1 .f32) (v2667 : IVec S384x1 32) (v2669 : IVec S384x1 32), FVec F S384x1 .f32 ← k0_part72 i arg1 harg1 arg2 harg2 arg3 harg3 arg4 harg4 arg5 harg5 arg6 harg6 arg7 harg7 arg8 harg8 arg9 harg9 arg10 harg10 arg11 harg11 arg12 harg12 arg13 arg0 v2482 v2485 v2565 v2619 v2626 cst_1330
  let ⟨v2699, v2711, v2716⟩ : Σ' (v2699 : FVec F S384x1 .f32) (v2711 : FVec F S384x128 .fp8e4m3), FVec F S384x128 .bf16 ← k0_part73 i arg1 harg1 arg2 harg2 arg3 harg3 arg4 harg4 arg5 harg5 arg6 harg6 arg7 harg7 arg8 harg8 arg9 harg9 arg10 harg10 arg11 harg11 arg12 harg12 arg13 v2646 v2651 v2667 v2669 v2670
  let ⟨v2725, v2726, v2731, v2762⟩ : Σ' (v2725 : FVec F S384x148 .f32) (v2726 : FVec F S384x128 .f32) (v2731 : FVec F S384x1 .f32), IVec S384x1 32 ← k0_part74 i arg1 harg1 arg2 harg2 arg3 harg3 arg4 harg4 arg5 harg5 arg6 harg6 arg7 harg7 arg8 harg8 arg9 harg9 arg10 harg10 arg11 harg11 arg12 harg12 arg13 arg0 v2482 v2485 v2645 v2699 v2711 v2716
  let v2805 : FVec F S384x148 .f32 ← k0_part75 i arg1 harg1 arg2 harg2 arg3 harg3 arg4 harg4 arg5 harg5 arg6 harg6 arg7 harg7 arg8 harg8 arg9 harg9 arg10 harg10 arg11 harg11 arg12 harg12 arg13 arg0 v2485 v2725 v2726 v2731 v2762
  let ⟨v2814, v2816, v2817, v2818, v2823, v2844, c67108864_i32_1405⟩ : Σ' (v2814 : FVec F S384x512 .f32) (v2816 : FVec F S384x148 .f32) (v2817 : IVec S384x148 32) (v2818 : FVec F S384x128 .f32) (v2823 : FVec F S384x1 .f32) (v2844 : IVec S384x1 32), BitVec 32 ← k0_part76 i arg1 harg1 arg2 harg2 arg3 harg3 arg4 harg4 arg5 harg5 arg6 harg6 arg7 harg7 arg8 harg8 arg9 harg9 arg10 harg10 arg11 harg11 arg12 harg12 arg13 v2805
  let ⟨v2871, v2888⟩ : Σ' (v2871 : FVec F S384x1 .f32), FVec F S384x128 .bf16 ← k0_part77 i arg1 harg1 arg2 harg2 arg3 harg3 arg4 harg4 arg5 harg5 arg6 harg6 arg7 harg7 arg8 harg8 arg9 harg9 arg10 harg10 arg11 harg11 arg12 harg12 arg13 v2818 v2823 v2844 c67108864_i32_1405
  let ⟨v2897, v2898, v2903, v2934, v2936⟩ : Σ' (v2897 : FVec F S384x148 .f32) (v2898 : FVec F S384x128 .f32) (v2903 : FVec F S384x1 .f32) (v2934 : IVec S384x1 32), IVec S384x1 32 ← k0_part78 i arg1 harg1 arg2 harg2 arg3 harg3 arg4 harg4 arg5 harg5 arg6 harg6 arg7 harg7 arg8 harg8 arg9 harg9 arg10 harg10 arg11 harg11 arg12 harg12 arg13 arg0 v2814 v2816 v2817 v2871 v2888
  let ⟨v2977, v2978, v2979⟩ : Σ' (v2977 : FVec F S384x148 .f32) (v2978 : FVec F S384x128 .f32), FVec F S384x128 .f32 ← k0_part79 i arg1 harg1 arg2 harg2 arg3 harg3 arg4 harg4 arg5 harg5 arg6 harg6 arg7 harg7 arg8 harg8 arg9 harg9 arg10 harg10 arg11 harg11 arg12 harg12 arg13 arg0 v2814 v2817 v2897 v2898 v2903 v2934 v2936
  let ⟨v3024, v3026, v3027⟩ : Σ' (v3024 : IVec S384x1 32) (v3026 : IVec S384x1 1), IVec S384x1 32 ← k0_part80 i arg1 harg1 arg2 harg2 arg3 harg3 arg4 harg4 arg5 harg5 arg6 harg6 arg7 harg7 arg8 harg8 arg9 harg9 arg10 harg10 arg11 harg11 arg12 harg12 arg13 v2979
  let ⟨v3057, v3058, v3063, v3069, c536870912_i32_1474⟩ : Σ' (v3057 : FVec F S384x148 .f32) (v3058 : FVec F S384x128 .f32) (v3063 : FVec F S384x1 .f32) (v3069 : IVec S384x1 32), BitVec 32 ← k0_part81 i arg1 harg1 arg2 harg2 arg3 harg3 arg4 harg4 arg5 harg5 arg6 harg6 arg7 harg7 arg8 harg8 arg9 harg9 arg10 harg10 arg11 harg11 arg12 harg12 arg13 arg0 v2814 v2817 v2977 v2978 v3024 v3026 v3027
  let ⟨v3111, v3118⟩ : Σ' (v3111 : FVec F S384x1 .f32), FVec F S384x128 .f32 ← k0_part82 i arg1 harg1 arg2 harg2 arg3 harg3 arg4 harg4 arg5 harg5 arg6 harg6 arg7 harg7 arg8 harg8 arg9 harg9 arg10 harg10 arg11 harg11 arg12 harg12 arg13 v3058 v3063 v3069 c536870912_i32_1474
  let ⟨v3146, v3148, v3149, v3150, v3153, cst_1507⟩ : Σ' (v3146 : FVec F S384x512 .f32) (v3148 : FVec F S384x148 .f32) (v3149 : IVec S384x148 32) (v3150 : FVec F S384x128 .f32) (v3153 : FVec F S384x1 .f32), F .f32 ← k0_part83 i arg1 harg1 arg2 harg2 arg3 harg3 arg4 harg4 arg5 harg5 arg6 harg6 arg7 harg7 arg8 harg8 arg9 harg9 arg10 harg10 arg11 harg11 arg12 harg12 arg13 arg0 v2817 v3057 v3111 v3118
  let ⟨v3196, v3198, v3200, v3201⟩ : Σ' (v3196 : IVec S384x1 32) (v3198 : IVec S384x1 1) (v3200 : IVec S384x1 32), IVec S384x1 32 ← k0_part84 i arg1 harg1 arg2 harg2 arg3 harg3 arg4 harg4 arg5 harg5 arg6 harg6 arg7 harg7 arg8 harg8 arg9 harg9 arg10 harg10 arg11 harg11 arg12 harg12 arg13 v3153 cst_1507
  let ⟨v3229, v3230, v3235, v3241, v3243, v3244⟩ : Σ' (v3229 : FVec F S384x148 .f32) (v3230 : FVec F S384x128 .f32) (v3235 : FVec F S384x1 .f32) (v3241 : IVec S384x1 32) (v3243 : IVec S384x1 32), FVec F S384x1 .f32 ← k0_part85 i arg1 harg1 arg2 harg2 arg3 harg3 arg4 harg4 arg5 harg5 arg6 harg6 arg7 harg7 arg8 harg8 arg9 harg9 arg10 harg10 arg11 harg11 arg12 harg12 arg13 arg0 v3146 v3148 v3149 v3150 v3196 v3198 v3200 v3201
  let ⟨v3283, v3290, cst_1547, v3291⟩ : Σ' (v3283 : FVec F S384x1 .f32) (v3290 : FVec F S384x128 .f32) (cst_1547 : F .f32), FVec F S384x128 .f32 ← k0_part86 i arg1 harg1 arg2 harg2 arg3 harg3 arg4 harg4 arg5 harg5 arg6 harg6 arg7 harg7 arg8 harg8 arg9 harg9 arg10 harg10 arg11 harg11 arg12 harg12 arg13 v3230 v3235 v3241 v3243 v3244
  let ⟨v3309, v3310, v3315, v3336⟩ : Σ' (v3309 : FVec F S384x148 .f32) (v3310 : FVec F S384x128 .f32) (v3315 : FVec F S384x1 .f32), IVec S384x1 32 ← k0_part87 i arg1 harg1 arg2 harg2 arg3 harg3 arg4 harg4 arg5 harg5 arg6 harg6 arg7 harg7 arg8 harg8 arg9 harg9 arg10 harg10 arg11 harg11 arg12 harg12 arg13 arg0 v3146 v3149 v3229 v3283 v3290 cst_1547 v3291
  let ⟨v3363, v3380⟩ : Σ' (v3363 : FVec F S384x1 .f32), FVec F S384x128 .bf16 ← k0_part88 i arg1 harg1 arg2 harg2 arg3 harg3 arg4 harg4 arg5 harg5 arg6 harg6 arg7 harg7 arg8 harg8 arg9 harg9 arg10 harg10 arg11 harg11 arg12 harg12 arg13 v3310 v3315 v3336
  let ⟨v3389, v3390, v3395, v3426, v3427⟩ : Σ' (v3389 : FVec F S384x148 .f32) (v3390 : FVec F S384x128 .f32) (v3395 : FVec F S384x1 .f32) (v3426 : IVec S384x1 32), IVec S384x1 32 ← k0_part89 i arg1 harg1 arg2 harg2 arg3 harg3 arg4 harg4 arg5 harg5 arg6 harg6 arg7 harg7 arg8 harg8 arg9 harg9 arg10 harg10 arg11 harg11 arg12 harg12 arg13 arg0 v3146 v3149 v3309 v3363 v3380
  let v3469 : FVec F S384x148 .f32 ← k0_part90 i arg1 harg1 arg2 harg2 arg3 harg3 arg4 harg4 arg5 harg5 arg6 harg6 arg7 harg7 arg8 harg8 arg9 harg9 arg10 harg10 arg11 harg11 arg12 harg12 arg13 arg0 v3149 v3389 v3390 v3395 v3426 v3427
  let v3470 : Vec F S384x148 .f32 ← Prog.lift (.load arg9 (Rect.unit (s := S1152x148) ![768, 0] S384x148.size inb_S1152x148_S384x148_768_0).toLoadRect (View.loadsAt_vmem h_S384x148))
  Prog.lift (.store arg9 (Rect.unit (s := S1152x148) ![768, 0] S384x148.size inb_S1152x148_S384x148_768_0) v3469 Finset.univ (View.stores_vmem_bits_univ h_S384x148 rfl) (.inl rfl))
  pure ⟨⟩

theorem compute_eq (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (arg0 v1242 c2 : BitVec 32) :
    computeProg (F := F) i arg1 harg1 arg2 harg2 arg3 harg3 arg4 harg4 arg5 harg5 arg6 harg6 arg7 harg7 arg8 harg8 arg9 harg9 arg10 harg10 arg11 harg11 arg12 harg12 arg13 arg0 v1242 c2 = (do tail68 i arg1 harg1 arg2 harg2 arg3 harg3 arg4 harg4 arg5 harg5 arg6 harg6 arg7 harg7 arg8 harg8 arg9 harg9 arg10 harg10 arg11 harg11 arg12 harg12 arg13; arithProg i arg1 harg1 arg2 harg2 arg3 harg3 arg4 harg4 arg5 harg5 arg6 harg6 arg7 harg7 arg8 harg8 arg9 harg9 arg10 harg10 arg11 harg11 arg12 harg12 arg13 arg0) := by
  unfold computeProg arithProg
  rw [part68_split]
  simp only [bind_assoc]

set_option maxHeartbeats 8000000 in
/-- The arithmetic's phase: it reads the activation and the two widened blocks, and leaves the tiles it stored in the two
    blocks of codes, and the scales' rows over what the scales' block held. -/
noncomputable def arithRun (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (arg0 : BitVec 32)
    (x2 : Vec F S1152x3584 .bf16) (x9 : Vec F S1152x148 .f32) (w0 : Vec F S3584x512 .bf16) (w1 : Vec F S3584x512 .bf16) :
    Σ' (L5 : List (View.Piece (Elt F) S1152x512 .fp8e4m3)) (L6 : List (View.Piece (Elt F) S1152x512 .bf16)), { L7 : List (View.Piece (Elt F) S1152x148 .f32) //
      ∀ (E : Set ℕ) (K : PUnit → sProp 𝕄),
      iprop(owns (c : Thread nD τ) arg3 fullShare x2 ∗ (∃ d, owns (c : Thread nD τ) arg7 fullShare d) ∗ (∃ d, owns (c : Thread nD τ) arg8 fullShare d) ∗ owns (c : Thread nD τ) arg9 fullShare x9 ∗ owns (c : Thread nD τ) arg11 fullShare w0 ∗ owns (c : Thread nD τ) arg12 fullShare w1
        ∗ (iprop(owns (c : Thread nD τ) arg3 fullShare x2 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg11 fullShare w0 ∗ owns (c : Thread nD τ) arg12 fullShare w1) -∗ K ⟨⟩))
      ⊢ wp frame (wpE (defs₀ (F := F)) Variants.none c none) E (arithProg i arg1 harg1 arg2 harg2 arg3 harg3 arg4 harg4 arg5 harg5 arg6 harg6 arg7 harg7 arg8 harg8 arg9 harg9 arg10 harg10 arg11 harg11 arg12 harg12 arg13 arg0) K } := by
  refine ⟨?_, ?_, ?_, fun E K => ?run⟩
  case run =>
    simp only [arithProg]
    unfold loads68
    simp only [k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold k0_part69_skel k0_part70_skel k0_part71_skel k0_part72_skel k0_part73_skel k0_part74_skel k0_part75_skel k0_part76_skel k0_part77_skel k0_part78_skel k0_part79_skel k0_part80_skel k0_part81_skel k0_part82_skel k0_part83_skel k0_part84_skel k0_part85_skel k0_part86_skel k0_part87_skel k0_part88_skel k0_part89_skel k0_part90_skel
    unfold owns
    iintro ⟨⟨%f2, %hf2, H2⟩, ⟨%d5, %f5, -, H5⟩, ⟨%d6, %f6, -, H6⟩, ⟨%f7, %hf7, H7⟩, ⟨%ft0, %hft0, Ht0⟩, ⟨%ft1, %hft1, Ht1⟩, Hk⟩
    obtain rfl := harg3.eq_unread hf2; obtain rfl := harg9.eq_unread hf7; obtain rfl := harg11.eq_unread hft0; obtain rfl := harg12.eq_unread hft1
    sl_exec
    sl_step
    iapply Hk
    isplitl [H2]
    · iexists _; isplitr
      · ipureintro; exact harg3.read_unread _
      · iexact H2
    isplitl [H5]
    · iexists _; iexact H5
    isplitl [H6]
    · iexists _; iexact H6
    isplitl [H7]
    · iexists _; iexact H7
    isplitl [Ht0]
    · iexists _; isplitr
      · ipureintro; exact harg11.read_unread _
      · iexact Ht0
    iexists _; isplitr
    · ipureintro; exact harg12.read_unread _
    · iexact Ht1

end Cert.KernelIdeal.Hand

end
-- ==== Proof.ArithVal.lean ====
/-
  What the products and the quantiser store, read off the run: each piece is a block of one function of the operands.
-/
module

public import proofs.«01_k».proof.Proof.Values
public import proofs.«01_k».proof.Proof.Arith
public import Idealize.ShloMosaic.Lib.Pipeline.ReadBack
public import Idealize.ShloMosaic.Lib.WholeRead

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx (ix2 eq_ix2)

/-- The row chunk of a row. -/
def rowC {n : ℕ} (y : (⟨2, ![1152, n]⟩ : Shape).Idx) : Fin 3 := ⟨(y 0).val / 384, by have := (y 0).isLt; change (y 0).val < 1152 at this; omega⟩
/-- The row within its chunk. -/
def rowI {n : ℕ} (y : (⟨2, ![1152, n]⟩ : Shape).Idx) : Fin 384 := ⟨(y 0).val % 384, Nat.mod_lt _ (by decide)⟩
/-- The tile of a lane. -/
def laneC {n : ℕ} (y : (⟨2, ![n, 512]⟩ : Shape).Idx) : Fin 4 := ⟨(y 1).val / 128, by have := (y 1).isLt; change (y 1).val < 512 at this; omega⟩
/-- The lane within its tile. -/
def laneI {n : ℕ} (y : (⟨2, ![n, 512]⟩ : Shape).Idx) : Fin 128 := ⟨(y 1).val % 128, Nat.mod_lt _ (by decide)⟩

/-- The block of codes of one point. -/
def outC (x : Vec F S1152x3584 .bf16) (w0 w1 : Vec F S3584x512 .bf16) : Vec F S1152x512 .fp8e4m3 :=
  fun y => codeT (tile (laneC y) (hBlk (rows (rowC y) x) w0 w1)) (ix2 (rowI y) (laneI y))

/-- The block of codes times their scales of one point. -/
def outQ (x : Vec F S1152x3584 .bf16) (w0 w1 : Vec F S3584x512 .bf16) : Vec F S1152x512 .bf16 :=
  fun y => deqT (tile (laneC y) (hBlk (rows (rowC y) x) w0 w1)) (ix2 (rowI y) (laneI y))

/-- The scales after one point, of the scales before it. -/
def outS (arg0 : BitVec 32) (x : Vec F S1152x3584 .bf16) (w0 w1 : Vec F S3584x512 .bf16) (s : Vec F S1152x148 .f32) : Vec F S1152x148 .f32 :=
  fun y => lanes arg0 (hBlk (rows (rowC y) x) w0 w1) (srows (rowC y) s) (ix2 (rowI y) (y 1))

theorem piece_ok {e : EltTy} (T : Fin 3 → Fin 4 → S384x128.Idx → Elt F e) (a : Fin 3) (b : Fin 4)
    (r c : ℕ) (hr : r = 384 * a.val) (hc : c = 128 * b.val) (inb : ∀ d, (![r, c] : Fin 2 → ℕ) d + S384x128.size d ≤ S1152x512.size d)
    (p : S384x128.Idx → Elt F e) (hp : p = T a b) (z : S384x128.Idx) :
    p z = (fun y : S1152x512.Idx => T (rowC y) (laneC y) (ix2 (rowI y) (laneI y))) ((Rect.unit (s := S1152x512) ![r, c] S384x128.size inb).emb z) := by
  subst hp hr hc
  have h0 := (z 0).isLt; have h1 := (z 1).isLt
  change (z 0).val < 384 at h0; change (z 1).val < 128 at h1
  have e0 : rowC ((Rect.unit (s := S1152x512) ![384 * a.val, 128 * b.val] S384x128.size inb).emb z) = a := by
    apply Fin.ext; show (384 * a.val + 1 * (z 0).val) / 384 = a.val; omega
  have e1 : laneC ((Rect.unit (s := S1152x512) ![384 * a.val, 128 * b.val] S384x128.size inb).emb z) = b := by
    apply Fin.ext; show (128 * b.val + 1 * (z 1).val) / 128 = b.val; omega
  have e2 : rowI ((Rect.unit (s := S1152x512) ![384 * a.val, 128 * b.val] S384x128.size inb).emb z) = z 0 := by
    apply Fin.ext; show (384 * a.val + 1 * (z 0).val) % 384 = (z 0).val; omega
  have e3 : laneI ((Rect.unit (s := S1152x512) ![384 * a.val, 128 * b.val] S384x128.size inb).emb z) = z 1 := by
    apply Fin.ext; show (128 * b.val + 1 * (z 1).val) % 128 = (z 1).val; omega
  show T a b z = T _ _ (ix2 _ _)
  rw [e0, e1, e2, e3]; exact congrArg _ (eq_ix2 z)

theorem piece_okS (T : Fin 3 → S384x148.Idx → Elt F .f32) (a : Fin 3)
    (r : ℕ) (hr : r = 384 * a.val) (inb : ∀ d, (![r, 0] : Fin 2 → ℕ) d + S384x148.size d ≤ S1152x148.size d)
    (p : S384x148.Idx → Elt F .f32) (hp : p = T a) (z : S384x148.Idx) :
    p z = (fun y : S1152x148.Idx => T (rowC y) (ix2 (rowI y) (y 1))) ((Rect.unit (s := S1152x148) ![r, 0] S384x148.size inb).emb z) := by
  subst hp hr
  have h0 := (z 0).isLt; have h1 := (z 1).isLt
  change (z 0).val < 384 at h0; change (z 1).val < 148 at h1
  have e0 : rowC ((Rect.unit (s := S1152x148) ![384 * a.val, 0] S384x148.size inb).emb z) = a := by
    apply Fin.ext; show (384 * a.val + 1 * (z 0).val) / 384 = a.val; omega
  have e2 : rowI ((Rect.unit (s := S1152x148) ![384 * a.val, 0] S384x148.size inb).emb z) = z 0 := by
    apply Fin.ext; show (384 * a.val + 1 * (z 0).val) % 384 = (z 0).val; omega
  have e3 : ((Rect.unit (s := S1152x148) ![384 * a.val, 0] S384x148.size inb).emb z) 1 = z 1 := by
    apply Fin.ext; show 0 + 1 * (z 1).val = (z 1).val; omega
  show T a z = T _ (ix2 _ _)
  rw [e0, e2, e3]; exact congrArg _ (eq_ix2 z)

theorem tile_eq0 (h : FVec F S384x512 .f32) : tile 0 h = extractStridedSlice S384x128 ![0, 0] h slices_S384x512_o0_0_S384x128 := by
  funext z; unfold tile extractStridedSlice; refine congrArg h ?_; funext a; match a with | ⟨0, _⟩ => ext; simp | ⟨1, _⟩ => ext; simp

theorem tile_eq1 (h : FVec F S384x512 .f32) : tile 1 h = extractStridedSlice S384x128 ![0, 128] h slices_S384x512_o0_128_S384x128 := by
  funext z; unfold tile extractStridedSlice; refine congrArg h ?_; funext a; match a with | ⟨0, _⟩ => ext; simp | ⟨1, _⟩ => ext; simp

theorem tile_eq2 (h : FVec F S384x512 .f32) : tile 2 h = extractStridedSlice S384x128 ![0, 256] h slices_S384x512_o0_256_S384x128 := by
  funext z; unfold tile extractStridedSlice; refine congrArg h ?_; funext a; match a with | ⟨0, _⟩ => ext; simp | ⟨1, _⟩ => ext; simp

theorem tile_eq3 (h : FVec F S384x512 .f32) : tile 3 h = extractStridedSlice S384x128 ![0, 384] h slices_S384x512_o0_384_S384x128 := by
  funext z; unfold tile extractStridedSlice; refine congrArg h ?_; funext a; match a with | ⟨0, _⟩ => ext; simp | ⟨1, _⟩ => ext; simp

theorem read3_0 (arg3 : Memref sig .tc .vmem S1152x3584 .bf16) (harg3 : arg3.IsWhole) (x2 : Vec F S1152x3584 .bf16) (inb) :
    View.readAt (Elt F) arg3.view (Rect.unit (s := S1152x3584) ![0, 0] ![384, 3584] inb).toLoadRect (harg3.unread x2) = rows 0 x2 := by
  funext z; rw [harg3.readAt_unread]; unfold rows; refine congrArg x2 ?_; funext d; match d with | ⟨0, _⟩ => ext; simp [Rect.toLoadRect, LoadRect.idx] | ⟨1, _⟩ => ext; simp

theorem read9_0 (arg9 : Memref sig .tc .vmem S1152x148 .f32) (harg9 : arg9.IsWhole) (x9 : Vec F S1152x148 .f32) (inb) :
    View.readAt (Elt F) arg9.view (Rect.unit (s := S1152x148) ![0, 0] ![384, 148] inb).toLoadRect (harg9.unread x9) = srows 0 x9 := by
  funext z; rw [harg9.readAt_unread]; unfold srows; refine congrArg x9 ?_; funext d; match d with | ⟨0, _⟩ => ext; simp | ⟨1, _⟩ => ext; simp

theorem read3_1 (arg3 : Memref sig .tc .vmem S1152x3584 .bf16) (harg3 : arg3.IsWhole) (x2 : Vec F S1152x3584 .bf16) (inb) :
    View.readAt (Elt F) arg3.view (Rect.unit (s := S1152x3584) ![384, 0] ![384, 3584] inb).toLoadRect (harg3.unread x2) = rows 1 x2 := by
  funext z; rw [harg3.readAt_unread]; unfold rows; refine congrArg x2 ?_; funext d; match d with | ⟨0, _⟩ => ext; simp [Rect.toLoadRect, LoadRect.idx] | ⟨1, _⟩ => ext; simp

theorem read9_1 (arg9 : Memref sig .tc .vmem S1152x148 .f32) (harg9 : arg9.IsWhole) (x9 : Vec F S1152x148 .f32) (inb) :
    View.readAt (Elt F) arg9.view (Rect.unit (s := S1152x148) ![384, 0] ![384, 148] inb).toLoadRect (harg9.unread x9) = srows 1 x9 := by
  funext z; rw [harg9.readAt_unread]; unfold srows; refine congrArg x9 ?_; funext d; match d with | ⟨0, _⟩ => ext; simp | ⟨1, _⟩ => ext; simp

theorem read3_2 (arg3 : Memref sig .tc .vmem S1152x3584 .bf16) (harg3 : arg3.IsWhole) (x2 : Vec F S1152x3584 .bf16) (inb) :
    View.readAt (Elt F) arg3.view (Rect.unit (s := S1152x3584) ![768, 0] ![384, 3584] inb).toLoadRect (harg3.unread x2) = rows 2 x2 := by
  funext z; rw [harg3.readAt_unread]; unfold rows; refine congrArg x2 ?_; funext d; match d with | ⟨0, _⟩ => ext; simp [Rect.toLoadRect, LoadRect.idx] | ⟨1, _⟩ => ext; simp

theorem read9_2 (arg9 : Memref sig .tc .vmem S1152x148 .f32) (harg9 : arg9.IsWhole) (x9 : Vec F S1152x148 .f32) (inb) :
    View.readAt (Elt F) arg9.view (Rect.unit (s := S1152x148) ![768, 0] ![384, 148] inb).toLoadRect (harg9.unread x9) = srows 2 x9 := by
  funext z; rw [harg9.readAt_unread]; unfold srows; refine congrArg x9 ?_; funext d; match d with | ⟨0, _⟩ => ext; simp | ⟨1, _⟩ => ext; simp

theorem readW (m : Memref sig .tc .vmem S3584x512 .bf16) (hm : m.IsWhole) (w : Vec F S3584x512 .bf16) (inb) :
    View.readAt (Elt F) m.view (Rect.unit (s := S3584x512) ![0, 0] ![3584, 512] inb).toLoadRect (hm.unread w) = w := by
  funext z; rw [hm.readAt_unread]; refine congrArg w ?_; funext d; match d with | ⟨0, _⟩ => ext; simp | ⟨1, _⟩ => ext; simp

set_option maxHeartbeats 4000000 in
/-- Every piece the run stores is a block of `outC`. -/
theorem arith_codes (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (arg0 : BitVec 32) (x2 : Vec F S1152x3584 .bf16) (x9 : Vec F S1152x148 .f32) (w0 w1 : Vec F S3584x512 .bf16) :
    View.PiecesOf (outC x2 w0 w1) (arithRun c i arg1 harg1 arg2 harg2 arg3 harg3 arg4 harg4 arg5 harg5 arg6 harg6 arg7 harg7 arg8 harg8 arg9 harg9 arg10 harg10 arg11 harg11 arg12 harg12 arg13 arg0 x2 x9 w0 w1).1 := by
  dsimp only [arithRun]
  refine ⟨?_, ?_, ?_, ?_, ?_, ?_, ?_, ?_, ?_, ?_, ?_, ?_, trivial⟩
  · intro z
    refine piece_ok (e := .fp8e4m3) (fun a b => codeT (tile b (hBlk (rows a x2) w0 w1))) 2 3 768 384 rfl rfl inb_S1152x512_S384x128_768_384 _ ?_ z
    dsimp only
    rw [read3_2 arg3 harg3 x2, readW arg11 harg11 w0, readW arg12 harg12 w1, tile_eq3]; rfl
  · intro z
    refine piece_ok (e := .fp8e4m3) (fun a b => codeT (tile b (hBlk (rows a x2) w0 w1))) 2 2 768 256 rfl rfl inb_S1152x512_S384x128_768_256 _ ?_ z
    dsimp only
    rw [read3_2 arg3 harg3 x2, readW arg11 harg11 w0, readW arg12 harg12 w1, tile_eq2]; rfl
  · intro z
    refine piece_ok (e := .fp8e4m3) (fun a b => codeT (tile b (hBlk (rows a x2) w0 w1))) 2 1 768 128 rfl rfl inb_S1152x512_S384x128_768_128 _ ?_ z
    dsimp only
    rw [read3_2 arg3 harg3 x2, readW arg11 harg11 w0, readW arg12 harg12 w1, tile_eq1]; rfl
  · intro z
    refine piece_ok (e := .fp8e4m3) (fun a b => codeT (tile b (hBlk (rows a x2) w0 w1))) 2 0 768 0 rfl rfl inb_S1152x512_S384x128_768_0 _ ?_ z
    dsimp only
    rw [read3_2 arg3 harg3 x2, readW arg11 harg11 w0, readW arg12 harg12 w1, tile_eq0]; rfl
  · intro z
    refine piece_ok (e := .fp8e4m3) (fun a b => codeT (tile b (hBlk (rows a x2) w0 w1))) 1 3 384 384 rfl rfl inb_S1152x512_S384x128_384_384 _ ?_ z
    dsimp only
    rw [read3_1 arg3 harg3 x2, readW arg11 harg11 w0, readW arg12 harg12 w1, tile_eq3]; rfl
  · intro z
    refine piece_ok (e := .fp8e4m3) (fun a b => codeT (tile b (hBlk (rows a x2) w0 w1))) 1 2 384 256 rfl rfl inb_S1152x512_S384x128_384_256 _ ?_ z
    dsimp only
    rw [read3_1 arg3 harg3 x2, readW arg11 harg11 w0, readW arg12 harg12 w1, tile_eq2]; rfl
  · intro z
    refine piece_ok (e := .fp8e4m3) (fun a b => codeT (tile b (hBlk (rows a x2) w0 w1))) 1 1 384 128 rfl rfl inb_S1152x512_S384x128_384_128 _ ?_ z
    dsimp only
    rw [read3_1 arg3 harg3 x2, readW arg11 harg11 w0, readW arg12 harg12 w1, tile_eq1]; rfl
  · intro z
    refine piece_ok (e := .fp8e4m3) (fun a b => codeT (tile b (hBlk (rows a x2) w0 w1))) 1 0 384 0 rfl rfl inb_S1152x512_S384x128_384_0 _ ?_ z
    dsimp only
    rw [read3_1 arg3 harg3 x2, readW arg11 harg11 w0, readW arg12 harg12 w1, tile_eq0]; rfl
  · intro z
    refine piece_ok (e := .fp8e4m3) (fun a b => codeT (tile b (hBlk (rows a x2) w0 w1))) 0 3 0 384 rfl rfl inb_S1152x512_S384x128_0_384 _ ?_ z
    dsimp only
    rw [read3_0 arg3 harg3 x2, readW arg11 harg11 w0, readW arg12 harg12 w1, tile_eq3]; rfl
  · intro z
    refine piece_ok (e := .fp8e4m3) (fun a b => codeT (tile b (hBlk (rows a x2) w0 w1))) 0 2 0 256 rfl rfl inb_S1152x512_S384x128_0_256 _ ?_ z
    dsimp only
    rw [read3_0 arg3 harg3 x2, readW arg11 harg11 w0, readW arg12 harg12 w1, tile_eq2]; rfl
  · intro z
    refine piece_ok (e := .fp8e4m3) (fun a b => codeT (tile b (hBlk (rows a x2) w0 w1))) 0 1 0 128 rfl rfl inb_S1152x512_S384x128_0_128 _ ?_ z
    dsimp only
    rw [read3_0 arg3 harg3 x2, readW arg11 harg11 w0, readW arg12 harg12 w1, tile_eq1]; rfl
  · intro z
    refine piece_ok (e := .fp8e4m3) (fun a b => codeT (tile b (hBlk (rows a x2) w0 w1))) 0 0 0 0 rfl rfl inb_S1152x512_S384x128_0_0 _ ?_ z
    dsimp only
    rw [read3_0 arg3 harg3 x2, readW arg11 harg11 w0, readW arg12 harg12 w1, tile_eq0]; rfl

set_option maxHeartbeats 4000000 in
/-- Every piece the run stores is a block of `outQ`. -/
theorem arith_deq (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (arg0 : BitVec 32) (x2 : Vec F S1152x3584 .bf16) (x9 : Vec F S1152x148 .f32) (w0 w1 : Vec F S3584x512 .bf16) :
    View.PiecesOf (outQ x2 w0 w1) (arithRun c i arg1 harg1 arg2 harg2 arg3 harg3 arg4 harg4 arg5 harg5 arg6 harg6 arg7 harg7 arg8 harg8 arg9 harg9 arg10 harg10 arg11 harg11 arg12 harg12 arg13 arg0 x2 x9 w0 w1).2.1 := by
  dsimp only [arithRun]
  refine ⟨?_, ?_, ?_, ?_, ?_, ?_, ?_, ?_, ?_, ?_, ?_, ?_, trivial⟩
  · intro z
    refine piece_ok (e := .bf16) (fun a b => deqT (tile b (hBlk (rows a x2) w0 w1))) 2 3 768 384 rfl rfl inb_S1152x512_S384x128_768_384 _ ?_ z
    dsimp only
    rw [read3_2 arg3 harg3 x2, readW arg11 harg11 w0, readW arg12 harg12 w1, tile_eq3]; rfl
  · intro z
    refine piece_ok (e := .bf16) (fun a b => deqT (tile b (hBlk (rows a x2) w0 w1))) 2 2 768 256 rfl rfl inb_S1152x512_S384x128_768_256 _ ?_ z
    dsimp only
    rw [read3_2 arg3 harg3 x2, readW arg11 harg11 w0, readW arg12 harg12 w1, tile_eq2]; rfl
  · intro z
    refine piece_ok (e := .bf16) (fun a b => deqT (tile b (hBlk (rows a x2) w0 w1))) 2 1 768 128 rfl rfl inb_S1152x512_S384x128_768_128 _ ?_ z
    dsimp only
    rw [read3_2 arg3 harg3 x2, readW arg11 harg11 w0, readW arg12 harg12 w1, tile_eq1]; rfl
  · intro z
    refine piece_ok (e := .bf16) (fun a b => deqT (tile b (hBlk (rows a x2) w0 w1))) 2 0 768 0 rfl rfl inb_S1152x512_S384x128_768_0 _ ?_ z
    dsimp only
    rw [read3_2 arg3 harg3 x2, readW arg11 harg11 w0, readW arg12 harg12 w1, tile_eq0]; rfl
  · intro z
    refine piece_ok (e := .bf16) (fun a b => deqT (tile b (hBlk (rows a x2) w0 w1))) 1 3 384 384 rfl rfl inb_S1152x512_S384x128_384_384 _ ?_ z
    dsimp only
    rw [read3_1 arg3 harg3 x2, readW arg11 harg11 w0, readW arg12 harg12 w1, tile_eq3]; rfl
  · intro z
    refine piece_ok (e := .bf16) (fun a b => deqT (tile b (hBlk (rows a x2) w0 w1))) 1 2 384 256 rfl rfl inb_S1152x512_S384x128_384_256 _ ?_ z
    dsimp only
    rw [read3_1 arg3 harg3 x2, readW arg11 harg11 w0, readW arg12 harg12 w1, tile_eq2]; rfl
  · intro z
    refine piece_ok (e := .bf16) (fun a b => deqT (tile b (hBlk (rows a x2) w0 w1))) 1 1 384 128 rfl rfl inb_S1152x512_S384x128_384_128 _ ?_ z
    dsimp only
    rw [read3_1 arg3 harg3 x2, readW arg11 harg11 w0, readW arg12 harg12 w1, tile_eq1]; rfl
  · intro z
    refine piece_ok (e := .bf16) (fun a b => deqT (tile b (hBlk (rows a x2) w0 w1))) 1 0 384 0 rfl rfl inb_S1152x512_S384x128_384_0 _ ?_ z
    dsimp only
    rw [read3_1 arg3 harg3 x2, readW arg11 harg11 w0, readW arg12 harg12 w1, tile_eq0]; rfl
  · intro z
    refine piece_ok (e := .bf16) (fun a b => deqT (tile b (hBlk (rows a x2) w0 w1))) 0 3 0 384 rfl rfl inb_S1152x512_S384x128_0_384 _ ?_ z
    dsimp only
    rw [read3_0 arg3 harg3 x2, readW arg11 harg11 w0, readW arg12 harg12 w1, tile_eq3]; rfl
  · intro z
    refine piece_ok (e := .bf16) (fun a b => deqT (tile b (hBlk (rows a x2) w0 w1))) 0 2 0 256 rfl rfl inb_S1152x512_S384x128_0_256 _ ?_ z
    dsimp only
    rw [read3_0 arg3 harg3 x2, readW arg11 harg11 w0, readW arg12 harg12 w1, tile_eq2]; rfl
  · intro z
    refine piece_ok (e := .bf16) (fun a b => deqT (tile b (hBlk (rows a x2) w0 w1))) 0 1 0 128 rfl rfl inb_S1152x512_S384x128_0_128 _ ?_ z
    dsimp only
    rw [read3_0 arg3 harg3 x2, readW arg11 harg11 w0, readW arg12 harg12 w1, tile_eq1]; rfl
  · intro z
    refine piece_ok (e := .bf16) (fun a b => deqT (tile b (hBlk (rows a x2) w0 w1))) 0 0 0 0 rfl rfl inb_S1152x512_S384x128_0_0 _ ?_ z
    dsimp only
    rw [read3_0 arg3 harg3 x2, readW arg11 harg11 w0, readW arg12 harg12 w1, tile_eq0]; rfl

set_option maxHeartbeats 4000000 in
/-- Every piece of the scales the run stores is a block of `outS`. -/
theorem arith_scales (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (arg0 : BitVec 32) (x2 : Vec F S1152x3584 .bf16) (x9 : Vec F S1152x148 .f32) (w0 w1 : Vec F S3584x512 .bf16) :
    View.PiecesOf (outS arg0 x2 w0 w1 x9) (arithRun c i arg1 harg1 arg2 harg2 arg3 harg3 arg4 harg4 arg5 harg5 arg6 harg6 arg7 harg7 arg8 harg8 arg9 harg9 arg10 harg10 arg11 harg11 arg12 harg12 arg13 arg0 x2 x9 w0 w1).2.2.1 := by
  dsimp only [arithRun]
  refine ⟨?_, ?_, ?_, trivial⟩
  · intro z
    refine piece_okS (fun a => lanes arg0 (hBlk (rows a x2) w0 w1) (srows a x9)) 2 768 rfl inb_S1152x148_S384x148_768_0 _ ?_ z
    dsimp only
    rw [read3_2 arg3 harg3 x2, readW arg11 harg11 w0, readW arg12 harg12 w1, show arithRun.sl.v3147 c arg9 harg9 x9 = srows 2 x9 from read9_2 arg9 harg9 x9 _]; unfold lanes; rw [tile_eq0, tile_eq1, tile_eq2, tile_eq3, show k0_pay353 (srows 2 x9) = srows 2 x9 from shapeCast_self _ _]; rfl
  · intro z
    refine piece_okS (fun a => lanes arg0 (hBlk (rows a x2) w0 w1) (srows a x9)) 1 384 rfl inb_S1152x148_S384x148_384_0 _ ?_ z
    dsimp only
    rw [read3_1 arg3 harg3 x2, readW arg11 harg11 w0, readW arg12 harg12 w1, show arithRun.sl.v2815 c arg9 harg9 x9 = srows 1 x9 from read9_1 arg9 harg9 x9 _]; unfold lanes; rw [tile_eq0, tile_eq1, tile_eq2, tile_eq3, show k0_pay313 (srows 1 x9) = srows 1 x9 from shapeCast_self _ _]; rfl
  · intro z
    refine piece_okS (fun a => lanes arg0 (hBlk (rows a x2) w0 w1) (srows a x9)) 0 0 rfl inb_S1152x148_S384x148_0_0 _ ?_ z
    dsimp only
    rw [read3_0 arg3 harg3 x2, readW arg11 harg11 w0, readW arg12 harg12 w1, read9_0 arg9 harg9 x9]; unfold lanes; rw [tile_eq0, tile_eq1, tile_eq2, tile_eq3, show k0_pay271 (srows 0 x9) = srows 0 x9 from shapeCast_self _ _]; rfl

end Cert.KernelIdeal.Hand

end
-- ==== Proof.WideVal.lean ====
/-
  The tiles stored are the blocks of the widened weights.
-/
module

public import proofs.«01_k».proof.Proof.Weights
public import proofs.«01_k».proof.Proof.Arith
public import Idealize.ShloMosaic.Lib.Pipeline.ReadBack
public import Idealize.ShloMosaic.Lib.WholeRead

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx (ix2 eq_ix2)

/-- The lane of a tile's scale. -/
theorem lane_off (i : grid0.Coords) (c : ℕ) (hc : c < 4) :
    (Scalar.indexCast (Scalar.addi (Scalar.muli (BitVec.ofNat 32 (i 0).val) 4#32) (BitVec.ofNat 32 c)) : BitVec 32).toNat = 4 * (i 0).val + c := by
  have h := (i 0).isLt; change (i 0).val < 37 at h
  show (BitVec.ofNat 32 (i 0).val * 4#32 + BitVec.ofNat 32 c).toNat = _
  simp only [BitVec.toNat_add, BitVec.toNat_mul, BitVec.toNat_ofNat]
  omega

/-- A tile stored is a block of the widened weights. -/
theorem tile_ok (i : grid0.Coords) (s : Vec F S28x148 .f32) (q : Vec F S3584x512 .fp8e4m3) (m : Memref sig .tc .smem S28x148 .f32) (hm : m.IsWhole)
    (m' : Memref sig .tc .vmem S3584x512 .fp8e4m3) (hm' : m'.IsWhole) (r c R C : ℕ) (hr : r < 28) (hc : c < 4) (off : Fin 2 → ℕ) (h0 : off 0 = r) (h1 : off 1 = 4 * (i 0).val + c)
    (hR : R = 128 * r) (hC : C = 128 * c) (inb hpos inb') (z : S128x128.Idx) :
    k0_pay2 (View.readAt (Elt F) m.view (Rect.unit (s := S28x148) off S1x1.size inb).toLoadRect (hm.unread s) (Shape.Idx.first hpos))
      (View.readAt (Elt F) m'.view (Rect.unit (s := S3584x512) ![R, C] S128x128.size inb').toLoadRect (hm'.unread q)) z
      = wide i s q ((Rect.unit (s := S3584x512) ![R, C] S128x128.size inb').emb z) := by
  subst hR hC
  have hz0 := (z 0).isLt; have hz1 := (z 1).isLt
  change (z 0).val < 128 at hz0; change (z 1).val < 128 at hz1
  have e : k0_pay2 (View.readAt (Elt F) m.view (Rect.unit (s := S28x148) off S1x1.size inb).toLoadRect (hm.unread s) (Shape.Idx.first hpos))
      (View.readAt (Elt F) m'.view (Rect.unit (s := S3584x512) ![128 * r, 128 * c] S128x128.size inb').toLoadRect (hm'.unread q))
      = mulf (extf .bf16 (View.readAt (Elt F) m'.view (Rect.unit (s := S3584x512) ![128 * r, 128 * c] S128x128.size inb').toLoadRect (hm'.unread q) : FVec F S128x128 .fp8e4m3) bitsLt_fp8e4m3_bf16)
        (truncf .bf16 (broadcast S128x128 (View.readAt (Elt F) m.view (Rect.unit (s := S28x148) off S1x1.size inb).toLoadRect (hm.unread s) (Shape.Idx.first hpos)) : FVec F S128x128 .f32) bitsLt_bf16_f32) :=
    shapeCast_self _ _
  rw [e, hm.readAt_unread]
  unfold wide
  have e1 : View.readAt (Elt F) m'.view (Rect.unit (s := S3584x512) ![128 * r, 128 * c] S128x128.size inb').toLoadRect (hm'.unread q) z
      = q ((Rect.unit (s := S3584x512) ![128 * r, 128 * c] S128x128.size inb').emb z) := hm'.readAt_unread _ _ _
  have e2 : s ((Rect.unit (s := S28x148) off S1x1.size inb).toLoadRect.idx (Shape.Idx.first hpos)) = s (ix2 ⟨(((Rect.unit (s := S3584x512) ![128 * r, 128 * c] S128x128.size inb').emb z) 0).val / 128,
      by have := (((Rect.unit (s := S3584x512) ![128 * r, 128 * c] S128x128.size inb').emb z) 0).isLt; change _ < 3584 at this; omega⟩
      ⟨4 * (i 0).val + (((Rect.unit (s := S3584x512) ![128 * r, 128 * c] S128x128.size inb').emb z) 1).val / 128,
      by have := (((Rect.unit (s := S3584x512) ![128 * r, 128 * c] S128x128.size inb').emb z) 1).isLt; have h := (i 0).isLt; change _ < 512 at this; change (i 0).val < 37 at h; omega⟩) := by
    refine congrArg s ?_
    funext d
    match d with
    | ⟨0, _⟩ =>
      apply Fin.ext
      show off 0 + 1 * 0 = (128 * r + 1 * (z 0).val) / 128
      omega
    | ⟨1, _⟩ =>
      apply Fin.ext
      show off 1 + 1 * 0 = 4 * (i 0).val + (128 * c + 1 * (z 1).val) / 128
      omega
  exact congrArg₂ (fun (a : F .fp8e4m3) (b : F .f32) => (mulf (extf .bf16 ((fun _ => a) : FVec F S128x128 .fp8e4m3) bitsLt_fp8e4m3_bf16)
    (truncf .bf16 ((fun _ => b) : FVec F S128x128 .f32) bitsLt_bf16_f32) : FVec F S128x128 .bf16) z) e1 e2

theorem piecesOf_append {s : Shape} {e : EltTy} {G : s.Idx → Elt F e} : ∀ {L L' : List (View.Piece (Elt F) s e)},
    View.PiecesOf G L → View.PiecesOf G L' → View.PiecesOf G (L ++ L')
  | [], _, _, h' => h'
  | _ :: _, _, h, h' => ⟨h.1, piecesOf_append h.2 h'⟩

theorem wide_run1 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 : Vec F S28x148 .f32) (x3 : Vec F S3584x512 .fp8e4m3) :
    View.PiecesOf (wide i x0 x3) (run1 c i arg1 harg1 arg2 harg2 arg3 harg3 arg4 harg4 arg5 harg5 arg6 harg6 arg7 harg7 arg8 harg8 arg9 harg9 arg10 harg10 arg11 harg11 arg12 harg12 arg13 x0 x3).1 := by
  dsimp only [run1]
  refine ⟨?_, ?_, trivial⟩
  · intro z; exact tile_ok i x0 x3 arg1 harg1 arg4 harg4 0 1 0 128 (by decide) (by decide) (k0_off3 i 1#32) rfl (lane_off i 1 (by decide)) rfl rfl _ _ _ z
  · intro z; exact tile_ok i x0 x3 arg1 harg1 arg4 harg4 0 0 0 0 (by decide) (by decide) (k0_off3 i 0#32) rfl (lane_off i 0 (by decide)) rfl rfl _ _ _ z

theorem wide_run2 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 : Vec F S28x148 .f32) (x3 : Vec F S3584x512 .fp8e4m3) :
    View.PiecesOf (wide i x0 x3) (run2 c i arg1 harg1 arg2 harg2 arg3 harg3 arg4 harg4 arg5 harg5 arg6 harg6 arg7 harg7 arg8 harg8 arg9 harg9 arg10 harg10 arg11 harg11 arg12 harg12 arg13 x0 x3).1 := by
  dsimp only [run2]
  refine ⟨?_, ?_, ?_, ?_, ?_, ?_, ?_, ?_, ?_, ?_, trivial⟩
  · intro z; exact tile_ok i x0 x3 arg1 harg1 arg4 harg4 2 3 256 384 (by decide) (by decide) (k0_off5 i 3#32) rfl (lane_off i 3 (by decide)) rfl rfl _ _ _ z
  · intro z; exact tile_ok i x0 x3 arg1 harg1 arg4 harg4 2 2 256 256 (by decide) (by decide) (k0_off5 i 2#32) rfl (lane_off i 2 (by decide)) rfl rfl _ _ _ z
  · intro z; exact tile_ok i x0 x3 arg1 harg1 arg4 harg4 2 1 256 128 (by decide) (by decide) (k0_off5 i 1#32) rfl (lane_off i 1 (by decide)) rfl rfl _ _ _ z
  · intro z; exact tile_ok i x0 x3 arg1 harg1 arg4 harg4 2 0 256 0 (by decide) (by decide) (k0_off5 i 0#32) rfl (lane_off i 0 (by decide)) rfl rfl _ _ _ z
  · intro z; exact tile_ok i x0 x3 arg1 harg1 arg4 harg4 1 3 128 384 (by decide) (by decide) (k0_off4 i 3#32) rfl (lane_off i 3 (by decide)) rfl rfl _ _ _ z
  · intro z; exact tile_ok i x0 x3 arg1 harg1 arg4 harg4 1 2 128 256 (by decide) (by decide) (k0_off4 i 2#32) rfl (lane_off i 2 (by decide)) rfl rfl _ _ _ z
  · intro z; exact tile_ok i x0 x3 arg1 harg1 arg4 harg4 1 1 128 128 (by decide) (by decide) (k0_off4 i 1#32) rfl (lane_off i 1 (by decide)) rfl rfl _ _ _ z
  · intro z; exact tile_ok i x0 x3 arg1 harg1 arg4 harg4 1 0 128 0 (by decide) (by decide) (k0_off4 i 0#32) rfl (lane_off i 0 (by decide)) rfl rfl _ _ _ z
  · intro z; exact tile_ok i x0 x3 arg1 harg1 arg4 harg4 0 3 0 384 (by decide) (by decide) (k0_off3 i 3#32) rfl (lane_off i 3 (by decide)) rfl rfl _ _ _ z
  · intro z; exact tile_ok i x0 x3 arg1 harg1 arg4 harg4 0 2 0 256 (by decide) (by decide) (k0_off3 i 2#32) rfl (lane_off i 2 (by decide)) rfl rfl _ _ _ z

theorem wide_run5 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 : Vec F S28x148 .f32) (x3 : Vec F S3584x512 .fp8e4m3) :
    View.PiecesOf (wide i x0 x3) (run5 c i arg1 harg1 arg2 harg2 arg3 harg3 arg4 harg4 arg5 harg5 arg6 harg6 arg7 harg7 arg8 harg8 arg9 harg9 arg10 harg10 arg11 harg11 arg12 harg12 arg13 x0 x3).1 := by
  dsimp only [run5]
  refine ⟨?_, ?_, ?_, ?_, ?_, ?_, ?_, ?_, ?_, ?_, trivial⟩
  · intro z; exact tile_ok i x0 x3 arg1 harg1 arg4 harg4 5 1 640 128 (by decide) (by decide) (k0_off8 i 1#32) rfl (lane_off i 1 (by decide)) rfl rfl _ _ _ z
  · intro z; exact tile_ok i x0 x3 arg1 harg1 arg4 harg4 5 0 640 0 (by decide) (by decide) (k0_off8 i 0#32) rfl (lane_off i 0 (by decide)) rfl rfl _ _ _ z
  · intro z; exact tile_ok i x0 x3 arg1 harg1 arg4 harg4 4 3 512 384 (by decide) (by decide) (k0_off7 i 3#32) rfl (lane_off i 3 (by decide)) rfl rfl _ _ _ z
  · intro z; exact tile_ok i x0 x3 arg1 harg1 arg4 harg4 4 2 512 256 (by decide) (by decide) (k0_off7 i 2#32) rfl (lane_off i 2 (by decide)) rfl rfl _ _ _ z
  · intro z; exact tile_ok i x0 x3 arg1 harg1 arg4 harg4 4 1 512 128 (by decide) (by decide) (k0_off7 i 1#32) rfl (lane_off i 1 (by decide)) rfl rfl _ _ _ z
  · intro z; exact tile_ok i x0 x3 arg1 harg1 arg4 harg4 4 0 512 0 (by decide) (by decide) (k0_off7 i 0#32) rfl (lane_off i 0 (by decide)) rfl rfl _ _ _ z
  · intro z; exact tile_ok i x0 x3 arg1 harg1 arg4 harg4 3 3 384 384 (by decide) (by decide) (k0_off6 i 3#32) rfl (lane_off i 3 (by decide)) rfl rfl _ _ _ z
  · intro z; exact tile_ok i x0 x3 arg1 harg1 arg4 harg4 3 2 384 256 (by decide) (by decide) (k0_off6 i 2#32) rfl (lane_off i 2 (by decide)) rfl rfl _ _ _ z
  · intro z; exact tile_ok i x0 x3 arg1 harg1 arg4 harg4 3 1 384 128 (by decide) (by decide) (k0_off6 i 1#32) rfl (lane_off i 1 (by decide)) rfl rfl _ _ _ z
  · intro z; exact tile_ok i x0 x3 arg1 harg1 arg4 harg4 3 0 384 0 (by decide) (by decide) (k0_off6 i 0#32) rfl (lane_off i 0 (by decide)) rfl rfl _ _ _ z

theorem wide_run8 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 : Vec F S28x148 .f32) (x3 : Vec F S3584x512 .fp8e4m3) :
    View.PiecesOf (wide i x0 x3) (run8 c i arg1 harg1 arg2 harg2 arg3 harg3 arg4 harg4 arg5 harg5 arg6 harg6 arg7 harg7 arg8 harg8 arg9 harg9 arg10 harg10 arg11 harg11 arg12 harg12 arg13 x0 x3).1 := by
  dsimp only [run8]
  refine ⟨?_, ?_, ?_, ?_, ?_, ?_, ?_, ?_, ?_, ?_, trivial⟩
  · intro z; exact tile_ok i x0 x3 arg1 harg1 arg4 harg4 7 3 896 384 (by decide) (by decide) (k0_off10 i 3#32) rfl (lane_off i 3 (by decide)) rfl rfl _ _ _ z
  · intro z; exact tile_ok i x0 x3 arg1 harg1 arg4 harg4 7 2 896 256 (by decide) (by decide) (k0_off10 i 2#32) rfl (lane_off i 2 (by decide)) rfl rfl _ _ _ z
  · intro z; exact tile_ok i x0 x3 arg1 harg1 arg4 harg4 7 1 896 128 (by decide) (by decide) (k0_off10 i 1#32) rfl (lane_off i 1 (by decide)) rfl rfl _ _ _ z
  · intro z; exact tile_ok i x0 x3 arg1 harg1 arg4 harg4 7 0 896 0 (by decide) (by decide) (k0_off10 i 0#32) rfl (lane_off i 0 (by decide)) rfl rfl _ _ _ z
  · intro z; exact tile_ok i x0 x3 arg1 harg1 arg4 harg4 6 3 768 384 (by decide) (by decide) (k0_off9 i 3#32) rfl (lane_off i 3 (by decide)) rfl rfl _ _ _ z
  · intro z; exact tile_ok i x0 x3 arg1 harg1 arg4 harg4 6 2 768 256 (by decide) (by decide) (k0_off9 i 2#32) rfl (lane_off i 2 (by decide)) rfl rfl _ _ _ z
  · intro z; exact tile_ok i x0 x3 arg1 harg1 arg4 harg4 6 1 768 128 (by decide) (by decide) (k0_off9 i 1#32) rfl (lane_off i 1 (by decide)) rfl rfl _ _ _ z
  · intro z; exact tile_ok i x0 x3 arg1 harg1 arg4 harg4 6 0 768 0 (by decide) (by decide) (k0_off9 i 0#32) rfl (lane_off i 0 (by decide)) rfl rfl _ _ _ z
  · intro z; exact tile_ok i x0 x3 arg1 harg1 arg4 harg4 5 3 640 384 (by decide) (by decide) (k0_off8 i 3#32) rfl (lane_off i 3 (by decide)) rfl rfl _ _ _ z
  · intro z; exact tile_ok i x0 x3 arg1 harg1 arg4 harg4 5 2 640 256 (by decide) (by decide) (k0_off8 i 2#32) rfl (lane_off i 2 (by decide)) rfl rfl _ _ _ z

theorem wide_run11 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 : Vec F S28x148 .f32) (x3 : Vec F S3584x512 .fp8e4m3) :
    View.PiecesOf (wide i x0 x3) (run11 c i arg1 harg1 arg2 harg2 arg3 harg3 arg4 harg4 arg5 harg5 arg6 harg6 arg7 harg7 arg8 harg8 arg9 harg9 arg10 harg10 arg11 harg11 arg12 harg12 arg13 x0 x3).1 := by
  dsimp only [run11]
  refine ⟨?_, ?_, ?_, ?_, ?_, ?_, ?_, ?_, ?_, ?_, trivial⟩
  · intro z; exact tile_ok i x0 x3 arg1 harg1 arg4 harg4 10 1 1280 128 (by decide) (by decide) (k0_off13 i 1#32) rfl (lane_off i 1 (by decide)) rfl rfl _ _ _ z
  · intro z; exact tile_ok i x0 x3 arg1 harg1 arg4 harg4 10 0 1280 0 (by decide) (by decide) (k0_off13 i 0#32) rfl (lane_off i 0 (by decide)) rfl rfl _ _ _ z
  · intro z; exact tile_ok i x0 x3 arg1 harg1 arg4 harg4 9 3 1152 384 (by decide) (by decide) (k0_off12 i 3#32) rfl (lane_off i 3 (by decide)) rfl rfl _ _ _ z
  · intro z; exact tile_ok i x0 x3 arg1 harg1 arg4 harg4 9 2 1152 256 (by decide) (by decide) (k0_off12 i 2#32) rfl (lane_off i 2 (by decide)) rfl rfl _ _ _ z
  · intro z; exact tile_ok i x0 x3 arg1 harg1 arg4 harg4 9 1 1152 128 (by decide) (by decide) (k0_off12 i 1#32) rfl (lane_off i 1 (by decide)) rfl rfl _ _ _ z
  · intro z; exact tile_ok i x0 x3 arg1 harg1 arg4 harg4 9 0 1152 0 (by decide) (by decide) (k0_off12 i 0#32) rfl (lane_off i 0 (by decide)) rfl rfl _ _ _ z
  · intro z; exact tile_ok i x0 x3 arg1 harg1 arg4 harg4 8 3 1024 384 (by decide) (by decide) (k0_off11 i 3#32) rfl (lane_off i 3 (by decide)) rfl rfl _ _ _ z
  · intro z; exact tile_ok i x0 x3 arg1 harg1 arg4 harg4 8 2 1024 256 (by decide) (by decide) (k0_off11 i 2#32) rfl (lane_off i 2 (by decide)) rfl rfl _ _ _ z
  · intro z; exact tile_ok i x0 x3 arg1 harg1 arg4 harg4 8 1 1024 128 (by decide) (by decide) (k0_off11 i 1#32) rfl (lane_off i 1 (by decide)) rfl rfl _ _ _ z
  · intro z; exact tile_ok i x0 x3 arg1 harg1 arg4 harg4 8 0 1024 0 (by decide) (by decide) (k0_off11 i 0#32) rfl (lane_off i 0 (by decide)) rfl rfl _ _ _ z

theorem wide_run14 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 : Vec F S28x148 .f32) (x3 : Vec F S3584x512 .fp8e4m3) :
    View.PiecesOf (wide i x0 x3) (run14 c i arg1 harg1 arg2 harg2 arg3 harg3 arg4 harg4 arg5 harg5 arg6 harg6 arg7 harg7 arg8 harg8 arg9 harg9 arg10 harg10 arg11 harg11 arg12 harg12 arg13 x0 x3).1 := by
  dsimp only [run14]
  refine ⟨?_, ?_, ?_, ?_, ?_, ?_, ?_, ?_, ?_, ?_, trivial⟩
  · intro z; exact tile_ok i x0 x3 arg1 harg1 arg4 harg4 12 3 1536 384 (by decide) (by decide) (k0_off15 i 3#32) rfl (lane_off i 3 (by decide)) rfl rfl _ _ _ z
  · intro z; exact tile_ok i x0 x3 arg1 harg1 arg4 harg4 12 2 1536 256 (by decide) (by decide) (k0_off15 i 2#32) rfl (lane_off i 2 (by decide)) rfl rfl _ _ _ z
  · intro z; exact tile_ok i x0 x3 arg1 harg1 arg4 harg4 12 1 1536 128 (by decide) (by decide) (k0_off15 i 1#32) rfl (lane_off i 1 (by decide)) rfl rfl _ _ _ z
  · intro z; exact tile_ok i x0 x3 arg1 harg1 arg4 harg4 12 0 1536 0 (by decide) (by decide) (k0_off15 i 0#32) rfl (lane_off i 0 (by decide)) rfl rfl _ _ _ z
  · intro z; exact tile_ok i x0 x3 arg1 harg1 arg4 harg4 11 3 1408 384 (by decide) (by decide) (k0_off14 i 3#32) rfl (lane_off i 3 (by decide)) rfl rfl _ _ _ z
  · intro z; exact tile_ok i x0 x3 arg1 harg1 arg4 harg4 11 2 1408 256 (by decide) (by decide) (k0_off14 i 2#32) rfl (lane_off i 2 (by decide)) rfl rfl _ _ _ z
  · intro z; exact tile_ok i x0 x3 arg1 harg1 arg4 harg4 11 1 1408 128 (by decide) (by decide) (k0_off14 i 1#32) rfl (lane_off i 1 (by decide)) rfl rfl _ _ _ z
  · intro z; exact tile_ok i x0 x3 arg1 harg1 arg4 harg4 11 0 1408 0 (by decide) (by decide) (k0_off14 i 0#32) rfl (lane_off i 0 (by decide)) rfl rfl _ _ _ z
  · intro z; exact tile_ok i x0 x3 arg1 harg1 arg4 harg4 10 3 1280 384 (by decide) (by decide) (k0_off13 i 3#32) rfl (lane_off i 3 (by decide)) rfl rfl _ _ _ z
  · intro z; exact tile_ok i x0 x3 arg1 harg1 arg4 harg4 10 2 1280 256 (by decide) (by decide) (k0_off13 i 2#32) rfl (lane_off i 2 (by decide)) rfl rfl _ _ _ z

theorem wide_run17 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 : Vec F S28x148 .f32) (x3 : Vec F S3584x512 .fp8e4m3) :
    View.PiecesOf (wide i x0 x3) (run17 c i arg1 harg1 arg2 harg2 arg3 harg3 arg4 harg4 arg5 harg5 arg6 harg6 arg7 harg7 arg8 harg8 arg9 harg9 arg10 harg10 arg11 harg11 arg12 harg12 arg13 x0 x3).1 := by
  dsimp only [run17]
  refine ⟨?_, ?_, ?_, ?_, ?_, ?_, ?_, ?_, ?_, ?_, trivial⟩
  · intro z; exact tile_ok i x0 x3 arg1 harg1 arg4 harg4 15 1 1920 128 (by decide) (by decide) (k0_off18 i 1#32) rfl (lane_off i 1 (by decide)) rfl rfl _ _ _ z
  · intro z; exact tile_ok i x0 x3 arg1 harg1 arg4 harg4 15 0 1920 0 (by decide) (by decide) (k0_off18 i 0#32) rfl (lane_off i 0 (by decide)) rfl rfl _ _ _ z
  · intro z; exact tile_ok i x0 x3 arg1 harg1 arg4 harg4 14 3 1792 384 (by decide) (by decide) (k0_off17 i 3#32) rfl (lane_off i 3 (by decide)) rfl rfl _ _ _ z
  · intro z; exact tile_ok i x0 x3 arg1 harg1 arg4 harg4 14 2 1792 256 (by decide) (by decide) (k0_off17 i 2#32) rfl (lane_off i 2 (by decide)) rfl rfl _ _ _ z
  · intro z; exact tile_ok i x0 x3 arg1 harg1 arg4 harg4 14 1 1792 128 (by decide) (by decide) (k0_off17 i 1#32) rfl (lane_off i 1 (by decide)) rfl rfl _ _ _ z
  · intro z; exact tile_ok i x0 x3 arg1 harg1 arg4 harg4 14 0 1792 0 (by decide) (by decide) (k0_off17 i 0#32) rfl (lane_off i 0 (by decide)) rfl rfl _ _ _ z
  · intro z; exact tile_ok i x0 x3 arg1 harg1 arg4 harg4 13 3 1664 384 (by decide) (by decide) (k0_off16 i 3#32) rfl (lane_off i 3 (by decide)) rfl rfl _ _ _ z
  · intro z; exact tile_ok i x0 x3 arg1 harg1 arg4 harg4 13 2 1664 256 (by decide) (by decide) (k0_off16 i 2#32) rfl (lane_off i 2 (by decide)) rfl rfl _ _ _ z
  · intro z; exact tile_ok i x0 x3 arg1 harg1 arg4 harg4 13 1 1664 128 (by decide) (by decide) (k0_off16 i 1#32) rfl (lane_off i 1 (by decide)) rfl rfl _ _ _ z
  · intro z; exact tile_ok i x0 x3 arg1 harg1 arg4 harg4 13 0 1664 0 (by decide) (by decide) (k0_off16 i 0#32) rfl (lane_off i 0 (by decide)) rfl rfl _ _ _ z

theorem wide_run20 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 : Vec F S28x148 .f32) (x3 : Vec F S3584x512 .fp8e4m3) :
    View.PiecesOf (wide i x0 x3) (run20 c i arg1 harg1 arg2 harg2 arg3 harg3 arg4 harg4 arg5 harg5 arg6 harg6 arg7 harg7 arg8 harg8 arg9 harg9 arg10 harg10 arg11 harg11 arg12 harg12 arg13 x0 x3).1 := by
  dsimp only [run20]
  refine ⟨?_, ?_, ?_, ?_, ?_, ?_, ?_, ?_, ?_, ?_, trivial⟩
  · intro z; exact tile_ok i x0 x3 arg1 harg1 arg4 harg4 17 3 2176 384 (by decide) (by decide) (k0_off20 i 3#32) rfl (lane_off i 3 (by decide)) rfl rfl _ _ _ z
  · intro z; exact tile_ok i x0 x3 arg1 harg1 arg4 harg4 17 2 2176 256 (by decide) (by decide) (k0_off20 i 2#32) rfl (lane_off i 2 (by decide)) rfl rfl _ _ _ z
  · intro z; exact tile_ok i x0 x3 arg1 harg1 arg4 harg4 17 1 2176 128 (by decide) (by decide) (k0_off20 i 1#32) rfl (lane_off i 1 (by decide)) rfl rfl _ _ _ z
  · intro z; exact tile_ok i x0 x3 arg1 harg1 arg4 harg4 17 0 2176 0 (by decide) (by decide) (k0_off20 i 0#32) rfl (lane_off i 0 (by decide)) rfl rfl _ _ _ z
  · intro z; exact tile_ok i x0 x3 arg1 harg1 arg4 harg4 16 3 2048 384 (by decide) (by decide) (k0_off19 i 3#32) rfl (lane_off i 3 (by decide)) rfl rfl _ _ _ z
  · intro z; exact tile_ok i x0 x3 arg1 harg1 arg4 harg4 16 2 2048 256 (by decide) (by decide) (k0_off19 i 2#32) rfl (lane_off i 2 (by decide)) rfl rfl _ _ _ z
  · intro z; exact tile_ok i x0 x3 arg1 harg1 arg4 harg4 16 1 2048 128 (by decide) (by decide) (k0_off19 i 1#32) rfl (lane_off i 1 (by decide)) rfl rfl _ _ _ z
  · intro z; exact tile_ok i x0 x3 arg1 harg1 arg4 harg4 16 0 2048 0 (by decide) (by decide) (k0_off19 i 0#32) rfl (lane_off i 0 (by decide)) rfl rfl _ _ _ z
  · intro z; exact tile_ok i x0 x3 arg1 harg1 arg4 harg4 15 3 1920 384 (by decide) (by decide) (k0_off18 i 3#32) rfl (lane_off i 3 (by decide)) rfl rfl _ _ _ z
  · intro z; exact tile_ok i x0 x3 arg1 harg1 arg4 harg4 15 2 1920 256 (by decide) (by decide) (k0_off18 i 2#32) rfl (lane_off i 2 (by decide)) rfl rfl _ _ _ z

theorem wide_run23 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 : Vec F S28x148 .f32) (x3 : Vec F S3584x512 .fp8e4m3) :
    View.PiecesOf (wide i x0 x3) (run23 c i arg1 harg1 arg2 harg2 arg3 harg3 arg4 harg4 arg5 harg5 arg6 harg6 arg7 harg7 arg8 harg8 arg9 harg9 arg10 harg10 arg11 harg11 arg12 harg12 arg13 x0 x3).1 := by
  dsimp only [run23]
  refine ⟨?_, ?_, ?_, ?_, ?_, ?_, ?_, ?_, ?_, ?_, trivial⟩
  · intro z; exact tile_ok i x0 x3 arg1 harg1 arg4 harg4 20 1 2560 128 (by decide) (by decide) (k0_off23 i 1#32) rfl (lane_off i 1 (by decide)) rfl rfl _ _ _ z
  · intro z; exact tile_ok i x0 x3 arg1 harg1 arg4 harg4 20 0 2560 0 (by decide) (by decide) (k0_off23 i 0#32) rfl (lane_off i 0 (by decide)) rfl rfl _ _ _ z
  · intro z; exact tile_ok i x0 x3 arg1 harg1 arg4 harg4 19 3 2432 384 (by decide) (by decide) (k0_off22 i 3#32) rfl (lane_off i 3 (by decide)) rfl rfl _ _ _ z
  · intro z; exact tile_ok i x0 x3 arg1 harg1 arg4 harg4 19 2 2432 256 (by decide) (by decide) (k0_off22 i 2#32) rfl (lane_off i 2 (by decide)) rfl rfl _ _ _ z
  · intro z; exact tile_ok i x0 x3 arg1 harg1 arg4 harg4 19 1 2432 128 (by decide) (by decide) (k0_off22 i 1#32) rfl (lane_off i 1 (by decide)) rfl rfl _ _ _ z
  · intro z; exact tile_ok i x0 x3 arg1 harg1 arg4 harg4 19 0 2432 0 (by decide) (by decide) (k0_off22 i 0#32) rfl (lane_off i 0 (by decide)) rfl rfl _ _ _ z
  · intro z; exact tile_ok i x0 x3 arg1 harg1 arg4 harg4 18 3 2304 384 (by decide) (by decide) (k0_off21 i 3#32) rfl (lane_off i 3 (by decide)) rfl rfl _ _ _ z
  · intro z; exact tile_ok i x0 x3 arg1 harg1 arg4 harg4 18 2 2304 256 (by decide) (by decide) (k0_off21 i 2#32) rfl (lane_off i 2 (by decide)) rfl rfl _ _ _ z
  · intro z; exact tile_ok i x0 x3 arg1 harg1 arg4 harg4 18 1 2304 128 (by decide) (by decide) (k0_off21 i 1#32) rfl (lane_off i 1 (by decide)) rfl rfl _ _ _ z
  · intro z; exact tile_ok i x0 x3 arg1 harg1 arg4 harg4 18 0 2304 0 (by decide) (by decide) (k0_off21 i 0#32) rfl (lane_off i 0 (by decide)) rfl rfl _ _ _ z

theorem wide_run26 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 : Vec F S28x148 .f32) (x3 : Vec F S3584x512 .fp8e4m3) :
    View.PiecesOf (wide i x0 x3) (run26 c i arg1 harg1 arg2 harg2 arg3 harg3 arg4 harg4 arg5 harg5 arg6 harg6 arg7 harg7 arg8 harg8 arg9 harg9 arg10 harg10 arg11 harg11 arg12 harg12 arg13 x0 x3).1 := by
  dsimp only [run26]
  refine ⟨?_, ?_, ?_, ?_, ?_, ?_, ?_, ?_, ?_, ?_, trivial⟩
  · intro z; exact tile_ok i x0 x3 arg1 harg1 arg4 harg4 22 3 2816 384 (by decide) (by decide) (k0_off25 i 3#32) rfl (lane_off i 3 (by decide)) rfl rfl _ _ _ z
  · intro z; exact tile_ok i x0 x3 arg1 harg1 arg4 harg4 22 2 2816 256 (by decide) (by decide) (k0_off25 i 2#32) rfl (lane_off i 2 (by decide)) rfl rfl _ _ _ z
  · intro z; exact tile_ok i x0 x3 arg1 harg1 arg4 harg4 22 1 2816 128 (by decide) (by decide) (k0_off25 i 1#32) rfl (lane_off i 1 (by decide)) rfl rfl _ _ _ z
  · intro z; exact tile_ok i x0 x3 arg1 harg1 arg4 harg4 22 0 2816 0 (by decide) (by decide) (k0_off25 i 0#32) rfl (lane_off i 0 (by decide)) rfl rfl _ _ _ z
  · intro z; exact tile_ok i x0 x3 arg1 harg1 arg4 harg4 21 3 2688 384 (by decide) (by decide) (k0_off24 i 3#32) rfl (lane_off i 3 (by decide)) rfl rfl _ _ _ z
  · intro z; exact tile_ok i x0 x3 arg1 harg1 arg4 harg4 21 2 2688 256 (by decide) (by decide) (k0_off24 i 2#32) rfl (lane_off i 2 (by decide)) rfl rfl _ _ _ z
  · intro z; exact tile_ok i x0 x3 arg1 harg1 arg4 harg4 21 1 2688 128 (by decide) (by decide) (k0_off24 i 1#32) rfl (lane_off i 1 (by decide)) rfl rfl _ _ _ z
  · intro z; exact tile_ok i x0 x3 arg1 harg1 arg4 harg4 21 0 2688 0 (by decide) (by decide) (k0_off24 i 0#32) rfl (lane_off i 0 (by decide)) rfl rfl _ _ _ z
  · intro z; exact tile_ok i x0 x3 arg1 harg1 arg4 harg4 20 3 2560 384 (by decide) (by decide) (k0_off23 i 3#32) rfl (lane_off i 3 (by decide)) rfl rfl _ _ _ z
  · intro z; exact tile_ok i x0 x3 arg1 harg1 arg4 harg4 20 2 2560 256 (by decide) (by decide) (k0_off23 i 2#32) rfl (lane_off i 2 (by decide)) rfl rfl _ _ _ z

theorem wide_run29 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 : Vec F S28x148 .f32) (x3 : Vec F S3584x512 .fp8e4m3) :
    View.PiecesOf (wide i x0 x3) (run29 c i arg1 harg1 arg2 harg2 arg3 harg3 arg4 harg4 arg5 harg5 arg6 harg6 arg7 harg7 arg8 harg8 arg9 harg9 arg10 harg10 arg11 harg11 arg12 harg12 arg13 x0 x3).1 := by
  dsimp only [run29]
  refine ⟨?_, ?_, ?_, ?_, ?_, ?_, ?_, ?_, ?_, ?_, trivial⟩
  · intro z; exact tile_ok i x0 x3 arg1 harg1 arg4 harg4 25 1 3200 128 (by decide) (by decide) (k0_off28 i 1#32) rfl (lane_off i 1 (by decide)) rfl rfl _ _ _ z
  · intro z; exact tile_ok i x0 x3 arg1 harg1 arg4 harg4 25 0 3200 0 (by decide) (by decide) (k0_off28 i 0#32) rfl (lane_off i 0 (by decide)) rfl rfl _ _ _ z
  · intro z; exact tile_ok i x0 x3 arg1 harg1 arg4 harg4 24 3 3072 384 (by decide) (by decide) (k0_off27 i 3#32) rfl (lane_off i 3 (by decide)) rfl rfl _ _ _ z
  · intro z; exact tile_ok i x0 x3 arg1 harg1 arg4 harg4 24 2 3072 256 (by decide) (by decide) (k0_off27 i 2#32) rfl (lane_off i 2 (by decide)) rfl rfl _ _ _ z
  · intro z; exact tile_ok i x0 x3 arg1 harg1 arg4 harg4 24 1 3072 128 (by decide) (by decide) (k0_off27 i 1#32) rfl (lane_off i 1 (by decide)) rfl rfl _ _ _ z
  · intro z; exact tile_ok i x0 x3 arg1 harg1 arg4 harg4 24 0 3072 0 (by decide) (by decide) (k0_off27 i 0#32) rfl (lane_off i 0 (by decide)) rfl rfl _ _ _ z
  · intro z; exact tile_ok i x0 x3 arg1 harg1 arg4 harg4 23 3 2944 384 (by decide) (by decide) (k0_off26 i 3#32) rfl (lane_off i 3 (by decide)) rfl rfl _ _ _ z
  · intro z; exact tile_ok i x0 x3 arg1 harg1 arg4 harg4 23 2 2944 256 (by decide) (by decide) (k0_off26 i 2#32) rfl (lane_off i 2 (by decide)) rfl rfl _ _ _ z
  · intro z; exact tile_ok i x0 x3 arg1 harg1 arg4 harg4 23 1 2944 128 (by decide) (by decide) (k0_off26 i 1#32) rfl (lane_off i 1 (by decide)) rfl rfl _ _ _ z
  · intro z; exact tile_ok i x0 x3 arg1 harg1 arg4 harg4 23 0 2944 0 (by decide) (by decide) (k0_off26 i 0#32) rfl (lane_off i 0 (by decide)) rfl rfl _ _ _ z

theorem wide_run32 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 : Vec F S28x148 .f32) (x3 : Vec F S3584x512 .fp8e4m3) :
    View.PiecesOf (wide i x0 x3) (run32 c i arg1 harg1 arg2 harg2 arg3 harg3 arg4 harg4 arg5 harg5 arg6 harg6 arg7 harg7 arg8 harg8 arg9 harg9 arg10 harg10 arg11 harg11 arg12 harg12 arg13 x0 x3).1 := by
  dsimp only [run32]
  refine ⟨?_, ?_, ?_, ?_, ?_, ?_, ?_, ?_, ?_, ?_, trivial⟩
  · intro z; exact tile_ok i x0 x3 arg1 harg1 arg4 harg4 27 3 3456 384 (by decide) (by decide) (k0_off30 i 3#32) rfl (lane_off i 3 (by decide)) rfl rfl _ _ _ z
  · intro z; exact tile_ok i x0 x3 arg1 harg1 arg4 harg4 27 2 3456 256 (by decide) (by decide) (k0_off30 i 2#32) rfl (lane_off i 2 (by decide)) rfl rfl _ _ _ z
  · intro z; exact tile_ok i x0 x3 arg1 harg1 arg4 harg4 27 1 3456 128 (by decide) (by decide) (k0_off30 i 1#32) rfl (lane_off i 1 (by decide)) rfl rfl _ _ _ z
  · intro z; exact tile_ok i x0 x3 arg1 harg1 arg4 harg4 27 0 3456 0 (by decide) (by decide) (k0_off30 i 0#32) rfl (lane_off i 0 (by decide)) rfl rfl _ _ _ z
  · intro z; exact tile_ok i x0 x3 arg1 harg1 arg4 harg4 26 3 3328 384 (by decide) (by decide) (k0_off29 i 3#32) rfl (lane_off i 3 (by decide)) rfl rfl _ _ _ z
  · intro z; exact tile_ok i x0 x3 arg1 harg1 arg4 harg4 26 2 3328 256 (by decide) (by decide) (k0_off29 i 2#32) rfl (lane_off i 2 (by decide)) rfl rfl _ _ _ z
  · intro z; exact tile_ok i x0 x3 arg1 harg1 arg4 harg4 26 1 3328 128 (by decide) (by decide) (k0_off29 i 1#32) rfl (lane_off i 1 (by decide)) rfl rfl _ _ _ z
  · intro z; exact tile_ok i x0 x3 arg1 harg1 arg4 harg4 26 0 3328 0 (by decide) (by decide) (k0_off29 i 0#32) rfl (lane_off i 0 (by decide)) rfl rfl _ _ _ z
  · intro z; exact tile_ok i x0 x3 arg1 harg1 arg4 harg4 25 3 3200 384 (by decide) (by decide) (k0_off28 i 3#32) rfl (lane_off i 3 (by decide)) rfl rfl _ _ _ z
  · intro z; exact tile_ok i x0 x3 arg1 harg1 arg4 harg4 25 2 3200 256 (by decide) (by decide) (k0_off28 i 2#32) rfl (lane_off i 2 (by decide)) rfl rfl _ _ _ z

theorem wide_run35 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x1 : Vec F S28x148 .f32) (x4 : Vec F S3584x512 .fp8e4m3) :
    View.PiecesOf (wide i x1 x4) (run35 c i arg1 harg1 arg2 harg2 arg3 harg3 arg4 harg4 arg5 harg5 arg6 harg6 arg7 harg7 arg8 harg8 arg9 harg9 arg10 harg10 arg11 harg11 arg12 harg12 arg13 x1 x4).1 := by
  dsimp only [run35]
  refine ⟨?_, ?_, ?_, ?_, ?_, ?_, ?_, ?_, ?_, ?_, trivial⟩
  · intro z; exact tile_ok i x1 x4 arg2 harg2 arg5 harg5 2 1 256 128 (by decide) (by decide) (k0_off5 i 1#32) rfl (lane_off i 1 (by decide)) rfl rfl _ _ _ z
  · intro z; exact tile_ok i x1 x4 arg2 harg2 arg5 harg5 2 0 256 0 (by decide) (by decide) (k0_off5 i 0#32) rfl (lane_off i 0 (by decide)) rfl rfl _ _ _ z
  · intro z; exact tile_ok i x1 x4 arg2 harg2 arg5 harg5 1 3 128 384 (by decide) (by decide) (k0_off4 i 3#32) rfl (lane_off i 3 (by decide)) rfl rfl _ _ _ z
  · intro z; exact tile_ok i x1 x4 arg2 harg2 arg5 harg5 1 2 128 256 (by decide) (by decide) (k0_off4 i 2#32) rfl (lane_off i 2 (by decide)) rfl rfl _ _ _ z
  · intro z; exact tile_ok i x1 x4 arg2 harg2 arg5 harg5 1 1 128 128 (by decide) (by decide) (k0_off4 i 1#32) rfl (lane_off i 1 (by decide)) rfl rfl _ _ _ z
  · intro z; exact tile_ok i x1 x4 arg2 harg2 arg5 harg5 1 0 128 0 (by decide) (by decide) (k0_off4 i 0#32) rfl (lane_off i 0 (by decide)) rfl rfl _ _ _ z
  · intro z; exact tile_ok i x1 x4 arg2 harg2 arg5 harg5 0 3 0 384 (by decide) (by decide) (k0_off3 i 3#32) rfl (lane_off i 3 (by decide)) rfl rfl _ _ _ z
  · intro z; exact tile_ok i x1 x4 arg2 harg2 arg5 harg5 0 2 0 256 (by decide) (by decide) (k0_off3 i 2#32) rfl (lane_off i 2 (by decide)) rfl rfl _ _ _ z
  · intro z; exact tile_ok i x1 x4 arg2 harg2 arg5 harg5 0 1 0 128 (by decide) (by decide) (k0_off3 i 1#32) rfl (lane_off i 1 (by decide)) rfl rfl _ _ _ z
  · intro z; exact tile_ok i x1 x4 arg2 harg2 arg5 harg5 0 0 0 0 (by decide) (by decide) (k0_off3 i 0#32) rfl (lane_off i 0 (by decide)) rfl rfl _ _ _ z

theorem wide_run38 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x1 : Vec F S28x148 .f32) (x4 : Vec F S3584x512 .fp8e4m3) :
    View.PiecesOf (wide i x1 x4) (run38 c i arg1 harg1 arg2 harg2 arg3 harg3 arg4 harg4 arg5 harg5 arg6 harg6 arg7 harg7 arg8 harg8 arg9 harg9 arg10 harg10 arg11 harg11 arg12 harg12 arg13 x1 x4).1 := by
  dsimp only [run38]
  refine ⟨?_, ?_, ?_, ?_, ?_, ?_, ?_, ?_, ?_, ?_, trivial⟩
  · intro z; exact tile_ok i x1 x4 arg2 harg2 arg5 harg5 4 3 512 384 (by decide) (by decide) (k0_off7 i 3#32) rfl (lane_off i 3 (by decide)) rfl rfl _ _ _ z
  · intro z; exact tile_ok i x1 x4 arg2 harg2 arg5 harg5 4 2 512 256 (by decide) (by decide) (k0_off7 i 2#32) rfl (lane_off i 2 (by decide)) rfl rfl _ _ _ z
  · intro z; exact tile_ok i x1 x4 arg2 harg2 arg5 harg5 4 1 512 128 (by decide) (by decide) (k0_off7 i 1#32) rfl (lane_off i 1 (by decide)) rfl rfl _ _ _ z
  · intro z; exact tile_ok i x1 x4 arg2 harg2 arg5 harg5 4 0 512 0 (by decide) (by decide) (k0_off7 i 0#32) rfl (lane_off i 0 (by decide)) rfl rfl _ _ _ z
  · intro z; exact tile_ok i x1 x4 arg2 harg2 arg5 harg5 3 3 384 384 (by decide) (by decide) (k0_off6 i 3#32) rfl (lane_off i 3 (by decide)) rfl rfl _ _ _ z
  · intro z; exact tile_ok i x1 x4 arg2 harg2 arg5 harg5 3 2 384 256 (by decide) (by decide) (k0_off6 i 2#32) rfl (lane_off i 2 (by decide)) rfl rfl _ _ _ z
  · intro z; exact tile_ok i x1 x4 arg2 harg2 arg5 harg5 3 1 384 128 (by decide) (by decide) (k0_off6 i 1#32) rfl (lane_off i 1 (by decide)) rfl rfl _ _ _ z
  · intro z; exact tile_ok i x1 x4 arg2 harg2 arg5 harg5 3 0 384 0 (by decide) (by decide) (k0_off6 i 0#32) rfl (lane_off i 0 (by decide)) rfl rfl _ _ _ z
  · intro z; exact tile_ok i x1 x4 arg2 harg2 arg5 harg5 2 3 256 384 (by decide) (by decide) (k0_off5 i 3#32) rfl (lane_off i 3 (by decide)) rfl rfl _ _ _ z
  · intro z; exact tile_ok i x1 x4 arg2 harg2 arg5 harg5 2 2 256 256 (by decide) (by decide) (k0_off5 i 2#32) rfl (lane_off i 2 (by decide)) rfl rfl _ _ _ z

theorem wide_run41 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x1 : Vec F S28x148 .f32) (x4 : Vec F S3584x512 .fp8e4m3) :
    View.PiecesOf (wide i x1 x4) (run41 c i arg1 harg1 arg2 harg2 arg3 harg3 arg4 harg4 arg5 harg5 arg6 harg6 arg7 harg7 arg8 harg8 arg9 harg9 arg10 harg10 arg11 harg11 arg12 harg12 arg13 x1 x4).1 := by
  dsimp only [run41]
  refine ⟨?_, ?_, ?_, ?_, ?_, ?_, ?_, ?_, ?_, ?_, trivial⟩
  · intro z; exact tile_ok i x1 x4 arg2 harg2 arg5 harg5 7 1 896 128 (by decide) (by decide) (k0_off10 i 1#32) rfl (lane_off i 1 (by decide)) rfl rfl _ _ _ z
  · intro z; exact tile_ok i x1 x4 arg2 harg2 arg5 harg5 7 0 896 0 (by decide) (by decide) (k0_off10 i 0#32) rfl (lane_off i 0 (by decide)) rfl rfl _ _ _ z
  · intro z; exact tile_ok i x1 x4 arg2 harg2 arg5 harg5 6 3 768 384 (by decide) (by decide) (k0_off9 i 3#32) rfl (lane_off i 3 (by decide)) rfl rfl _ _ _ z
  · intro z; exact tile_ok i x1 x4 arg2 harg2 arg5 harg5 6 2 768 256 (by decide) (by decide) (k0_off9 i 2#32) rfl (lane_off i 2 (by decide)) rfl rfl _ _ _ z
  · intro z; exact tile_ok i x1 x4 arg2 harg2 arg5 harg5 6 1 768 128 (by decide) (by decide) (k0_off9 i 1#32) rfl (lane_off i 1 (by decide)) rfl rfl _ _ _ z
  · intro z; exact tile_ok i x1 x4 arg2 harg2 arg5 harg5 6 0 768 0 (by decide) (by decide) (k0_off9 i 0#32) rfl (lane_off i 0 (by decide)) rfl rfl _ _ _ z
  · intro z; exact tile_ok i x1 x4 arg2 harg2 arg5 harg5 5 3 640 384 (by decide) (by decide) (k0_off8 i 3#32) rfl (lane_off i 3 (by decide)) rfl rfl _ _ _ z
  · intro z; exact tile_ok i x1 x4 arg2 harg2 arg5 harg5 5 2 640 256 (by decide) (by decide) (k0_off8 i 2#32) rfl (lane_off i 2 (by decide)) rfl rfl _ _ _ z
  · intro z; exact tile_ok i x1 x4 arg2 harg2 arg5 harg5 5 1 640 128 (by decide) (by decide) (k0_off8 i 1#32) rfl (lane_off i 1 (by decide)) rfl rfl _ _ _ z
  · intro z; exact tile_ok i x1 x4 arg2 harg2 arg5 harg5 5 0 640 0 (by decide) (by decide) (k0_off8 i 0#32) rfl (lane_off i 0 (by decide)) rfl rfl _ _ _ z

theorem wide_run44 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x1 : Vec F S28x148 .f32) (x4 : Vec F S3584x512 .fp8e4m3) :
    View.PiecesOf (wide i x1 x4) (run44 c i arg1 harg1 arg2 harg2 arg3 harg3 arg4 harg4 arg5 harg5 arg6 harg6 arg7 harg7 arg8 harg8 arg9 harg9 arg10 harg10 arg11 harg11 arg12 harg12 arg13 x1 x4).1 := by
  dsimp only [run44]
  refine ⟨?_, ?_, ?_, ?_, ?_, ?_, ?_, ?_, ?_, ?_, trivial⟩
  · intro z; exact tile_ok i x1 x4 arg2 harg2 arg5 harg5 9 3 1152 384 (by decide) (by decide) (k0_off12 i 3#32) rfl (lane_off i 3 (by decide)) rfl rfl _ _ _ z
  · intro z; exact tile_ok i x1 x4 arg2 harg2 arg5 harg5 9 2 1152 256 (by decide) (by decide) (k0_off12 i 2#32) rfl (lane_off i 2 (by decide)) rfl rfl _ _ _ z
  · intro z; exact tile_ok i x1 x4 arg2 harg2 arg5 harg5 9 1 1152 128 (by decide) (by decide) (k0_off12 i 1#32) rfl (lane_off i 1 (by decide)) rfl rfl _ _ _ z
  · intro z; exact tile_ok i x1 x4 arg2 harg2 arg5 harg5 9 0 1152 0 (by decide) (by decide) (k0_off12 i 0#32) rfl (lane_off i 0 (by decide)) rfl rfl _ _ _ z
  · intro z; exact tile_ok i x1 x4 arg2 harg2 arg5 harg5 8 3 1024 384 (by decide) (by decide) (k0_off11 i 3#32) rfl (lane_off i 3 (by decide)) rfl rfl _ _ _ z
  · intro z; exact tile_ok i x1 x4 arg2 harg2 arg5 harg5 8 2 1024 256 (by decide) (by decide) (k0_off11 i 2#32) rfl (lane_off i 2 (by decide)) rfl rfl _ _ _ z
  · intro z; exact tile_ok i x1 x4 arg2 harg2 arg5 harg5 8 1 1024 128 (by decide) (by decide) (k0_off11 i 1#32) rfl (lane_off i 1 (by decide)) rfl rfl _ _ _ z
  · intro z; exact tile_ok i x1 x4 arg2 harg2 arg5 harg5 8 0 1024 0 (by decide) (by decide) (k0_off11 i 0#32) rfl (lane_off i 0 (by decide)) rfl rfl _ _ _ z
  · intro z; exact tile_ok i x1 x4 arg2 harg2 arg5 harg5 7 3 896 384 (by decide) (by decide) (k0_off10 i 3#32) rfl (lane_off i 3 (by decide)) rfl rfl _ _ _ z
  · intro z; exact tile_ok i x1 x4 arg2 harg2 arg5 harg5 7 2 896 256 (by decide) (by decide) (k0_off10 i 2#32) rfl (lane_off i 2 (by decide)) rfl rfl _ _ _ z

theorem wide_run47 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x1 : Vec F S28x148 .f32) (x4 : Vec F S3584x512 .fp8e4m3) :
    View.PiecesOf (wide i x1 x4) (run47 c i arg1 harg1 arg2 harg2 arg3 harg3 arg4 harg4 arg5 harg5 arg6 harg6 arg7 harg7 arg8 harg8 arg9 harg9 arg10 harg10 arg11 harg11 arg12 harg12 arg13 x1 x4).1 := by
  dsimp only [run47]
  refine ⟨?_, ?_, ?_, ?_, ?_, ?_, ?_, ?_, ?_, ?_, trivial⟩
  · intro z; exact tile_ok i x1 x4 arg2 harg2 arg5 harg5 12 1 1536 128 (by decide) (by decide) (k0_off15 i 1#32) rfl (lane_off i 1 (by decide)) rfl rfl _ _ _ z
  · intro z; exact tile_ok i x1 x4 arg2 harg2 arg5 harg5 12 0 1536 0 (by decide) (by decide) (k0_off15 i 0#32) rfl (lane_off i 0 (by decide)) rfl rfl _ _ _ z
  · intro z; exact tile_ok i x1 x4 arg2 harg2 arg5 harg5 11 3 1408 384 (by decide) (by decide) (k0_off14 i 3#32) rfl (lane_off i 3 (by decide)) rfl rfl _ _ _ z
  · intro z; exact tile_ok i x1 x4 arg2 harg2 arg5 harg5 11 2 1408 256 (by decide) (by decide) (k0_off14 i 2#32) rfl (lane_off i 2 (by decide)) rfl rfl _ _ _ z
  · intro z; exact tile_ok i x1 x4 arg2 harg2 arg5 harg5 11 1 1408 128 (by decide) (by decide) (k0_off14 i 1#32) rfl (lane_off i 1 (by decide)) rfl rfl _ _ _ z
  · intro z; exact tile_ok i x1 x4 arg2 harg2 arg5 harg5 11 0 1408 0 (by decide) (by decide) (k0_off14 i 0#32) rfl (lane_off i 0 (by decide)) rfl rfl _ _ _ z
  · intro z; exact tile_ok i x1 x4 arg2 harg2 arg5 harg5 10 3 1280 384 (by decide) (by decide) (k0_off13 i 3#32) rfl (lane_off i 3 (by decide)) rfl rfl _ _ _ z
  · intro z; exact tile_ok i x1 x4 arg2 harg2 arg5 harg5 10 2 1280 256 (by decide) (by decide) (k0_off13 i 2#32) rfl (lane_off i 2 (by decide)) rfl rfl _ _ _ z
  · intro z; exact tile_ok i x1 x4 arg2 harg2 arg5 harg5 10 1 1280 128 (by decide) (by decide) (k0_off13 i 1#32) rfl (lane_off i 1 (by decide)) rfl rfl _ _ _ z
  · intro z; exact tile_ok i x1 x4 arg2 harg2 arg5 harg5 10 0 1280 0 (by decide) (by decide) (k0_off13 i 0#32) rfl (lane_off i 0 (by decide)) rfl rfl _ _ _ z

theorem wide_run50 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x1 : Vec F S28x148 .f32) (x4 : Vec F S3584x512 .fp8e4m3) :
    View.PiecesOf (wide i x1 x4) (run50 c i arg1 harg1 arg2 harg2 arg3 harg3 arg4 harg4 arg5 harg5 arg6 harg6 arg7 harg7 arg8 harg8 arg9 harg9 arg10 harg10 arg11 harg11 arg12 harg12 arg13 x1 x4).1 := by
  dsimp only [run50]
  refine ⟨?_, ?_, ?_, ?_, ?_, ?_, ?_, ?_, ?_, ?_, trivial⟩
  · intro z; exact tile_ok i x1 x4 arg2 harg2 arg5 harg5 14 3 1792 384 (by decide) (by decide) (k0_off17 i 3#32) rfl (lane_off i 3 (by decide)) rfl rfl _ _ _ z
  · intro z; exact tile_ok i x1 x4 arg2 harg2 arg5 harg5 14 2 1792 256 (by decide) (by decide) (k0_off17 i 2#32) rfl (lane_off i 2 (by decide)) rfl rfl _ _ _ z
  · intro z; exact tile_ok i x1 x4 arg2 harg2 arg5 harg5 14 1 1792 128 (by decide) (by decide) (k0_off17 i 1#32) rfl (lane_off i 1 (by decide)) rfl rfl _ _ _ z
  · intro z; exact tile_ok i x1 x4 arg2 harg2 arg5 harg5 14 0 1792 0 (by decide) (by decide) (k0_off17 i 0#32) rfl (lane_off i 0 (by decide)) rfl rfl _ _ _ z
  · intro z; exact tile_ok i x1 x4 arg2 harg2 arg5 harg5 13 3 1664 384 (by decide) (by decide) (k0_off16 i 3#32) rfl (lane_off i 3 (by decide)) rfl rfl _ _ _ z
  · intro z; exact tile_ok i x1 x4 arg2 harg2 arg5 harg5 13 2 1664 256 (by decide) (by decide) (k0_off16 i 2#32) rfl (lane_off i 2 (by decide)) rfl rfl _ _ _ z
  · intro z; exact tile_ok i x1 x4 arg2 harg2 arg5 harg5 13 1 1664 128 (by decide) (by decide) (k0_off16 i 1#32) rfl (lane_off i 1 (by decide)) rfl rfl _ _ _ z
  · intro z; exact tile_ok i x1 x4 arg2 harg2 arg5 harg5 13 0 1664 0 (by decide) (by decide) (k0_off16 i 0#32) rfl (lane_off i 0 (by decide)) rfl rfl _ _ _ z
  · intro z; exact tile_ok i x1 x4 arg2 harg2 arg5 harg5 12 3 1536 384 (by decide) (by decide) (k0_off15 i 3#32) rfl (lane_off i 3 (by decide)) rfl rfl _ _ _ z
  · intro z; exact tile_ok i x1 x4 arg2 harg2 arg5 harg5 12 2 1536 256 (by decide) (by decide) (k0_off15 i 2#32) rfl (lane_off i 2 (by decide)) rfl rfl _ _ _ z

theorem wide_run53 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x1 : Vec F S28x148 .f32) (x4 : Vec F S3584x512 .fp8e4m3) :
    View.PiecesOf (wide i x1 x4) (run53 c i arg1 harg1 arg2 harg2 arg3 harg3 arg4 harg4 arg5 harg5 arg6 harg6 arg7 harg7 arg8 harg8 arg9 harg9 arg10 harg10 arg11 harg11 arg12 harg12 arg13 x1 x4).1 := by
  dsimp only [run53]
  refine ⟨?_, ?_, ?_, ?_, ?_, ?_, ?_, ?_, ?_, ?_, trivial⟩
  · intro z; exact tile_ok i x1 x4 arg2 harg2 arg5 harg5 17 1 2176 128 (by decide) (by decide) (k0_off20 i 1#32) rfl (lane_off i 1 (by decide)) rfl rfl _ _ _ z
  · intro z; exact tile_ok i x1 x4 arg2 harg2 arg5 harg5 17 0 2176 0 (by decide) (by decide) (k0_off20 i 0#32) rfl (lane_off i 0 (by decide)) rfl rfl _ _ _ z
  · intro z; exact tile_ok i x1 x4 arg2 harg2 arg5 harg5 16 3 2048 384 (by decide) (by decide) (k0_off19 i 3#32) rfl (lane_off i 3 (by decide)) rfl rfl _ _ _ z
  · intro z; exact tile_ok i x1 x4 arg2 harg2 arg5 harg5 16 2 2048 256 (by decide) (by decide) (k0_off19 i 2#32) rfl (lane_off i 2 (by decide)) rfl rfl _ _ _ z
  · intro z; exact tile_ok i x1 x4 arg2 harg2 arg5 harg5 16 1 2048 128 (by decide) (by decide) (k0_off19 i 1#32) rfl (lane_off i 1 (by decide)) rfl rfl _ _ _ z
  · intro z; exact tile_ok i x1 x4 arg2 harg2 arg5 harg5 16 0 2048 0 (by decide) (by decide) (k0_off19 i 0#32) rfl (lane_off i 0 (by decide)) rfl rfl _ _ _ z
  · intro z; exact tile_ok i x1 x4 arg2 harg2 arg5 harg5 15 3 1920 384 (by decide) (by decide) (k0_off18 i 3#32) rfl (lane_off i 3 (by decide)) rfl rfl _ _ _ z
  · intro z; exact tile_ok i x1 x4 arg2 harg2 arg5 harg5 15 2 1920 256 (by decide) (by decide) (k0_off18 i 2#32) rfl (lane_off i 2 (by decide)) rfl rfl _ _ _ z
  · intro z; exact tile_ok i x1 x4 arg2 harg2 arg5 harg5 15 1 1920 128 (by decide) (by decide) (k0_off18 i 1#32) rfl (lane_off i 1 (by decide)) rfl rfl _ _ _ z
  · intro z; exact tile_ok i x1 x4 arg2 harg2 arg5 harg5 15 0 1920 0 (by decide) (by decide) (k0_off18 i 0#32) rfl (lane_off i 0 (by decide)) rfl rfl _ _ _ z

theorem wide_run56 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x1 : Vec F S28x148 .f32) (x4 : Vec F S3584x512 .fp8e4m3) :
    View.PiecesOf (wide i x1 x4) (run56 c i arg1 harg1 arg2 harg2 arg3 harg3 arg4 harg4 arg5 harg5 arg6 harg6 arg7 harg7 arg8 harg8 arg9 harg9 arg10 harg10 arg11 harg11 arg12 harg12 arg13 x1 x4).1 := by
  dsimp only [run56]
  refine ⟨?_, ?_, ?_, ?_, ?_, ?_, ?_, ?_, ?_, ?_, trivial⟩
  · intro z; exact tile_ok i x1 x4 arg2 harg2 arg5 harg5 19 3 2432 384 (by decide) (by decide) (k0_off22 i 3#32) rfl (lane_off i 3 (by decide)) rfl rfl _ _ _ z
  · intro z; exact tile_ok i x1 x4 arg2 harg2 arg5 harg5 19 2 2432 256 (by decide) (by decide) (k0_off22 i 2#32) rfl (lane_off i 2 (by decide)) rfl rfl _ _ _ z
  · intro z; exact tile_ok i x1 x4 arg2 harg2 arg5 harg5 19 1 2432 128 (by decide) (by decide) (k0_off22 i 1#32) rfl (lane_off i 1 (by decide)) rfl rfl _ _ _ z
  · intro z; exact tile_ok i x1 x4 arg2 harg2 arg5 harg5 19 0 2432 0 (by decide) (by decide) (k0_off22 i 0#32) rfl (lane_off i 0 (by decide)) rfl rfl _ _ _ z
  · intro z; exact tile_ok i x1 x4 arg2 harg2 arg5 harg5 18 3 2304 384 (by decide) (by decide) (k0_off21 i 3#32) rfl (lane_off i 3 (by decide)) rfl rfl _ _ _ z
  · intro z; exact tile_ok i x1 x4 arg2 harg2 arg5 harg5 18 2 2304 256 (by decide) (by decide) (k0_off21 i 2#32) rfl (lane_off i 2 (by decide)) rfl rfl _ _ _ z
  · intro z; exact tile_ok i x1 x4 arg2 harg2 arg5 harg5 18 1 2304 128 (by decide) (by decide) (k0_off21 i 1#32) rfl (lane_off i 1 (by decide)) rfl rfl _ _ _ z
  · intro z; exact tile_ok i x1 x4 arg2 harg2 arg5 harg5 18 0 2304 0 (by decide) (by decide) (k0_off21 i 0#32) rfl (lane_off i 0 (by decide)) rfl rfl _ _ _ z
  · intro z; exact tile_ok i x1 x4 arg2 harg2 arg5 harg5 17 3 2176 384 (by decide) (by decide) (k0_off20 i 3#32) rfl (lane_off i 3 (by decide)) rfl rfl _ _ _ z
  · intro z; exact tile_ok i x1 x4 arg2 harg2 arg5 harg5 17 2 2176 256 (by decide) (by decide) (k0_off20 i 2#32) rfl (lane_off i 2 (by decide)) rfl rfl _ _ _ z

theorem wide_run59 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x1 : Vec F S28x148 .f32) (x4 : Vec F S3584x512 .fp8e4m3) :
    View.PiecesOf (wide i x1 x4) (run59 c i arg1 harg1 arg2 harg2 arg3 harg3 arg4 harg4 arg5 harg5 arg6 harg6 arg7 harg7 arg8 harg8 arg9 harg9 arg10 harg10 arg11 harg11 arg12 harg12 arg13 x1 x4).1 := by
  dsimp only [run59]
  refine ⟨?_, ?_, ?_, ?_, ?_, ?_, ?_, ?_, ?_, ?_, trivial⟩
  · intro z; exact tile_ok i x1 x4 arg2 harg2 arg5 harg5 22 1 2816 128 (by decide) (by decide) (k0_off25 i 1#32) rfl (lane_off i 1 (by decide)) rfl rfl _ _ _ z
  · intro z; exact tile_ok i x1 x4 arg2 harg2 arg5 harg5 22 0 2816 0 (by decide) (by decide) (k0_off25 i 0#32) rfl (lane_off i 0 (by decide)) rfl rfl _ _ _ z
  · intro z; exact tile_ok i x1 x4 arg2 harg2 arg5 harg5 21 3 2688 384 (by decide) (by decide) (k0_off24 i 3#32) rfl (lane_off i 3 (by decide)) rfl rfl _ _ _ z
  · intro z; exact tile_ok i x1 x4 arg2 harg2 arg5 harg5 21 2 2688 256 (by decide) (by decide) (k0_off24 i 2#32) rfl (lane_off i 2 (by decide)) rfl rfl _ _ _ z
  · intro z; exact tile_ok i x1 x4 arg2 harg2 arg5 harg5 21 1 2688 128 (by decide) (by decide) (k0_off24 i 1#32) rfl (lane_off i 1 (by decide)) rfl rfl _ _ _ z
  · intro z; exact tile_ok i x1 x4 arg2 harg2 arg5 harg5 21 0 2688 0 (by decide) (by decide) (k0_off24 i 0#32) rfl (lane_off i 0 (by decide)) rfl rfl _ _ _ z
  · intro z; exact tile_ok i x1 x4 arg2 harg2 arg5 harg5 20 3 2560 384 (by decide) (by decide) (k0_off23 i 3#32) rfl (lane_off i 3 (by decide)) rfl rfl _ _ _ z
  · intro z; exact tile_ok i x1 x4 arg2 harg2 arg5 harg5 20 2 2560 256 (by decide) (by decide) (k0_off23 i 2#32) rfl (lane_off i 2 (by decide)) rfl rfl _ _ _ z
  · intro z; exact tile_ok i x1 x4 arg2 harg2 arg5 harg5 20 1 2560 128 (by decide) (by decide) (k0_off23 i 1#32) rfl (lane_off i 1 (by decide)) rfl rfl _ _ _ z
  · intro z; exact tile_ok i x1 x4 arg2 harg2 arg5 harg5 20 0 2560 0 (by decide) (by decide) (k0_off23 i 0#32) rfl (lane_off i 0 (by decide)) rfl rfl _ _ _ z

theorem wide_run62 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x1 : Vec F S28x148 .f32) (x4 : Vec F S3584x512 .fp8e4m3) :
    View.PiecesOf (wide i x1 x4) (run62 c i arg1 harg1 arg2 harg2 arg3 harg3 arg4 harg4 arg5 harg5 arg6 harg6 arg7 harg7 arg8 harg8 arg9 harg9 arg10 harg10 arg11 harg11 arg12 harg12 arg13 x1 x4).1 := by
  dsimp only [run62]
  refine ⟨?_, ?_, ?_, ?_, ?_, ?_, ?_, ?_, ?_, ?_, trivial⟩
  · intro z; exact tile_ok i x1 x4 arg2 harg2 arg5 harg5 24 3 3072 384 (by decide) (by decide) (k0_off27 i 3#32) rfl (lane_off i 3 (by decide)) rfl rfl _ _ _ z
  · intro z; exact tile_ok i x1 x4 arg2 harg2 arg5 harg5 24 2 3072 256 (by decide) (by decide) (k0_off27 i 2#32) rfl (lane_off i 2 (by decide)) rfl rfl _ _ _ z
  · intro z; exact tile_ok i x1 x4 arg2 harg2 arg5 harg5 24 1 3072 128 (by decide) (by decide) (k0_off27 i 1#32) rfl (lane_off i 1 (by decide)) rfl rfl _ _ _ z
  · intro z; exact tile_ok i x1 x4 arg2 harg2 arg5 harg5 24 0 3072 0 (by decide) (by decide) (k0_off27 i 0#32) rfl (lane_off i 0 (by decide)) rfl rfl _ _ _ z
  · intro z; exact tile_ok i x1 x4 arg2 harg2 arg5 harg5 23 3 2944 384 (by decide) (by decide) (k0_off26 i 3#32) rfl (lane_off i 3 (by decide)) rfl rfl _ _ _ z
  · intro z; exact tile_ok i x1 x4 arg2 harg2 arg5 harg5 23 2 2944 256 (by decide) (by decide) (k0_off26 i 2#32) rfl (lane_off i 2 (by decide)) rfl rfl _ _ _ z
  · intro z; exact tile_ok i x1 x4 arg2 harg2 arg5 harg5 23 1 2944 128 (by decide) (by decide) (k0_off26 i 1#32) rfl (lane_off i 1 (by decide)) rfl rfl _ _ _ z
  · intro z; exact tile_ok i x1 x4 arg2 harg2 arg5 harg5 23 0 2944 0 (by decide) (by decide) (k0_off26 i 0#32) rfl (lane_off i 0 (by decide)) rfl rfl _ _ _ z
  · intro z; exact tile_ok i x1 x4 arg2 harg2 arg5 harg5 22 3 2816 384 (by decide) (by decide) (k0_off25 i 3#32) rfl (lane_off i 3 (by decide)) rfl rfl _ _ _ z
  · intro z; exact tile_ok i x1 x4 arg2 harg2 arg5 harg5 22 2 2816 256 (by decide) (by decide) (k0_off25 i 2#32) rfl (lane_off i 2 (by decide)) rfl rfl _ _ _ z

theorem wide_run65 (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x1 : Vec F S28x148 .f32) (x4 : Vec F S3584x512 .fp8e4m3) :
    View.PiecesOf (wide i x1 x4) (run65 c i arg1 harg1 arg2 harg2 arg3 harg3 arg4 harg4 arg5 harg5 arg6 harg6 arg7 harg7 arg8 harg8 arg9 harg9 arg10 harg10 arg11 harg11 arg12 harg12 arg13 x1 x4).1 := by
  dsimp only [run65]
  refine ⟨?_, ?_, ?_, ?_, ?_, ?_, ?_, ?_, ?_, ?_, trivial⟩
  · intro z; exact tile_ok i x1 x4 arg2 harg2 arg5 harg5 27 1 3456 128 (by decide) (by decide) (k0_off30 i 1#32) rfl (lane_off i 1 (by decide)) rfl rfl _ _ _ z
  · intro z; exact tile_ok i x1 x4 arg2 harg2 arg5 harg5 27 0 3456 0 (by decide) (by decide) (k0_off30 i 0#32) rfl (lane_off i 0 (by decide)) rfl rfl _ _ _ z
  · intro z; exact tile_ok i x1 x4 arg2 harg2 arg5 harg5 26 3 3328 384 (by decide) (by decide) (k0_off29 i 3#32) rfl (lane_off i 3 (by decide)) rfl rfl _ _ _ z
  · intro z; exact tile_ok i x1 x4 arg2 harg2 arg5 harg5 26 2 3328 256 (by decide) (by decide) (k0_off29 i 2#32) rfl (lane_off i 2 (by decide)) rfl rfl _ _ _ z
  · intro z; exact tile_ok i x1 x4 arg2 harg2 arg5 harg5 26 1 3328 128 (by decide) (by decide) (k0_off29 i 1#32) rfl (lane_off i 1 (by decide)) rfl rfl _ _ _ z
  · intro z; exact tile_ok i x1 x4 arg2 harg2 arg5 harg5 26 0 3328 0 (by decide) (by decide) (k0_off29 i 0#32) rfl (lane_off i 0 (by decide)) rfl rfl _ _ _ z
  · intro z; exact tile_ok i x1 x4 arg2 harg2 arg5 harg5 25 3 3200 384 (by decide) (by decide) (k0_off28 i 3#32) rfl (lane_off i 3 (by decide)) rfl rfl _ _ _ z
  · intro z; exact tile_ok i x1 x4 arg2 harg2 arg5 harg5 25 2 3200 256 (by decide) (by decide) (k0_off28 i 2#32) rfl (lane_off i 2 (by decide)) rfl rfl _ _ _ z
  · intro z; exact tile_ok i x1 x4 arg2 harg2 arg5 harg5 25 1 3200 128 (by decide) (by decide) (k0_off28 i 1#32) rfl (lane_off i 1 (by decide)) rfl rfl _ _ _ z
  · intro z; exact tile_ok i x1 x4 arg2 harg2 arg5 harg5 25 0 3200 0 (by decide) (by decide) (k0_off28 i 0#32) rfl (lane_off i 0 (by decide)) rfl rfl _ _ _ z

theorem gate_pieces (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 : Vec F S28x148 .f32) (x3 : Vec F S3584x512 .fp8e4m3) :
    View.PiecesOf (wide i x0 x3) (gateTiles c i arg1 harg1 arg2 harg2 arg3 harg3 arg4 harg4 arg5 harg5 arg6 harg6 arg7 harg7 arg8 harg8 arg9 harg9 arg10 harg10 arg11 harg11 arg12 harg12 arg13 x0 x3) :=
  piecesOf_append (wide_run32 c i arg1 harg1 arg2 harg2 arg3 harg3 arg4 harg4 arg5 harg5 arg6 harg6 arg7 harg7 arg8 harg8 arg9 harg9 arg10 harg10 arg11 harg11 arg12 harg12 arg13 x0 x3) (piecesOf_append (wide_run29 c i arg1 harg1 arg2 harg2 arg3 harg3 arg4 harg4 arg5 harg5 arg6 harg6 arg7 harg7 arg8 harg8 arg9 harg9 arg10 harg10 arg11 harg11 arg12 harg12 arg13 x0 x3) (piecesOf_append (wide_run26 c i arg1 harg1 arg2 harg2 arg3 harg3 arg4 harg4 arg5 harg5 arg6 harg6 arg7 harg7 arg8 harg8 arg9 harg9 arg10 harg10 arg11 harg11 arg12 harg12 arg13 x0 x3) (piecesOf_append (wide_run23 c i arg1 harg1 arg2 harg2 arg3 harg3 arg4 harg4 arg5 harg5 arg6 harg6 arg7 harg7 arg8 harg8 arg9 harg9 arg10 harg10 arg11 harg11 arg12 harg12 arg13 x0 x3) (piecesOf_append (wide_run20 c i arg1 harg1 arg2 harg2 arg3 harg3 arg4 harg4 arg5 harg5 arg6 harg6 arg7 harg7 arg8 harg8 arg9 harg9 arg10 harg10 arg11 harg11 arg12 harg12 arg13 x0 x3) (piecesOf_append (wide_run17 c i arg1 harg1 arg2 harg2 arg3 harg3 arg4 harg4 arg5 harg5 arg6 harg6 arg7 harg7 arg8 harg8 arg9 harg9 arg10 harg10 arg11 harg11 arg12 harg12 arg13 x0 x3) (piecesOf_append (wide_run14 c i arg1 harg1 arg2 harg2 arg3 harg3 arg4 harg4 arg5 harg5 arg6 harg6 arg7 harg7 arg8 harg8 arg9 harg9 arg10 harg10 arg11 harg11 arg12 harg12 arg13 x0 x3) (piecesOf_append (wide_run11 c i arg1 harg1 arg2 harg2 arg3 harg3 arg4 harg4 arg5 harg5 arg6 harg6 arg7 harg7 arg8 harg8 arg9 harg9 arg10 harg10 arg11 harg11 arg12 harg12 arg13 x0 x3) (piecesOf_append (wide_run8 c i arg1 harg1 arg2 harg2 arg3 harg3 arg4 harg4 arg5 harg5 arg6 harg6 arg7 harg7 arg8 harg8 arg9 harg9 arg10 harg10 arg11 harg11 arg12 harg12 arg13 x0 x3) (piecesOf_append (wide_run5 c i arg1 harg1 arg2 harg2 arg3 harg3 arg4 harg4 arg5 harg5 arg6 harg6 arg7 harg7 arg8 harg8 arg9 harg9 arg10 harg10 arg11 harg11 arg12 harg12 arg13 x0 x3) (piecesOf_append (wide_run2 c i arg1 harg1 arg2 harg2 arg3 harg3 arg4 harg4 arg5 harg5 arg6 harg6 arg7 harg7 arg8 harg8 arg9 harg9 arg10 harg10 arg11 harg11 arg12 harg12 arg13 x0 x3) (wide_run1 c i arg1 harg1 arg2 harg2 arg3 harg3 arg4 harg4 arg5 harg5 arg6 harg6 arg7 harg7 arg8 harg8 arg9 harg9 arg10 harg10 arg11 harg11 arg12 harg12 arg13 x0 x3)))))))))))

theorem up_pieces (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x1 : Vec F S28x148 .f32) (x4 : Vec F S3584x512 .fp8e4m3) :
    View.PiecesOf (wide i x1 x4) (upTiles c i arg1 harg1 arg2 harg2 arg3 harg3 arg4 harg4 arg5 harg5 arg6 harg6 arg7 harg7 arg8 harg8 arg9 harg9 arg10 harg10 arg11 harg11 arg12 harg12 arg13 x1 x4) :=
  piecesOf_append (wide_run65 c i arg1 harg1 arg2 harg2 arg3 harg3 arg4 harg4 arg5 harg5 arg6 harg6 arg7 harg7 arg8 harg8 arg9 harg9 arg10 harg10 arg11 harg11 arg12 harg12 arg13 x1 x4) (piecesOf_append (wide_run62 c i arg1 harg1 arg2 harg2 arg3 harg3 arg4 harg4 arg5 harg5 arg6 harg6 arg7 harg7 arg8 harg8 arg9 harg9 arg10 harg10 arg11 harg11 arg12 harg12 arg13 x1 x4) (piecesOf_append (wide_run59 c i arg1 harg1 arg2 harg2 arg3 harg3 arg4 harg4 arg5 harg5 arg6 harg6 arg7 harg7 arg8 harg8 arg9 harg9 arg10 harg10 arg11 harg11 arg12 harg12 arg13 x1 x4) (piecesOf_append (wide_run56 c i arg1 harg1 arg2 harg2 arg3 harg3 arg4 harg4 arg5 harg5 arg6 harg6 arg7 harg7 arg8 harg8 arg9 harg9 arg10 harg10 arg11 harg11 arg12 harg12 arg13 x1 x4) (piecesOf_append (wide_run53 c i arg1 harg1 arg2 harg2 arg3 harg3 arg4 harg4 arg5 harg5 arg6 harg6 arg7 harg7 arg8 harg8 arg9 harg9 arg10 harg10 arg11 harg11 arg12 harg12 arg13 x1 x4) (piecesOf_append (wide_run50 c i arg1 harg1 arg2 harg2 arg3 harg3 arg4 harg4 arg5 harg5 arg6 harg6 arg7 harg7 arg8 harg8 arg9 harg9 arg10 harg10 arg11 harg11 arg12 harg12 arg13 x1 x4) (piecesOf_append (wide_run47 c i arg1 harg1 arg2 harg2 arg3 harg3 arg4 harg4 arg5 harg5 arg6 harg6 arg7 harg7 arg8 harg8 arg9 harg9 arg10 harg10 arg11 harg11 arg12 harg12 arg13 x1 x4) (piecesOf_append (wide_run44 c i arg1 harg1 arg2 harg2 arg3 harg3 arg4 harg4 arg5 harg5 arg6 harg6 arg7 harg7 arg8 harg8 arg9 harg9 arg10 harg10 arg11 harg11 arg12 harg12 arg13 x1 x4) (piecesOf_append (wide_run41 c i arg1 harg1 arg2 harg2 arg3 harg3 arg4 harg4 arg5 harg5 arg6 harg6 arg7 harg7 arg8 harg8 arg9 harg9 arg10 harg10 arg11 harg11 arg12 harg12 arg13 x1 x4) (piecesOf_append (wide_run38 c i arg1 harg1 arg2 harg2 arg3 harg3 arg4 harg4 arg5 harg5 arg6 harg6 arg7 harg7 arg8 harg8 arg9 harg9 arg10 harg10 arg11 harg11 arg12 harg12 arg13 x1 x4) (wide_run35 c i arg1 harg1 arg2 harg2 arg3 harg3 arg4 harg4 arg5 harg5 arg6 harg6 arg7 harg7 arg8 harg8 arg9 harg9 arg10 harg10 arg11 harg11 arg12 harg12 arg13 x1 x4))))))))))

theorem tail_pieces (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x1 : Vec F S28x148 .f32) (x4 : Vec F S3584x512 .fp8e4m3) :
    View.PiecesOf (wide i x1 x4) (tailRun c i arg1 harg1 arg2 harg2 arg3 harg3 arg4 harg4 arg5 harg5 arg6 harg6 arg7 harg7 arg8 harg8 arg9 harg9 arg10 harg10 arg11 harg11 arg12 harg12 arg13 x1 x4).1 := by
  dsimp only [tailRun]
  refine ⟨?_, ?_, trivial⟩
  · intro z; exact tile_ok i x1 x4 arg2 harg2 arg5 harg5 27 3 3456 384 (by decide) (by decide) (k0_off30 i 3#32) rfl (lane_off i 3 (by decide)) rfl rfl _ _ _ z
  · intro z; exact tile_ok i x1 x4 arg2 harg2 arg5 harg5 27 2 3456 256 (by decide) (by decide) (k0_off30 i 2#32) rfl (lane_off i 2 (by decide)) rfl rfl _ _ _ z

theorem gate_cover (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 : Vec F S28x148 .f32) (x3 : Vec F S3584x512 .fp8e4m3) :
    ∀ y : S3584x512.Idx, ∃ p ∈ gateTiles c i arg1 harg1 arg2 harg2 arg3 harg3 arg4 harg4 arg5 harg5 arg6 harg6 arg7 harg7 arg8 harg8 arg9 harg9 arg10 harg10 arg11 harg11 arg12 harg12 arg13 x0 x3, y ∈ p.1.set :=
  View.cover_of_tiledL _ S128x128.size (by sl_kernel_rfl)

theorem up_cover (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x1 : Vec F S28x148 .f32) (x4 : Vec F S3584x512 .fp8e4m3) :
    ∀ y : S3584x512.Idx, ∃ p ∈ (tailRun c i arg1 harg1 arg2 harg2 arg3 harg3 arg4 harg4 arg5 harg5 arg6 harg6 arg7 harg7 arg8 harg8 arg9 harg9 arg10 harg10 arg11 harg11 arg12 harg12 arg13 x1 x4).1 ++ upTiles c i arg1 harg1 arg2 harg2 arg3 harg3 arg4 harg4 arg5 harg5 arg6 harg6 arg7 harg7 arg8 harg8 arg9 harg9 arg10 harg10 arg11 harg11 arg12 harg12 arg13 x1 x4, y ∈ p.1.set :=
  View.cover_of_tiledL _ S128x128.size (by sl_kernel_rfl)

end Cert.KernelIdeal.Hand

end
-- ==== Proof.Flight.lean ====
/-
  The copy of `x` into `y`: 36 blocks of 256 rows, block `t` begun at point `t` and waited for at point `t + 1`. Canonical
  names for the blocks, what the invariant holds of them, and the runs of the wait and of the start.
-/
module

public import proofs.«01_k».proof.Proof.Prog

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The blocks -/

abbrev xM : Memref sig .tc .hbm S6x1536x3584 .bf16 := Memref.whole main_arg5
abbrev yM : Memref sig .tc .hbm S6x1536x3584 .bf16 := Memref.whole main_v0_3
abbrev dcell : SemLoc sig := SemLoc.dma cc0_scratch2.sem

abbrev blkOff (b : Fin 36) : Fin 3 → Nat := ![b.val / 6, b.val % 6 * 256, 0]
theorem blkOff_inb (b : Fin 36) : ∀ a, blkOff b a + S1x256x3584.size a ≤ S6x1536x3584.size a := by
  have := b.isLt; intro a; fin_cases a
  · show b.val / 6 + 1 ≤ 6; omega
  · show b.val % 6 * 256 + 256 ≤ 1536; omega
  · show 0 + 3584 ≤ 3584; omega
abbrev blkRect (b : Fin 36) : Rect S6x1536x3584 := Rect.unit (s := S6x1536x3584) (blkOff b) S1x256x3584.size (blkOff_inb b)

/-- Block `b` of `x`, as the body slices and squeezes it. -/
def xB (b : Fin 36) : Memref sig .tc .hbm S256x3584 .bf16 :=
  (xM.slice (blkRect b) (fun _ => rfl)).squeeze S256x3584 squeezes_S1x256x3584_S256x3584
/-- Block `b` of `y`. -/
def yB (b : Fin 36) : Memref sig .tc .hbm S256x3584 .bf16 :=
  (yM.slice (blkRect b) (fun _ => rfl)).squeeze S256x3584 squeezes_S1x256x3584_S256x3584

instance (b : Fin 36) : ClosedOff (blkOff b) := ⟨blkOff b, rfl⟩

/-- A point of the grid, by its number. -/
def atPt (j : Fin 37) : grid0.Coords := fun a => ⟨j.val, by fin_cases a; exact j.isLt⟩

/-- The offset of the block begun at a point, over the point's number. -/
theorem off2_eq (i : grid0.Coords) (b : Fin 36) (h : (i 0).val = b.val) : k0_off2 i = blkOff b := by
  have key : ∀ b : Fin 36, ∀ j : Fin 37, j.val = b.val → k0_off2 (atPt j) = blkOff b := by decide
  exact key b (i 0) h
/-- The offset of the block waited for at a point. -/
theorem off1_eq (i : grid0.Coords) (b : Fin 36) (h : (i 0).val = b.val + 1) : k0_off1 i = blkOff b := by
  have key : ∀ b : Fin 36, ∀ j : Fin 37, j.val = b.val + 1 → k0_off1 (atPt j) = blkOff b := by decide
  exact key b (i 0) h

theorem xB_congr {off : Fin 3 → Nat} {b : Fin 36} (e : off = blkOff b) (hh hs) :
    (xM.slice (Rect.unit (s := S6x1536x3584) off S1x256x3584.size hh) hs).squeeze S256x3584 squeezes_S1x256x3584_S256x3584 = xB b :=
  congrArg (fun M : Memref sig .tc .hbm S1x256x3584 .bf16 => M.squeeze S256x3584 squeezes_S1x256x3584_S256x3584) (Memref.slice_unit_congr _ e _ _ _ _)
theorem yB_congr {off : Fin 3 → Nat} {b : Fin 36} (e : off = blkOff b) (hh hs) :
    (yM.slice (Rect.unit (s := S6x1536x3584) off S1x256x3584.size hh) hs).squeeze S256x3584 squeezes_S1x256x3584_S256x3584 = yB b :=
  congrArg (fun M : Memref sig .tc .hbm S1x256x3584 .bf16 => M.squeeze S256x3584 squeezes_S1x256x3584_S256x3584) (Memref.slice_unit_congr _ e _ _ _ _)

/-- The block waited for at a point and the block begun there, by the point's number. -/
def prevB (i : grid0.Coords) : Fin 36 := ⟨((i 0).val - 1) % 36, Nat.mod_lt _ (by decide)⟩
def nextB (i : grid0.Coords) : Fin 36 := ⟨(i 0).val % 36, Nat.mod_lt _ (by decide)⟩
theorem i_lt (i : grid0.Coords) : (i 0).val < 37 := (i 0).isLt

@[sl_canon] theorem xPrev (i : grid0.Coords) (hj : 0 < (i 0).val) (hh hs) :
    (xM.slice (Rect.unit (s := S6x1536x3584) (k0_off1 i) S1x256x3584.size hh) hs).squeeze S256x3584 squeezes_S1x256x3584_S256x3584 = xB (prevB i) :=
  xB_congr (off1_eq i (prevB i) (by have := i_lt i; show (i 0).val = ((i 0).val - 1) % 36 + 1; omega)) _ _
@[sl_canon] theorem yPrev (i : grid0.Coords) (hj : 0 < (i 0).val) (hh hs) :
    (yM.slice (Rect.unit (s := S6x1536x3584) (k0_off1 i) S1x256x3584.size hh) hs).squeeze S256x3584 squeezes_S1x256x3584_S256x3584 = yB (prevB i) :=
  yB_congr (off1_eq i (prevB i) (by have := i_lt i; show (i 0).val = ((i 0).val - 1) % 36 + 1; omega)) _ _
@[sl_canon] theorem xNext (i : grid0.Coords) (hj : (i 0).val < 36) (hh hs) :
    (xM.slice (Rect.unit (s := S6x1536x3584) (k0_off2 i) S1x256x3584.size hh) hs).squeeze S256x3584 squeezes_S1x256x3584_S256x3584 = xB (nextB i) :=
  xB_congr (off2_eq i (nextB i) (by show (i 0).val = (i 0).val % 36; omega)) _ _
@[sl_canon] theorem yNext (i : grid0.Coords) (hj : (i 0).val < 36) (hh hs) :
    (yM.slice (Rect.unit (s := S6x1536x3584) (k0_off2 i) S1x256x3584.size hh) hs).squeeze S256x3584 squeezes_S1x256x3584_S256x3584 = yB (nextB i) :=
  yB_congr (off2_eq i (nextB i) (by show (i 0).val = (i 0).val % 36; omega)) _ _

theorem cond1_eq (i : grid0.Coords) : Iff (k0_cond1 i = 1#1) (0 < (i 0).val) := by
  have key : ∀ j : Fin 37, Iff (k0_cond1 (atPt j) = 1#1) (0 < j.val) := by decide
  exact key (i 0)
theorem cond2_eq (i : grid0.Coords) : Iff (k0_cond2 i = 1#1) ((i 0).val < 36) := by
  have key : ∀ j : Fin 37, Iff (k0_cond2 (atPt j) = 1#1) (j.val < 36) := by decide
  exact key (i 0)

/-! ## What is held of a block -/

section Pieces
variable (c : Dev nD) (XA : Buf (Elt F) (xM.view.loc (c : Thread nD τ))) (YA : Buf (Elt F) (yM.view.loc (c : Thread nD τ)))

abbrev cellP : sProp 𝕄 := semVal ((c : Thread nD τ), dcell) 0
abbrev xP (b : Fin 36) : sProp 𝕄 := (xB b).view.loc (c : Thread nD τ) ↦[(xB b).view.set]{fullShare} XA
abbrev yP (b : Fin 36) (f : Buf (Elt F) (yM.view.loc (c : Thread nD τ))) : sProp 𝕄 := (yB b).view.loc (c : Thread nD τ) ↦[(yB b).view.set]{fullShare} f
/-- Block `b` copied. -/
abbrev landed (b : Fin 36) : Buf (Elt F) (yM.view.loc (c : Thread nD τ)) :=
  (yB b).view.writes (Elt F) YA [⟨Rect.whole S256x3584, ReadAs.same.apply ((xB b).view.read (Elt F) XA)⟩]
/-- Block `b` on its way. -/
abbrev flightP (b : Fin 36) : sProp 𝕄 :=
  Transfers.Flight countersEmb (c : Thread nD τ) dcell () 57344 iprop(yP c b (landed c XA YA b) ∗ xP c XA b)

/-- The wait for the block begun at the point before: the two blocks come back. -/
theorem waitRun (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg11 : Memref sig .tc .vmem S3584x512 .bf16) (harg11 : arg11.IsWhole) (arg12 : Memref sig .tc .vmem S3584x512 .bf16) (harg12 : arg12.IsWhole) (hj : 0 < (i 0).val) (W : Waits sig Unit) (K : PUnit → sProp 𝕄) :
    iprop(flightP c XA YA (prevB i) ∗ owes (c : Thread nD τ) 0 W
        ∗ (iprop(yP c (prevB i) (landed c XA YA (prevB i)) ∗ xP c XA (prevB i) ∗ cellP c ∗ ∃ W', owes (c : Thread nD τ) 0 W') -∗ K ⟨⟩))
      ⊢ wp frame (wpE (defs₀ (F := F)) Variants.none c none) Set.univ
          (waitProg i arg1 harg1 arg2 harg2 arg3 harg3 arg4 harg4 arg5 harg5 xM (Memref.isWhole_whole _) arg7 harg7 arg8 harg8 arg9 harg9 yM (Memref.isWhole_whole _) arg11 harg11 arg12 harg12 cc0_scratch2) K := by
  have hc1 : k0_cond1 i = 1#1 := (cond1_eq i).2 hj
  unfold waitProg
  iintro ⟨HF, HW, Hk⟩
  sl_exec (disch := first | sl_exact hc1)
  sl_step
  iapply Hk
  isplitl [HF_dst]; · iexact HF_dst
  isplitl [HF_src]; · iexact HF_src
  isplitl [HF]; · iexact HF
  iexists _; iexact HW

/-- The start of the point's own block: it goes out. -/
theorem startRun (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg11 : Memref sig .tc .vmem S3584x512 .bf16) (harg11 : arg11.IsWhole) (arg12 : Memref sig .tc .vmem S3584x512 .bf16) (harg12 : arg12.IsWhole) (hj : (i 0).val < 36) (W : Waits sig Unit) (K : PUnit → sProp 𝕄) :
    iprop(yP c (nextB i) YA ∗ xP c XA (nextB i) ∗ cellP c ∗ owes (c : Thread nD τ) 0 W
        ∗ (iprop(flightP c XA YA (nextB i) ∗ ∃ W', owes (c : Thread nD τ) 0 W') -∗ K ⟨⟩))
      ⊢ wp frame (wpE (defs₀ (F := F)) Variants.none c none) Set.univ
          (startProg i arg1 harg1 arg2 harg2 arg3 harg3 arg4 harg4 arg5 harg5 xM (Memref.isWhole_whole _) arg7 harg7 arg8 harg8 arg9 harg9 yM (Memref.isWhole_whole _) arg11 harg11 arg12 harg12 cc0_scratch2) K := by
  have hc2 : k0_cond2 i = 1#1 := (cond2_eq i).2 hj
  unfold startProg
  iintro ⟨Hy, Hx, Hc, HW, Hk⟩
  sl_exec (disch := first | sl_exact hc2)
  sl_step
  iapply Hk
  isplitl [Hc]; · iexact Hc
  iexists _; iexact HW

end Pieces

end Cert.KernelIdeal.Hand

end
-- ==== Proof.Inv.lean ====
/-
  The copy's invariant: before point `n` block `n - 1` is on its way (none before the first point and after the last), the
  blocks from `n` on are as at the launch, the blocks before `n - 1` hold `x`'s contents in `y`. One point's step of it, and
  the two arrays as the union of their blocks.
-/
module

public import proofs.«01_k».proof.Proof.Flight

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section

omit [FloatOps F] in
theorem bigSep_insert' {I : Type} [DecidableEq I] {s : Finset I} {i : I} (hi : i ∉ s) {Φ : I → sProp 𝕄} :
    bigSep (insert i s) Φ = iprop(Φ i ∗ bigSep s Φ) := bigSep_insert hi

theorem mem_blk (b : Fin 36) (y : S6x1536x3584.Idx) : y ∈ (blkRect b).set ↔ (y 0).val * 6 + (y 1).val / 256 = b.val := by
  rw [Rect.mem_set_unit]
  have h0 : (y 0).val < 6 := (y 0).isLt
  have h1 : (y 1).val < 1536 := (y 1).isLt
  have h2 : (y 2).val < 3584 := (y 2).isLt
  have hb := b.isLt
  constructor
  · intro H
    have a0 : b.val / 6 ≤ (y 0).val ∧ (y 0).val < b.val / 6 + 1 := H 0
    have a1 : b.val % 6 * 256 ≤ (y 1).val ∧ (y 1).val < b.val % 6 * 256 + 256 := H 1
    omega
  · intro H i; fin_cases i
    · show b.val / 6 ≤ (y 0).val ∧ (y 0).val < b.val / 6 + 1; omega
    · show b.val % 6 * 256 ≤ (y 1).val ∧ (y 1).val < b.val % 6 * 256 + 256; omega
    · show 0 ≤ (y 2).val ∧ (y 2).val < 0 + 3584; omega

theorem blk_disjoint : ∀ b b' : Fin 36, b ≠ b' → Disjoint (blkRect b).set (blkRect b').set := by
  intro b b' hne; rw [Finset.disjoint_left]; intro y hy hy'; rw [mem_blk] at hy hy'; exact hne (Fin.ext (hy.symm.trans hy'))

theorem blk_cover : (Finset.univ : Finset (Fin 36)).biUnion (fun b => (blkRect b).set) = Finset.univ := by
  ext y
  simp only [Finset.mem_biUnion, Finset.mem_univ, true_and, iff_true]
  have h0 : (y 0).val < 6 := (y 0).isLt
  have h1 : (y 1).val < 1536 := (y 1).isLt
  exact ⟨⟨(y 0).val * 6 + (y 1).val / 256, by omega⟩, by rw [mem_blk]⟩

theorem xB_set (b : Fin 36) : (xB b).view.set = (blkRect b).set := (View.set_reshape _ _).trans (View.set_slice_whole _ _)
theorem yB_set (b : Fin 36) : (yB b).view.set = (blkRect b).set := (View.set_reshape _ _).trans (View.set_slice_whole _ _)

/-- The two arrays' blocks lie at the same places. -/
def blkEmb (b : Fin 36) (x : S256x3584.Idx) : S6x1536x3584.Idx :=
  (blkRect b).emb (Shape.reshapeEquiv (squeezes_S1x256x3584_S256x3584).numel_eq x)
theorem xB_emb (b : Fin 36) (x : S256x3584.Idx) : (xB b).view.emb x = blkEmb b x := rfl
theorem yB_emb (b : Fin 36) (x : S256x3584.Idx) : (yB b).view.emb x = blkEmb b x := rfl

end

omit [FloatOps F] in
theorem entails_of_eq {P Q : sProp 𝕄} (e : P = Q) : P ⊢ Q := e ▸ .rfl

section Inv
variable (c : Dev nD) (XA : Buf (Elt F) (xM.view.loc (c : Thread nD τ))) (YA : Buf (Elt F) (yM.view.loc (c : Thread nD τ)))

/-- `x`'s contents, as contents of `y`. -/
abbrev copied : Buf (Elt F) (yM.view.loc (c : Thread nD τ)) := XA

theorem read_xB (b : Fin 36) (x : S256x3584.Idx) : (xB b).view.read (Elt F) XA x = XA (blkEmb b x) := rfl
theorem read_yB (b : Fin 36) (x : S256x3584.Idx) (f : Buf (Elt F) (yM.view.loc (c : Thread nD τ))) : (yB b).view.read (Elt F) f x = f (blkEmb b x) := rfl
theorem read_landed (b : Fin 36) : (yB b).view.read (Elt F) (landed c XA YA b) = (xB b).view.read (Elt F) XA :=
  View.read_writes_whole (yB b).view YA _
theorem read_copied (b : Fin 36) : (yB b).view.read (Elt F) (copied c XA) = (xB b).view.read (Elt F) XA := by
  funext x; rw [read_yB, read_xB]

/-- A block copied holds `x`'s contents. -/
theorem landed_eq (b : Fin 36) : (yP c b (landed c XA YA b) : sProp 𝕄) = yP c b (copied c XA) := by
  have h1 := pointsTo_rep (Ix := Unit) (Name := ℕ) (U := Pipeline.UD sig nD τ) (Lvl := ℕ) (c := (c : Thread nD τ)) (yB b) (landed c XA YA b) fullShare
  have h2 := pointsTo_rep (Ix := Unit) (Name := ℕ) (U := Pipeline.UD sig nD τ) (Lvl := ℕ) (c := (c : Thread nD τ)) (yB b) (copied c XA) fullShare
  rw [read_landed] at h1
  rw [read_copied] at h2
  exact h1.trans h2.symm

def homes (n : ℕ) : Finset (Fin 36) := Finset.univ.filter fun b => n ≤ b.val
def dones (n : ℕ) : Finset (Fin 36) := Finset.univ.filter fun b => b.val + 1 < n

/-- What is held of the copy before point `n`. -/
def copyInv (n : ℕ) : sProp 𝕄 :=
  iprop((if h : 0 < n ∧ n < 37 then flightP c XA YA ⟨n - 1, by omega⟩ else cellP c)
    ∗ bigSep (homes n) (fun b => iprop(yP c b YA ∗ xP c XA b))
    ∗ bigSep (dones n) (fun b => iprop(yP c b (copied c XA) ∗ xP c XA b)))

theorem homes_succ (n : ℕ) (h : n < 36) : homes n = insert (⟨n, h⟩ : Fin 36) (homes (n + 1)) := by
  ext b; simp only [homes, Finset.mem_filter, Finset.mem_univ, true_and, Finset.mem_insert, Fin.ext_iff]; omega
theorem not_mem_homes (n : ℕ) (h : n < 36) : (⟨n, h⟩ : Fin 36) ∉ homes (n + 1) := by
  simp only [homes, Finset.mem_filter, Finset.mem_univ, true_and]; omega
theorem dones_succ (n : ℕ) (h0 : 0 < n) (h : n < 37) : dones (n + 1) = insert (⟨n - 1, by omega⟩ : Fin 36) (dones n) := by
  ext b; simp only [dones, Finset.mem_filter, Finset.mem_univ, true_and, Finset.mem_insert, Fin.ext_iff]; omega
theorem not_mem_dones (n : ℕ) (h0 : 0 < n) (h : n < 37) : (⟨n - 1, by omega⟩ : Fin 36) ∉ dones n := by
  simp only [dones, Finset.mem_filter, Finset.mem_univ, true_and]; omega
theorem homes_last (n : ℕ) (h : 36 ≤ n) : homes n = ∅ := by
  ext b; have := b.isLt; simp only [homes, Finset.mem_filter, Finset.mem_univ, true_and, Finset.notMem_empty, iff_false]; omega
theorem dones_zero (n : ℕ) (h : n ≤ 1) : dones n = ∅ := by
  ext b; simp only [dones, Finset.mem_filter, Finset.mem_univ, true_and, Finset.notMem_empty, iff_false]; omega
theorem homes_zero : homes 0 = Finset.univ := by ext b; simp [homes]
theorem dones_last : dones 37 = Finset.univ := by
  ext b; have := b.isLt; simp only [dones, Finset.mem_filter, Finset.mem_univ, true_and, iff_true]; omega

theorem waitSkip (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg11 : Memref sig .tc .vmem S3584x512 .bf16) (harg11 : arg11.IsWhole) (arg12 : Memref sig .tc .vmem S3584x512 .bf16) (harg12 : arg12.IsWhole) (h : (i 0).val = 0) : waitProg (F := F) i arg1 harg1 arg2 harg2 arg3 harg3 arg4 harg4 arg5 harg5 xM (Memref.isWhole_whole _) arg7 harg7 arg8 harg8 arg9 harg9 yM (Memref.isWhole_whole _) arg11 harg11 arg12 harg12 cc0_scratch2 = pure ⟨⟩ := by
  unfold waitProg; rw [dif_neg (fun e => by have := (cond1_eq i).1 e; omega)]
theorem startSkip (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg11 : Memref sig .tc .vmem S3584x512 .bf16) (harg11 : arg11.IsWhole) (arg12 : Memref sig .tc .vmem S3584x512 .bf16) (harg12 : arg12.IsWhole) (h : (i 0).val = 36) : startProg (F := F) i arg1 harg1 arg2 harg2 arg3 harg3 arg4 harg4 arg5 harg5 xM (Memref.isWhole_whole _) arg7 harg7 arg8 harg8 arg9 harg9 yM (Memref.isWhole_whole _) arg11 harg11 arg12 harg12 cc0_scratch2 = pure ⟨⟩ := by
  unfold startProg; rw [dif_neg (fun e => by have := (cond2_eq i).1 e; omega)]

/-- A step that does nothing. -/
theorem pureStep (K : PUnit → sProp 𝕄) : K ⟨⟩ ⊢ wp frame (wpE (defs₀ (F := F)) Variants.none c none) Set.univ ((pure ⟨⟩ : Prog (TpuEff nD τ sig (Elt F) Λ₀ .tc) PUnit)) K := by
  iintro H
  sl_step
  iexact H

/-- One point's step of the copy: the wait and the start, then whatever goes on. -/
theorem copyStep (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg11 : Memref sig .tc .vmem S3584x512 .bf16) (harg11 : arg11.IsWhole) (arg12 : Memref sig .tc .vmem S3584x512 .bf16) (harg12 : arg12.IsWhole) (W : Waits sig Unit)
    (rest : Prog (TpuEff nD τ sig (Elt F) Λ₀ .tc) PUnit) (K : PUnit → sProp 𝕄) :
    iprop(copyInv c XA YA (i 0).val ∗ owes (c : Thread nD τ) 0 W
        ∗ (iprop(copyInv c XA YA ((i 0).val + 1) ∗ ∃ W', owes (c : Thread nD τ) 0 W') -∗ wp frame (wpE (defs₀ (F := F)) Variants.none c none) Set.univ (rest) K))
      ⊢ wp frame (wpE (defs₀ (F := F)) Variants.none c none) Set.univ (do waitProg i arg1 harg1 arg2 harg2 arg3 harg3 arg4 harg4 arg5 harg5 xM (Memref.isWhole_whole _) arg7 harg7 arg8 harg8 arg9 harg9 yM (Memref.isWhole_whole _) arg11 harg11 arg12 harg12 cc0_scratch2; startProg i arg1 harg1 arg2 harg2 arg3 harg3 arg4 harg4 arg5 harg5 xM (Memref.isWhole_whole _) arg7 harg7 arg8 harg8 arg9 harg9 yM (Memref.isWhole_whole _) arg11 harg11 arg12 harg12 cc0_scratch2; rest) K := by
  have hi := i_lt i
  simp only [wp_bind]
  rcases Nat.eq_zero_or_pos (i 0).val with h0 | h0
  · -- the first point
    have hb : nextB i = (⟨(i 0).val, by omega⟩ : Fin 36) := Fin.ext (Nat.mod_eq_of_lt (by omega))
    rw [waitSkip (h := h0)]
    unfold copyInv
    rw [dif_neg (by omega), dif_pos (by omega), homes_succ (i 0).val (by omega), bigSep_insert' (not_mem_homes (i 0).val (by omega)),
      dones_zero (i 0).val (by omega), dones_zero ((i 0).val + 1) (by omega)]
    iintro ⟨⟨Hc, ⟨⟨Hy, Hx⟩, Hh⟩, Hd⟩, HW, Hk⟩
    iapply (pureStep c)
    iapply (startRun (hj := by omega) (c := c) (XA := XA) (YA := YA) (W := W))
    rw [hb]
    isplitl [Hy]; · iexact Hy
    isplitl [Hx]; · iexact Hx
    isplitl [Hc]; · iexact Hc
    isplitl [HW]; · iexact HW
    iintro ⟨HF, HW⟩
    iapply Hk
    isplitr [HW]
    · isplitl [HF]; · iexact HF
      isplitl [Hh]; · iexact Hh
      iexact Hd
    · iexact HW
  · have hp : prevB i = (⟨(i 0).val - 1, by omega⟩ : Fin 36) := Fin.ext (Nat.mod_eq_of_lt (by omega))
    unfold copyInv
    rw [dif_pos ⟨h0, hi⟩, dones_succ (i 0).val h0 hi, bigSep_insert' (not_mem_dones (i 0).val h0 hi)]
    rcases Nat.lt_or_ge (i 0).val 36 with h36 | h36
    · -- a point between
      have hb : nextB i = (⟨(i 0).val, by omega⟩ : Fin 36) := Fin.ext (Nat.mod_eq_of_lt (by omega))
      rw [dif_pos (by omega), homes_succ (i 0).val (by omega), bigSep_insert' (not_mem_homes (i 0).val (by omega))]
      iintro ⟨⟨HF, ⟨⟨Hy, Hx⟩, Hh⟩, Hd⟩, HW, Hk⟩
      iapply (waitRun (hj := h0) (c := c) (XA := XA) (YA := YA) (W := W))
      rw [hp]
      isplitl [HF]; · iexact HF
      isplitl [HW]; · iexact HW
      iintro ⟨Hy', Hx', Hc, ⟨%W', HW⟩⟩
      iapply (startRun (hj := h36) (c := c) (XA := XA) (YA := YA) (W := W'))
      rw [hb]
      isplitl [Hy]; · iexact Hy
      isplitl [Hx]; · iexact Hx
      isplitl [Hc]; · iexact Hc
      isplitl [HW]; · iexact HW
      iintro ⟨HF, HW⟩
      iapply Hk
      isplitr [HW]
      · isplitl [HF]; · iexact HF
        isplitl [Hh]; · iexact Hh
        isplitl [Hy' Hx']
        · irw [← landed_eq c XA YA]
          isplitl [Hy']; · iexact Hy'
          iexact Hx'
        iexact Hd
      · iexact HW
    · -- the last point
      have h36' : (i 0).val = 36 := by omega
      rw [dif_neg (by omega), homes_last (i 0).val (by omega), homes_last ((i 0).val + 1) (by omega), startSkip (h := h36')]
      iintro ⟨⟨HF, Hh, Hd⟩, HW, Hk⟩
      iapply (waitRun (hj := h0) (c := c) (XA := XA) (YA := YA) (W := W))
      rw [hp]
      isplitl [HF]; · iexact HF
      isplitl [HW]; · iexact HW
      iintro ⟨Hy', Hx', Hc, HW⟩
      iapply (pureStep c)
      iapply Hk
      isplitr [HW]
      · isplitl [Hc]; · iexact Hc
        isplitl [Hh]; · iexact Hh
        isplitl [Hy' Hx']
        · irw [← landed_eq c XA YA]
          isplitl [Hy']; · iexact Hy'
          iexact Hx'
        iexact Hd
      · iexact HW

/-! ## At the launch and at the end -/

theorem xWhole : ((((c : Thread nD τ).loc main_arg5) ↦{fullShare} XA : sProp 𝕄)) = bigSep Finset.univ (xP c XA) := by
  rw [Ring.pointsTo_blocks (ℓ := (c : Thread nD τ).loc main_arg5) (fun b => (blkRect b).set) blk_disjoint blk_cover]
  exact bigSep_congr fun b _ => by rw [← xB_set]; rfl
theorem yWhole (f : Buf (Elt F) (yM.view.loc (c : Thread nD τ))) :
    ((((c : Thread nD τ).loc main_v0_3) ↦{fullShare} f : sProp 𝕄)) = bigSep Finset.univ (fun b => yP c b f) := by
  rw [Ring.pointsTo_blocks (ℓ := (c : Thread nD τ).loc main_v0_3) (fun b => (blkRect b).set) blk_disjoint blk_cover]
  exact bigSep_congr fun b _ => by rw [← yB_set]; rfl

theorem bothWhole (f : Buf (Elt F) (yM.view.loc (c : Thread nD τ))) :
    (bigSep Finset.univ (fun b => iprop(yP c b f ∗ xP c XA b)) : sProp 𝕄)
      = iprop((((c : Thread nD τ).loc main_v0_3) ↦{fullShare} f) ∗ (((c : Thread nD τ).loc main_arg5) ↦{fullShare} XA)) := by
  rw [bigSep_sep', ← xWhole, ← yWhole]

/-- Before the first point: the cell at zero and both arrays whole. -/
theorem copyInv_zero :
    iprop(cellP c ∗ (((c : Thread nD τ).loc main_v0_3) ↦{fullShare} YA) ∗ (((c : Thread nD τ).loc main_arg5) ↦{fullShare} XA))
      ⊢ copyInv c XA YA 0 := by
  unfold copyInv
  rw [dif_neg (by omega), dones_zero 0 (by omega), homes_zero, bothWhole, bigSep_empty]
  iintro ⟨Hc, Hy, Hx⟩
  isplitl [Hc]
  · iexact Hc
  isplitl [Hy Hx]
  · isplitl [Hy]
    · iexact Hy
    iexact Hx
  iempintro

/-- After the last point: the cell at zero, `x` as it was, `y` a copy of it. -/
theorem copyInv_last : copyInv c XA YA 37
    ⊢ iprop(cellP c ∗ (((c : Thread nD τ).loc main_v0_3) ↦{fullShare} copied c XA) ∗ (((c : Thread nD τ).loc main_arg5) ↦{fullShare} XA)) := by
  unfold copyInv
  rw [dif_neg (by omega), homes_last 37 (by omega), dones_last, bothWhole]
  iintro ⟨Hc, -, H⟩
  isplitl [Hc]
  · iexact Hc
  iexact H

end Inv

end Cert.KernelIdeal.Hand

end
-- ==== Proof.Body.lean ====
/-
  One point of the grid, with what it leaves in each output block.
-/
module

public import proofs.«01_k».proof.Proof.Weights
public import proofs.«01_k».proof.Proof.ArithVal
public import proofs.«01_k».proof.Proof.WideVal
public import proofs.«01_k».proof.Proof.Inv

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The scales' block as the point finds it: cleared at the first point. -/
def start9 (i : grid0.Coords) (x9 : Vec F S1152x148 .f32) : Vec F S1152x148 .f32 := if (i 0).val = 0 then k0_pay1 (F := F) else x9

/-- A block whose stores are blocks of one function and cover it holds that function. -/
theorem owns_of_pieces (c : Dev nD) {sp : Space} {S : Shape} {e : EltTy} (m : Memref sig .tc sp S e) (f : Buf (Elt F) (m.view.loc (c : Thread nD τ)))
    (L : List (View.Piece (Elt F) S e)) (G : Vec F S e) (hp : View.PiecesOf G L) (hc : ∀ y, ∃ p ∈ L, y ∈ p.1.set) :
    (m.view.loc (c : Thread nD τ) ↦[m.view.set]{fullShare} m.view.writes (Elt F) f L : sProp 𝕄) ⊢ owns (c : Thread nD τ) m fullShare G := by
  unfold owns
  iintro H
  iexists _
  isplitr
  · ipureintro
    funext y
    exact View.read_writes_apply_of_pieces m.view f G L (fun p hm => hp.mem p hm) y (hc y)
  · iexact H

/-- A held block is a buffer's worth of elements. -/
theorem buf_of_owns (c : Dev nD) {sp : Space} {S : Shape} {e : EltTy} (m : Memref sig .tc sp S e) :
    iprop(∃ d, owns (c : Thread nD τ) m fullShare d) ⊢ (iprop(∃ f, m.view.loc (c : Thread nD τ) ↦[m.view.set]{fullShare} f) : sProp 𝕄) := by
  unfold owns
  iintro ⟨%d, %f, -, H⟩
  iexists _
  iexact H

/-- A held block is a buffer's worth of elements. -/
theorem buf_of_owns' (c : Dev nD) {sp : Space} {S : Shape} {e : EltTy} (m : Memref sig .tc sp S e) (d : Vec F S e) :
    owns (c : Thread nD τ) m fullShare d ⊢ (iprop(∃ f, m.view.loc (c : Thread nD τ) ↦[m.view.set]{fullShare} f) : sProp 𝕄) := by
  unfold owns
  iintro ⟨%f, -, H⟩
  iexists _
  iexact H

/-- The scales' block is cleared at the first point only. -/
theorem zeroRun (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x9 : Vec F S1152x148 .f32) (K : PUnit → sProp 𝕄) :
    iprop(owns (c : Thread nD τ) arg9 fullShare x9 ∗ (owns (c : Thread nD τ) arg9 fullShare (start9 i x9) -∗ K ⟨⟩)) ⊢ wp frame (wpE (defs₀ (F := F)) Variants.none c none) Set.univ (zeroProg i arg1 harg1 arg2 harg2 arg3 harg3 arg4 harg4 arg5 harg5 arg6 harg6 arg7 harg7 arg8 harg8 arg9 harg9 arg10 harg10 arg11 harg11 arg12 harg12 arg13) K := by
  by_cases h0 : (i 0).val = 0
  · have hs : start9 i x9 = k0_pay1 (F := F) := if_pos h0
    rw [hs]
    unfold zeroProg
    have hcond : Scalar.cmpi .ne (Scalar.extui (Scalar.cmpi .eq (BitVec.ofNat 32 (i 0).val) 0#32) : BitVec 32) 0#32 = 1#1 := by rw [h0]; decide
    simp only [dif_pos hcond]
    iintro ⟨H9, Hk⟩
    ihave H9 := buf_of_owns' c arg9 _ $$ H9
    icases H9 with ⟨%f9, H9⟩
    sl_exec
    sl_step
    iapply Hk
    iapply (owns_of_pieces c arg9 f9 [⟨Rect.unit ![0, 0] S1152x148.size inb_S1152x148_S1152x148_0_0, k0_pay1 (F := F)⟩] (k0_pay1 (F := F)) ⟨fun _ => rfl, trivial⟩
      (View.cover_of_tiledL _ S1152x148.size (by sl_kernel_rfl)))
    iexact H9
  · have hs : start9 i x9 = x9 := if_neg h0
    rw [hs]
    unfold zeroProg
    have hi : (i 0).val < 37 := (i 0).isLt
    have hcond : ¬ Scalar.cmpi .ne (Scalar.extui (Scalar.cmpi .eq (BitVec.ofNat 32 (i 0).val) 0#32) : BitVec 32) 0#32 = 1#1 := by
      have : ∀ n : Fin 37, n.val ≠ 0 → ¬ Scalar.cmpi .ne (Scalar.extui (Scalar.cmpi .eq (BitVec.ofNat 32 n.val) 0#32) : BitVec 32) 0#32 = 1#1 := by decide
      exact this ⟨(i 0).val, hi⟩ h0
    simp only [dif_neg hcond]
    iintro ⟨H9, Hk⟩
    sl_step
    iapply Hk
    iexact H9

/-- What the arithmetic of a point leaves. -/
def leaves (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 x1 : Vec F S28x148 .f32) (x2 : Vec F S1152x3584 .bf16) (x3 x4 : Vec F S3584x512 .fp8e4m3) (s : Vec F S1152x148 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
    ∗ owns (c : Thread nD τ) arg7 fullShare (outC x2 (wide i x0 x3) (wide i x1 x4)) ∗ owns (c : Thread nD τ) arg8 fullShare (outQ x2 (wide i x0 x3) (wide i x1 x4))
    ∗ owns (c : Thread nD τ) arg9 fullShare (outS (BitVec.ofNat 32 (i 0).val) x2 (wide i x0 x3) (wide i x1 x4) s)
    ∗ (∃ d, owns (c : Thread nD τ) arg11 fullShare d) ∗ (∃ d, owns (c : Thread nD τ) arg12 fullShare d))

/-- The point after the weights: the last two tiles, the products, the quantiser. -/
theorem computeRun (c : Dev nD) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg6 : Memref sig .tc .hbm S6x1536x3584 .bf16) (harg6 : arg6.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg10 : Memref sig .tc .hbm S6x1536x3584 .bf16) (harg10 : arg10.IsWhole) (arg11 : Memref sig .tc .vmem S3584x512 .bf16) (harg11 : arg11.IsWhole) (arg12 : Memref sig .tc .vmem S3584x512 .bf16) (harg12 : arg12.IsWhole) (arg13 : DmaSems sig S_) (x0 x1 : Vec F S28x148 .f32) (x2 : Vec F S1152x3584 .bf16) (x3 x4 : Vec F S3584x512 .fp8e4m3) (s : Vec F S1152x148 .f32)
    (f : Buf (Elt F) (arg11.view.loc (c : Thread nD τ))) (g : Buf (Elt F) (arg12.view.loc (c : Thread nD τ))) (o o2 : BitVec 32) (K : PUnit → sProp 𝕄) :
    iprop(owns (c : Thread nD τ) arg2 fullShare x1 ∗ owns (c : Thread nD τ) arg5 fullShare x4 ∗ (arg12.view.loc (c : Thread nD τ) ↦[arg12.view.set]{fullShare} arg12.view.writes (Elt F) g (upTiles c i arg1 harg1 arg2 harg2 arg3 harg3 arg4 harg4 arg5 harg5 arg6 harg6 arg7 harg7 arg8 harg8 arg9 harg9 arg10 harg10 arg11 harg11 arg12 harg12 arg13 x1 x4))
      ∗ owns (c : Thread nD τ) arg1 fullShare x0 ∗ owns (c : Thread nD τ) arg4 fullShare x3 ∗ (arg11.view.loc (c : Thread nD τ) ↦[arg11.view.set]{fullShare} arg11.view.writes (Elt F) f (gateTiles c i arg1 harg1 arg2 harg2 arg3 harg3 arg4 harg4 arg5 harg5 arg6 harg6 arg7 harg7 arg8 harg8 arg9 harg9 arg10 harg10 arg11 harg11 arg12 harg12 arg13 x0 x3))
      ∗ owns (c : Thread nD τ) arg3 fullShare x2 ∗ (∃ d, owns (c : Thread nD τ) arg7 fullShare d) ∗ (∃ d, owns (c : Thread nD τ) arg8 fullShare d) ∗ owns (c : Thread nD τ) arg9 fullShare s ∗ (leaves c i arg1 harg1 arg2 harg2 arg3 harg3 arg4 harg4 arg5 harg5 arg6 harg6 arg7 harg7 arg8 harg8 arg9 harg9 arg10 harg10 arg11 harg11 arg12 harg12 arg13 x0 x1 x2 x3 x4 s -∗ K ⟨⟩))
      ⊢ wp frame (wpE (defs₀ (F := F)) Variants.none c none) Set.univ (computeProg i arg1 harg1 arg2 harg2 arg3 harg3 arg4 harg4 arg5 harg5 arg6 harg6 arg7 harg7 arg8 harg8 arg9 harg9 arg10 harg10 arg11 harg11 arg12 harg12 arg13 (BitVec.ofNat 32 (i 0).val) o o2) K := by
  rw [compute_eq]
  simp only [wp_bind]
  iintro ⟨H2, H5, H12, H1, H4, H11, H3, H7, H8, H9, Hk⟩
  iapply ((tailRun c i arg1 harg1 arg2 harg2 arg3 harg3 arg4 harg4 arg5 harg5 arg6 harg6 arg7 harg7 arg8 harg8 arg9 harg9 arg10 harg10 arg11 harg11 arg12 harg12 arg13 x1 x4).2 Set.univ _ _)
  isplitl [H2]; · iexact H2
  isplitl [H5]; · iexact H5
  isplitl [H12]; · iexact H12
  iintro ⟨H2, H5, H12⟩
  rw [← writes_append]
  ihave H12 := owns_of_pieces c arg12 _ _ (wide i x1 x4) (piecesOf_append (tail_pieces c i arg1 harg1 arg2 harg2 arg3 harg3 arg4 harg4 arg5 harg5 arg6 harg6 arg7 harg7 arg8 harg8 arg9 harg9 arg10 harg10 arg11 harg11 arg12 harg12 arg13 x1 x4) (up_pieces c i arg1 harg1 arg2 harg2 arg3 harg3 arg4 harg4 arg5 harg5 arg6 harg6 arg7 harg7 arg8 harg8 arg9 harg9 arg10 harg10 arg11 harg11 arg12 harg12 arg13 x1 x4)) (up_cover c i arg1 harg1 arg2 harg2 arg3 harg3 arg4 harg4 arg5 harg5 arg6 harg6 arg7 harg7 arg8 harg8 arg9 harg9 arg10 harg10 arg11 harg11 arg12 harg12 arg13 x1 x4) $$ H12
  ihave H11 := owns_of_pieces c arg11 _ _ (wide i x0 x3) (gate_pieces c i arg1 harg1 arg2 harg2 arg3 harg3 arg4 harg4 arg5 harg5 arg6 harg6 arg7 harg7 arg8 harg8 arg9 harg9 arg10 harg10 arg11 harg11 arg12 harg12 arg13 x0 x3) (gate_cover c i arg1 harg1 arg2 harg2 arg3 harg3 arg4 harg4 arg5 harg5 arg6 harg6 arg7 harg7 arg8 harg8 arg9 harg9 arg10 harg10 arg11 harg11 arg12 harg12 arg13 x0 x3) $$ H11
  iapply ((arithRun c i arg1 harg1 arg2 harg2 arg3 harg3 arg4 harg4 arg5 harg5 arg6 harg6 arg7 harg7 arg8 harg8 arg9 harg9 arg10 harg10 arg11 harg11 arg12 harg12 arg13 (BitVec.ofNat 32 (i 0).val) x2 s (wide i x0 x3) (wide i x1 x4)).2.2.2 Set.univ _)
  isplitl [H3]; · iexact H3
  isplitl [H7]; · iexact H7
  isplitl [H8]; · iexact H8
  isplitl [H9]; · iexact H9
  isplitl [H11]; · iexact H11
  isplitl [H12]; · iexact H12
  iintro ⟨H3, ⟨%f7, H7⟩, ⟨%f8, H8⟩, ⟨%f9, H9⟩, H11, H12⟩
  ihave H7 := owns_of_pieces c arg7 _ _ _ (arith_codes c i arg1 harg1 arg2 harg2 arg3 harg3 arg4 harg4 arg5 harg5 arg6 harg6 arg7 harg7 arg8 harg8 arg9 harg9 arg10 harg10 arg11 harg11 arg12 harg12 arg13 (BitVec.ofNat 32 (i 0).val) x2 s (wide i x0 x3) (wide i x1 x4)) (View.cover_of_tiledL _ S384x128.size (by sl_kernel_rfl)) $$ H7
  ihave H8 := owns_of_pieces c arg8 _ _ _ (arith_deq c i arg1 harg1 arg2 harg2 arg3 harg3 arg4 harg4 arg5 harg5 arg6 harg6 arg7 harg7 arg8 harg8 arg9 harg9 arg10 harg10 arg11 harg11 arg12 harg12 arg13 (BitVec.ofNat 32 (i 0).val) x2 s (wide i x0 x3) (wide i x1 x4)) (View.cover_of_tiledL _ S384x128.size (by sl_kernel_rfl)) $$ H8
  ihave H9 := owns_of_pieces c arg9 _ _ _ (arith_scales c i arg1 harg1 arg2 harg2 arg3 harg3 arg4 harg4 arg5 harg5 arg6 harg6 arg7 harg7 arg8 harg8 arg9 harg9 arg10 harg10 arg11 harg11 arg12 harg12 arg13 (BitVec.ofNat 32 (i 0).val) x2 s (wide i x0 x3) (wide i x1 x4)) (View.cover_of_tiledL _ S384x148.size (by sl_kernel_rfl)) $$ H9
  iapply Hk
  unfold leaves
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  isplitl [H11]; · iexists _; iexact H11
  · iexists _; iexact H12

/-- One point: it moves the copy on by one block, and leaves the blocks of the outputs. -/
theorem bodyRun (c : Dev nD) (XA : Buf (Elt F) (xM.view.loc (c : Thread nD τ))) (YA : Buf (Elt F) (yM.view.loc (c : Thread nD τ))) (i : grid0.Coords) (arg1 : Memref sig .tc .smem S28x148 .f32) (harg1 : arg1.IsWhole) (arg2 : Memref sig .tc .smem S28x148 .f32) (harg2 : arg2.IsWhole) (arg3 : Memref sig .tc .vmem S1152x3584 .bf16) (harg3 : arg3.IsWhole) (arg4 : Memref sig .tc .vmem S3584x512 .fp8e4m3) (harg4 : arg4.IsWhole) (arg5 : Memref sig .tc .vmem S3584x512 .fp8e4m3) (harg5 : arg5.IsWhole) (arg7 : Memref sig .tc .vmem S1152x512 .fp8e4m3) (harg7 : arg7.IsWhole) (arg8 : Memref sig .tc .vmem S1152x512 .bf16) (harg8 : arg8.IsWhole) (arg9 : Memref sig .tc .vmem S1152x148 .f32) (harg9 : arg9.IsWhole) (arg11 : Memref sig .tc .vmem S3584x512 .bf16) (harg11 : arg11.IsWhole) (arg12 : Memref sig .tc .vmem S3584x512 .bf16) (harg12 : arg12.IsWhole) (x0 x1 : Vec F S28x148 .f32) (x2 : Vec F S1152x3584 .bf16) (x3 x4 : Vec F S3584x512 .fp8e4m3) (x9 : Vec F S1152x148 .f32) (W : Waits sig Unit) (K : PUnit → sProp 𝕄) :
    iprop(copyInv c XA YA (i 0).val ∗ owes (c : Thread nD τ) 0 W
      ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
      ∗ (∃ d, owns (c : Thread nD τ) arg7 fullShare d) ∗ (∃ d, owns (c : Thread nD τ) arg8 fullShare d) ∗ owns (c : Thread nD τ) arg9 fullShare x9 ∗ (∃ d, owns (c : Thread nD τ) arg11 fullShare d) ∗ (∃ d, owns (c : Thread nD τ) arg12 fullShare d)
      ∗ (iprop(copyInv c XA YA ((i 0).val + 1) ∗ (∃ W', owes (c : Thread nD τ) 0 W') ∗ leaves c i arg1 harg1 arg2 harg2 arg3 harg3 arg4 harg4 arg5 harg5 xM (Memref.isWhole_whole _) arg7 harg7 arg8 harg8 arg9 harg9 yM (Memref.isWhole_whole _) arg11 harg11 arg12 harg12 cc0_scratch2 x0 x1 x2 x3 x4 (start9 i x9)) -∗ K ⟨⟩))
      ⊢ wp frame (wpE (defs₀ (F := F)) Variants.none c none) Set.univ (cc0_gateup i arg1 harg1 arg2 harg2 arg3 harg3 arg4 harg4 arg5 harg5 xM (Memref.isWhole_whole _) arg7 harg7 arg8 harg8 arg9 harg9 yM (Memref.isWhole_whole _) arg11 harg11 arg12 harg12 cc0_scratch2) K := by
  rw [body_eq]
  iintro ⟨HI, HW, H1, H2, H3, H4, H5, H7, H8, H9, H11, H12, Hk⟩
  iapply copyStep
  isplitl [HI]; · iexact HI
  isplitl [HW]; · iexact HW
  iintro ⟨HI, HW⟩
  simp only [wp_bind]
  iapply (zeroRun c i arg1 harg1 arg2 harg2 arg3 harg3 arg4 harg4 arg5 harg5 xM (Memref.isWhole_whole _) arg7 harg7 arg8 harg8 arg9 harg9 yM (Memref.isWhole_whole _) arg11 harg11 arg12 harg12 cc0_scratch2 x9)
  isplitl [H9]; · iexact H9
  iintro H9
  ihave H11 := buf_of_owns c arg11 $$ H11
  ihave H12 := buf_of_owns c arg12 $$ H12
  icases H11 with ⟨%f, H11⟩
  icases H12 with ⟨%g, H12⟩
  iapply (weightsRun c i arg1 harg1 arg2 harg2 arg3 harg3 arg4 harg4 arg5 harg5 xM (Memref.isWhole_whole _) arg7 harg7 arg8 harg8 arg9 harg9 yM (Memref.isWhole_whole _) arg11 harg11 arg12 harg12 cc0_scratch2 x0 x1 x3 x4 Set.univ f g
    iprop(owns (c : Thread nD τ) arg3 fullShare x2 ∗ (∃ d, owns (c : Thread nD τ) arg7 fullShare d) ∗ (∃ d, owns (c : Thread nD τ) arg8 fullShare d) ∗ owns (c : Thread nD τ) arg9 fullShare (start9 i x9) ∗ (leaves c i arg1 harg1 arg2 harg2 arg3 harg3 arg4 harg4 arg5 harg5 xM (Memref.isWhole_whole _) arg7 harg7 arg8 harg8 arg9 harg9 yM (Memref.isWhole_whole _) arg11 harg11 arg12 harg12 cc0_scratch2 x0 x1 x2 x3 x4 (start9 i x9) -∗ K ⟨⟩)) _ K
    (fun o o2 => computeRun c i arg1 harg1 arg2 harg2 arg3 harg3 arg4 harg4 arg5 harg5 xM (Memref.isWhole_whole _) arg7 harg7 arg8 harg8 arg9 harg9 yM (Memref.isWhole_whole _) arg11 harg11 arg12 harg12 cc0_scratch2 x0 x1 x2 x3 x4 (start9 i x9) f g o o2 K))
  isplitl [H1]; · iexact H1
  isplitl [H4]; · iexact H4
  isplitl [H11]; · iexact H11
  isplitl [H2]; · iexact H2
  isplitl [H5]; · iexact H5
  isplitl [H12]; · iexact H12
  isplitl [H3]; · iexact H3
  isplitl [H7]; · iexact H7
  isplitl [H8]; · iexact H8
  isplitl [H9]; · iexact H9
  iintro HL
  iapply Hk
  isplitl [HI]; · iexact HI
  isplitl [HW]; · iexact HW
  iexact HL

end Cert.KernelIdeal.Hand

end
-- ==== Proof.Run.lean ====
/-
  The run of the whole grid: the proof data, the body's obligation at a point, the arrays at the end, the frame.
-/
module

public import proofs.«01_k».proof.Proof.Body
public import proofs.«01_k».proof.Proof.Gen.KernelIdeal.Frame
public import Idealize.ShloMosaic.Lib.Pipeline.FrameValue

@[expose] public section

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The operands of a point -/

abbrev ms0 (t : Fin cfg0.N) : Memref sig .tc .smem S28x148 .f32 := win0_0.stage (cfg0.slots t 0)
abbrev hs0 (t : Fin cfg0.N) : (ms0 t).IsWhole := hstage0_0 ((cfg0.slots t 0).cast nbuf0_0)
abbrev ms1 (t : Fin cfg0.N) : Memref sig .tc .smem S28x148 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1152x3584 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S3584x512 .fp8e4m3 := win0_3.stage (cfg0.slots t 3)
abbrev hs3 (t : Fin cfg0.N) : (ms3 t).IsWhole := hstage0_3 ((cfg0.slots t 3).cast nbuf0_3)
abbrev ms4 (t : Fin cfg0.N) : Memref sig .tc .vmem S3584x512 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1152x512 .fp8e4m3 := win0_5.stage (cfg0.slots t 5)
abbrev hs5 (t : Fin cfg0.N) : (ms5 t).IsWhole := hstage0_5 ((cfg0.slots t 5).cast nbuf0_5)
abbrev ms6 (t : Fin cfg0.N) : Memref sig .tc .vmem S1152x512 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1152x148 .f32 := win0_7.stage (cfg0.slots t 7)
abbrev hs7 (t : Fin cfg0.N) : (ms7 t).IsWhole := hstage0_7 ((cfg0.slots t 7).cast nbuf0_7)
abbrev scr0 : Memref sig .tc .vmem S3584x512 .bf16 := Memref.whole cc0_scratch0
abbrev scr1 : Memref sig .tc .vmem S3584x512 .bf16 := Memref.whole cc0_scratch1

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Input 0's staging buffer holds its block at every point. -/
theorem in0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1's staging buffer holds its block at every point. -/
theorem in1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2's staging buffer holds its block at every point. -/
theorem in2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3's staging buffer holds its block at every point. -/
theorem in3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input 4's staging buffer holds its block at every point. -/
theorem in4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the points leave -/

/-- The widened gate weights of a point. -/
def gateW (c : Dev nD) (t : Fin cfg0.N) : Vec F S3584x512 .bf16 := wide (grid0.coords t) (iblk m c 0 t) (iblk m c 3 t)
/-- The widened up weights of a point. -/
def upW (c : Dev nD) (t : Fin cfg0.N) : Vec F S3584x512 .bf16 := wide (grid0.coords t) (iblk m c 1 t) (iblk m c 4 t)
/-- The scales after the first `n` points. -/
def scalesAt (c : Dev nD) : (n : ℕ) → n ≤ 37 → Vec F S1152x148 .f32
  | 0, _ => k0_pay1 (F := F)
  | n + 1, h => outS (BitVec.ofNat 32 n) (iblk m c 2 ⟨n, by rw [show cfg0.N = 37 from N_0]; omega⟩) (gateW m c ⟨n, by rw [show cfg0.N = 37 from N_0]; omega⟩)
      (upW m c ⟨n, by rw [show cfg0.N = 37 from N_0]; omega⟩) (scalesAt c n (by omega))

theorem scalesAt_congr (c : Dev nD) {n n' : ℕ} (e : n = n') (h : n ≤ 37) (h' : n' ≤ 37) : scalesAt m c n h = scalesAt m c n' h' := by
  subst e; rfl

theorem ltN (t : Fin cfg0.N) : t.val < 37 := lt_of_lt_of_eq t.isLt (show cfg0.N = 37 from N_0)

theorem coords0 (t : Fin cfg0.N) : (grid0.coords t 0).val = t.val := by
  have h : (grid0.coords t 0).val = t.val / 1 % 37 := Pipeline.Grid.coords_val t 0 (by decide) rfl
  rw [h, Nat.div_one, Nat.mod_eq_of_lt (ltN t)]

theorem scalesAt_succ (c : Dev nD) (t : Fin cfg0.N) :
    scalesAt m c (t.val + 1) (by have := ltN t; omega)
      = outS (BitVec.ofNat 32 (grid0.coords t 0).val) (iblk m c 2 t) (gateW m c t) (upW m c t) (scalesAt m c t.val (by have := ltN t; omega)) := by
  rw [coords0]; rfl

/-! ## The proof data -/

/-- The copied array at the end. -/
def final (c : Dev nD) (b : Ref sig .tc) : Buf (Elt F) ((c : Thread nD τ).loc b) :=
  if h : b = main_v0_3 then h ▸ copied c (V m c main_arg5) else V m c b

/-- The proof data of the pipeline: each input's buffer at its block, the outputs' at what the point leaves; the invariant
    the two scratch buffers, the generator register, and what is held of the copy. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outC (iblk m c 2 t) (gateW m c t) (upW m c t)
    | ⟨6, _⟩ => outQ (iblk m c 2 t) (gateW m c t) (upW m c t)
    | ⟨7, _⟩ => scalesAt m c (t.val + 1) (by have := ltN t; omega)
  Φ t := iprop((∃ d, owns (c : Thread nD τ) scr0 fullShare d) ∗ (∃ d, owns (c : Thread nD τ) scr1 fullShare d) ∗ (∃ r, prngReg c r)
    ∗ copyInv c (V m c main_arg5) (V m c main_v0_3) t.val)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outC (iblk m c 2 t) (gateW m c t) (upW m c t) := by dsimp only [dats]
theorem after6 (c : Dev nD) (t : Fin cfg0.N) : (dats m 0 c).after 6 t = outQ (iblk m c 2 t) (gateW m c t) (upW m c t) := by dsimp only [dats]
theorem after7 (c : Dev nD) (t : Fin cfg0.N) : (dats m 0 c).after 7 t = scalesAt m c (t.val + 1) (by have := ltN t; omega) := by dsimp only [dats]
theorem before0 (c : Dev nD) (t : Fin cfg0.N) (d) : (dats m 0 c).before 0 t d = iblk m c 0 t :=
  in0_of m (dats m 0 c) (A_eq m c 0) (after0 m c) t d
theorem before1 (c : Dev nD) (t : Fin cfg0.N) (d) : (dats m 0 c).before 1 t d = iblk m c 1 t :=
  in1_of m (dats m 0 c) (A_eq m c 1) (after1 m c) t d
theorem before2 (c : Dev nD) (t : Fin cfg0.N) (d) : (dats m 0 c).before 2 t d = iblk m c 2 t :=
  in2_of m (dats m 0 c) (A_eq m c 2) (after2 m c) t d
theorem before3 (c : Dev nD) (t : Fin cfg0.N) (d) : (dats m 0 c).before 3 t d = iblk m c 3 t :=
  in3_of m (dats m 0 c) (A_eq m c 3) (after3 m c) t d
theorem before4 (c : Dev nD) (t : Fin cfg0.N) (d) : (dats m 0 c).before 4 t d = iblk m c 4 t :=
  in4_of m (dats m 0 c) (A_eq m c 4) (after4 m c) t d

/-- The scales' block as a point starts on it: the scales after the points before. -/
theorem before7 (c : Dev nD) (t : Fin cfg0.N) (d) :
    start9 (grid0.coords t) ((dats m 0 c).before 7 t d) = scalesAt m c t.val (by have := ltN t; omega) := by
  unfold start9
  rw [coords0]
  by_cases h0 : t.val = 0
  · rw [if_pos h0]
    exact (scalesAt_congr m c h0 _ (by omega)).symm
  · rw [if_neg h0]
    have hN := ltN t
    rw [Dat.before_out_kept _ 7 rfl t (by omega) (Bool.eq_false_iff.mpr fun h => by have := (flush0_7 _).mp h; dsimp only at this; omega)
      (fun _ => rfl) (fun _ _ => rfl)]
    rw [after7]
    exact scalesAt_congr m c (show t.val - 1 + 1 = t.val by omega) _ _

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [after0, after1, after2, after3, after4, after5, after6, after7, scalesAt_succ]
  have e0 := coords0 t
  have hΦ0 : (dats m 0 c).Φ t.castSucc = iprop((∃ d, owns (c : Thread nD τ) scr0 fullShare d) ∗ (∃ d, owns (c : Thread nD τ) scr1 fullShare d) ∗ (∃ r, prngReg c r)
    ∗ copyInv c (V m c main_arg5) (V m c main_v0_3) (grid0.coords t 0).val) := by rw [e0]; rfl
  have hΦ1 : (dats m 0 c).Φ t.succ = iprop((∃ d, owns (c : Thread nD τ) scr0 fullShare d) ∗ (∃ d, owns (c : Thread nD τ) scr1 fullShare d) ∗ (∃ r, prngReg c r)
    ∗ copyInv c (V m c main_arg5) (V m c main_v0_3) ((grid0.coords t 0).val + 1)) := by rw [e0]; rfl
  rw [hΦ0, hΦ1]
  unfold Dat.owesAt Pipeline.owesWithin
  rw [show (dats m 0 c).owed t.castSucc = 0 from rfl, show (dats m 0 c).owed t.succ = 0 from rfl]
  iintro ⟨⟨HS0, HS1, Hg, HI⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  rw [← before7 m c t d7]
  iapply (bodyRun c (V m c main_arg5) (V m c main_v0_3) (grid0.coords t) (ms0 t) (hs0 t) (ms1 t) (hs1 t) (ms2 t) (hs2 t) (ms3 t) (hs3 t) (ms4 t) (hs4 t)
    (ms5 t) (hs5 t) (ms6 t) (hs6 t) (ms7 t) (hs7 t) scr0 (Memref.isWhole_whole _) scr1 (Memref.isWhole_whole _)
    (iblk m c 0 t) (iblk m c 1 t) (iblk m c 2 t) (iblk m c 3 t) (iblk m c 4 t) ((dats m 0 c).before 7 t d7) W _)
  isplitl [HI]; · iexact HI
  isplitl [HW]; · iexact HW
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [HS0]; · iexact HS0
  isplitl [HS1]; · iexact HS1
  unfold leaves
  iintro ⟨HI, ⟨%W', HW⟩, H0, H1, H2, H3, H4, H5, H6, H7, HS0, HS1⟩
  isplitl [HI Hg HS0 HS1]
  · isplitl [HS0]; · iexact HS0
    isplitl [HS1]; · iexact HS1
    isplitl [Hg]; · iexact Hg
    iexact HI
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The copy's one semaphore. -/
abbrev osem0 : Fin 1 → SemLoc sig := fun _ => dcell
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄) = cellP c := by
  rw [Pipeline.ownSems0_eq_of_list c osem0 [0] (by decide) (by decide)]; rfl
/-- The array the copy reads, -/
def H0 : Finset (Ref sig .tc) := {main_arg5}
theorem H0_sub : H0 ⊆ Pipeline.restRefs sig spec0 := by decide
/-- and the one it writes. -/
def R0 : Finset (Ref sig .tc) := {main_v0_3}
theorem R0_sub : R0 ⊆ Pipeline.restRefs sig spec0 \ H0 := by decide
theorem hbmPts0_eq (c : Dev nD) :
    (bigSep H0 (fun b => ((c : Thread nD τ).loc b) ↦{fullShare} V m c b) : sProp 𝕄) = iprop(((c : Thread nD τ).loc main_arg5) ↦{fullShare} V m c main_arg5) := by
  rw [BI.bigSep_eq_bigSepL_of_eq [main_arg5] (by decide) (by decide)]; rfl
theorem routed_eq (c : Dev nD) (W : (b : Ref sig .tc) → Buf (Elt F) ((c : Thread nD τ).loc b)) :
    (Pipeline.routed R0 c W : sProp 𝕄) = iprop(((c : Thread nD τ).loc main_v0_3) ↦{fullShare} W main_v0_3) := by
  unfold Pipeline.routed; rw [BI.bigSep_eq_bigSepL_of_eq [main_v0_3] (by decide) (by decide)]; rfl

theorem final_y (c : Dev nD) : final m c main_v0_3 = copied c (V m c main_arg5) := by
  unfold final; rw [dif_pos rfl]

theorem scoped_eq (c : Dev nD) : (Pipeline.scopedRest spec0 c : sProp 𝕄)
    = iprop((∃ d, owns (c : Thread nD τ) scr0 fullShare d) ∗ (∃ d, owns (c : Thread nD τ) scr1 fullShare d)) := by
  rw [scopedRest0_eq]; simp only [scr0, scr1, owns_whole]; try rfl

set_option backward.isDefEq.respectTransparency.types false in
theorem run_main : θ_run defs (onTc (τ := τ) (main (F := F))) (s₀ m ρ) (fun r => Pipeline.FramePostRG cfgs (dats m) 0 R0 (V m) (final m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := final m)
    (hin := fun c => by
      rw [Pipeline.ΦDRG_eq, scoped_eq, ownSems00_eq, hbmPts0_eq, routed_eq]
      show _ ⊢ iprop((∃ d, owns (c : Thread nD τ) scr0 fullShare d) ∗ (∃ d, owns (c : Thread nD τ) scr1 fullShare d) ∗ (∃ r, prngReg c r)
        ∗ copyInv c (V m c main_arg5) (V m c main_v0_3) 0)
      iintro ⟨⟨HS0, HS1⟩, Hg, Hc, Hx, Hy⟩
      isplitl [HS0]; · iexact HS0
      isplitl [HS1]; · iexact HS1
      isplitl [Hg]; · iexact Hg
      iapply (copyInv_zero c (V m c main_arg5) (V m c main_v0_3))
      isplitl [Hc]; · iexact Hc
      isplitl [Hy]; · iexact Hy
      iexact Hx)
    (hout := fun c => by
      rw [Pipeline.ΦDRG_eq, scoped_eq, ownSems00_eq, hbmPts0_eq, routed_eq, final_y]
      show iprop((∃ d, owns (c : Thread nD τ) scr0 fullShare d) ∗ (∃ d, owns (c : Thread nD τ) scr1 fullShare d) ∗ (∃ r, prngReg c r)
        ∗ copyInv c (V m c main_arg5) (V m c main_v0_3) 37) ⊢ _
      iintro ⟨HS0, HS1, Hg, HI⟩
      ihave HI := copyInv_last c (V m c main_arg5) (V m c main_v0_3) $$ HI
      icases HI with ⟨Hc, Hy, Hx⟩
      isplitl [HS0 HS1]
      · isplitl [HS0]; · iexact HS0
        iexact HS1
      isplitl [Hg]; · iexact Hg
      isplitl [Hc]; · iexact Hc
      isplitl [Hx]; · iexact Hx
      iexact Hy)

/-- An argument's array is unchanged at the end. -/
theorem kept (r : PUnit × MemSt nD τ sig (Elt F)) (h : Pipeline.FramePostRG cfgs (dats m) 0 R0 (V m) (final m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).1 3).trans (((dats m 0 c).arrAt_in 3 rfl _).trans ((A_eq m c 3).trans (V_main_arg3 m c))),
    ((h.1 c).1 4).trans (((dats m 0 c).arrAt_in 4 rfl _).trans ((A_eq m c 4).trans (V_main_arg4 m c))),
    ((h.1 c).2 main_arg5 (Finset.mem_sdiff.mpr ⟨Pipeline.mem_restRefs_of main_arg5 (by decide) (by decide), by decide⟩))⟩

/-- The frame: the call ends, its arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => kept m r h.1 c, h.2⟩) (run_main m ρ)

end Cert.KernelIdeal.Hand

end
-- ==== Proof.Same.lean ====
/-
  The kernel as printed for `Bits` and as printed for the ideal instance are one program: no operation was rewritten.
  So what is proved of the second at every float instance holds of the first.
-/
module

public import proofs.«01_k».proof.Defs
public import proofs.«01_k».proof.Proof.Gen.Kernel
public import proofs.«01_k».proof.Proof.Gen.KernelIdeal
public import proofs.«01_k».proof.Proof.Run

@[expose] public section

namespace Cert.Same

open Idealize.ShloMosaic

variable {F : FTy → Type} [FloatOps F]
variable [h : Cert.Kernel.Facts] [h' : Cert.KernelIdeal.Facts]

/-- The two bodies are one. -/
theorem gateup_eq : @Cert.Kernel.cc0_gateup F _ _ = @Cert.KernelIdeal.cc0_gateup F _ _ := by rfl

/-- The two calls of `@main` are one. -/
theorem main_eq : Cert.Kernel.main (F := F) = Cert.KernelIdeal.main (F := F) := by rfl

/-- The two body tables are one. -/
theorem defs0_eq : @Cert.Kernel.defs₀ F _ _ = @Cert.KernelIdeal.defs₀ F _ _ := by
  unfold Cert.Kernel.defs₀ Cert.KernelIdeal.defs₀
  refine congrArg Defs.onTc ?_
  funext l x
  revert x
  match l with
  | 0 => intro ⟨t, s⟩; exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun gateup_eq _) _) _) _) _) _) _) _) _) _) _) _) _) _) _) _) _) _) _) _) _) _) _) _) _) _

/-- The two tables of the whole program are one. -/
theorem defs_eq : @Cert.Kernel.defs F _ _ = @Cert.KernelIdeal.defs F _ _ := by
  unfold Cert.Kernel.defs Cert.KernelIdeal.defs
  exact congrArg (Pipeline.defs (Cert.KernelIdeal.pcfgs (F := F))) defs0_eq

/-- A fact of the runs of one program is a fact of the runs of the other. -/
theorem run_eq (s : MemSt Cert.KernelIdeal.nD Cert.KernelIdeal.τ Cert.KernelIdeal.sig (Elt F)) (Q : PUnit × MemSt Cert.KernelIdeal.nD Cert.KernelIdeal.τ Cert.KernelIdeal.sig (Elt F) → Prop)
    (H : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  have e : @θ_run _ _ _ _ _ (Cert.KernelIdeal.defs (F := F)) = @θ_run _ _ _ _ _ (Cert.Kernel.defs (F := F)) := congrArg (fun d => @θ_run _ _ _ _ _ d) defs_eq.symm
  rw [e] at H
  exact H

end Cert.Same

end
-- ==== Proof.RefValue.lean ====
/-
  The reference's arrays after its run, each as one function of the argument arrays: its one point's blocks are the arrays.
-/
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S1152x18944.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S1152x18944.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S1152x148.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S6x1536x3584.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      kept_main_arg0 m r h c,
      kept_main_arg1 m r h c,
      kept_main_arg2 m r h c,
      kept_main_arg3 m r h c,
      kept_main_arg4 m r h c,
      kept_main_arg5 m r h c⟩)
    (run_main m ρ)

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S28x148.Idx) : ((cfg0.win 0).blk t).view.emb j = j := by
  obtain ⟨e0, e1⟩ := idx_zero0 t
  funext a; apply Fin.ext
  match a with
  | ⟨0, _⟩ => show win0_0.index t (0 : Fin 2) * 28 + 1 * (j 0).val = (j 0).val; omega
  | ⟨1, _⟩ => show win0_0.index t (1 : Fin 2) * 148 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S28x148.Idx) : ((cfg0.win 1).blk t).view.emb j = j := by
  obtain ⟨e0, e1⟩ := idx_zero1 t
  funext a; apply Fin.ext
  match a with
  | ⟨0, _⟩ => show win0_1.index t (0 : Fin 2) * 28 + 1 * (j 0).val = (j 0).val; omega
  | ⟨1, _⟩ => show win0_1.index t (1 : Fin 2) * 148 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1152x3584.Idx) : ((cfg0.win 2).blk t).view.emb j = j := by
  obtain ⟨e0, e1⟩ := idx_zero2 t
  funext a; apply Fin.ext
  match a with
  | ⟨0, _⟩ => show win0_2.index t (0 : Fin 2) * 1152 + 1 * (j 0).val = (j 0).val; omega
  | ⟨1, _⟩ => show win0_2.index t (1 : Fin 2) * 3584 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S3584x18944.Idx) : ((cfg0.win 3).blk t).view.emb j = j := by
  obtain ⟨e0, e1⟩ := idx_zero3 t
  funext a; apply Fin.ext
  match a with
  | ⟨0, _⟩ => show win0_3.index t (0 : Fin 2) * 3584 + 1 * (j 0).val = (j 0).val; omega
  | ⟨1, _⟩ => show win0_3.index t (1 : Fin 2) * 18944 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S3584x18944.Idx) : ((cfg0.win 4).blk t).view.emb j = j := by
  obtain ⟨e0, e1⟩ := idx_zero4 t
  funext a; apply Fin.ext
  match a with
  | ⟨0, _⟩ => show win0_4.index t (0 : Fin 2) * 3584 + 1 * (j 0).val = (j 0).val; omega
  | ⟨1, _⟩ => show win0_4.index t (1 : Fin 2) * 18944 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S6x1536x3584.Idx) : ((cfg0.win 5).blk t).view.emb j = j := by
  obtain ⟨e0, e1, e2⟩ := idx_zero5 t
  funext a; apply Fin.ext
  match a with
  | ⟨0, _⟩ => show win0_5.index t (0 : Fin 3) * 6 + 1 * (j 0).val = (j 0).val; omega
  | ⟨1, _⟩ => show win0_5.index t (1 : Fin 3) * 1536 + 1 * (j 1).val = (j 1).val; omega
  | ⟨2, _⟩ => show win0_5.index t (2 : Fin 3) * 3584 + 1 * (j 2).val = (j 2).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S1152x18944.Idx) : ((cfg0.win 6).blk t).view.emb j = j := by
  obtain ⟨e0, e1⟩ := idx_zero6 t
  funext a; apply Fin.ext
  match a with
  | ⟨0, _⟩ => show win0_6.index t (0 : Fin 2) * 1152 + 1 * (j 0).val = (j 0).val; omega
  | ⟨1, _⟩ => show win0_6.index t (1 : Fin 2) * 18944 + 1 * (j 1).val = (j 1).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S1152x18944.Idx) : ((cfg0.win 7).blk t).view.emb j = j := by
  obtain ⟨e0, e1⟩ := idx_zero7 t
  funext a; apply Fin.ext
  match a with
  | ⟨0, _⟩ => show win0_7.index t (0 : Fin 2) * 1152 + 1 * (j 0).val = (j 0).val; omega
  | ⟨1, _⟩ => show win0_7.index t (1 : Fin 2) * 18944 + 1 * (j 1).val = (j 1).val; omega

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S1152x148.Idx) : ((cfg0.win 8).blk t).view.emb j = j := by
  obtain ⟨e0, e1⟩ := idx_zero8 t
  funext a; apply Fin.ext
  match a with
  | ⟨0, _⟩ => show win0_8.index t (0 : Fin 2) * 1152 + 1 * (j 0).val = (j 0).val; omega
  | ⟨1, _⟩ => show win0_8.index t (1 : Fin 2) * 148 + 1 * (j 1).val = (j 1).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S6x1536x3584.Idx) : ((cfg0.win 9).blk t).view.emb j = j := by
  obtain ⟨e0, e1, e2⟩ := idx_zero9 t
  funext a; apply Fin.ext
  match a with
  | ⟨0, _⟩ => show win0_9.index t (0 : Fin 3) * 6 + 1 * (j 0).val = (j 0).val; omega
  | ⟨1, _⟩ => show win0_9.index t (1 : Fin 3) * 1536 + 1 * (j 1).val = (j 1).val; omega
  | ⟨2, _⟩ => show win0_9.index t (2 : Fin 3) * 3584 + 1 * (j 2).val = (j 2).val; omega

/-! ### Output window 6: the array after the run -/

/-- What the window's array ends holding: `out0_6` applied to the argument arrays in place of the input blocks (a value that the
    frame states apart, `kK_payN a…`, keeps its loads inside its own definition). -/
abbrev G6 (a0 : Vec F S28x148 .f32) (a1 : Vec F S28x148 .f32) (a2 : Vec F S1152x3584 .bf16) (a3 : Vec F S3584x18944 .fp8e4m3) (a4 : Vec F S3584x18944 .fp8e4m3) (a5 : Vec F S6x1536x3584 .bf16) : Vec F S1152x18944 .fp8e4m3 :=
  k0_pay9 (k0_pay11 a0 a1 a2 a3 a4 a5) (k0_pay12 a0 a1 a2 a3 a4 a5) (k0_pay13 a0 a1 a2 a3 a4 a5) (k0_pay14 a0 a1 a2 a3 a4 a5) (k0_pay15 a0 a1 a2 a3 a4 a5) (Scalar.ofBits .f32 0xFF800000#32) (Scalar.ofBits .f32 0xFF000000#32)

/-- The one store through the whole rectangle leaves its payload. -/
theorem out6_eq (a0 : Vec F S28x148 .f32) (a1 : Vec F S28x148 .f32) (a2 : Vec F S1152x3584 .bf16) (a3 : Vec F S3584x18944 .fp8e4m3) (a4 : Vec F S3584x18944 .fp8e4m3) (a5 : Vec F S6x1536x3584 .bf16) : out0_6 (F := F) a0 a1 a2 a3 a4 a5 = G6 a0 a1 a2 a3 a4 a5 := by
  unfold out0_6
  rw [View.canon_unit_zero hz6]

/-- Cutting the point's block out of `X` and reading `X` through the block's view give the same. -/
theorem cut6_eq (t : Fin cfg0.N) (X : Vec F S1152x18944 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S1152x18944.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S28x148 .f32) (a1 : Vec F S28x148 .f32) (a2 : Vec F S1152x3584 .bf16) (a3 : Vec F S3584x18944 .fp8e4m3) (a4 : Vec F S3584x18944 .fp8e4m3) (a5 : Vec F S6x1536x3584 .bf16) : Vec F S1152x18944 .bf16 :=
  k0_pay1 (k0_pay10 (k0_pay11 a0 a1 a2 a3 a4 a5) (k0_pay12 a0 a1 a2 a3 a4 a5) (k0_pay13 a0 a1 a2 a3 a4 a5) (k0_pay14 a0 a1 a2 a3 a4 a5) (k0_pay15 a0 a1 a2 a3 a4 a5) (Scalar.ofBits .f32 0xFF800000#32) (Scalar.ofBits .f32 0xFF000000#32))

/-- The one store through the whole rectangle leaves its payload. -/
theorem out7_eq (a0 : Vec F S28x148 .f32) (a1 : Vec F S28x148 .f32) (a2 : Vec F S1152x3584 .bf16) (a3 : Vec F S3584x18944 .fp8e4m3) (a4 : Vec F S3584x18944 .fp8e4m3) (a5 : Vec F S6x1536x3584 .bf16) : out0_7 (F := F) a0 a1 a2 a3 a4 a5 = G7 a0 a1 a2 a3 a4 a5 := by
  unfold out0_7
  rw [View.canon_unit_zero hz7]

/-- Cutting the point's block out of `X` and reading `X` through the block's view give the same. -/
theorem cut7_eq (t : Fin cfg0.N) (X : Vec F S1152x18944 .bf16) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S1152x18944.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S28x148 .f32) (a1 : Vec F S28x148 .f32) (a2 : Vec F S1152x3584 .bf16) (a3 : Vec F S3584x18944 .fp8e4m3) (a4 : Vec F S3584x18944 .fp8e4m3) (a5 : Vec F S6x1536x3584 .bf16) : Vec F S1152x148 .f32 :=
  k0_pay7 (k0_pay12 a0 a1 a2 a3 a4 a5) (k0_pay13 a0 a1 a2 a3 a4 a5) (k0_pay14 a0 a1 a2 a3 a4 a5)

/-- The one store through the whole rectangle leaves its payload. -/
theorem out8_eq (a0 : Vec F S28x148 .f32) (a1 : Vec F S28x148 .f32) (a2 : Vec F S1152x3584 .bf16) (a3 : Vec F S3584x18944 .fp8e4m3) (a4 : Vec F S3584x18944 .fp8e4m3) (a5 : Vec F S6x1536x3584 .bf16) : out0_8 (F := F) a0 a1 a2 a3 a4 a5 = G8 a0 a1 a2 a3 a4 a5 := by
  unfold out0_8
  rw [View.canon_unit_zero hz8]

/-- Cutting the point's block out of `X` and reading `X` through the block's view give the same. -/
theorem cut8_eq (t : Fin cfg0.N) (X : Vec F S1152x148 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S1152x148.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ### Output window 9: the array after the run -/

/-- What the window's array ends holding: `out0_9` applied to the argument arrays in place of the input blocks (a value that the
    frame states apart, `kK_payN a…`, keeps its loads inside its own definition). -/
abbrev G9 (a0 : Vec F S28x148 .f32) (a1 : Vec F S28x148 .f32) (a2 : Vec F S1152x3584 .bf16) (a3 : Vec F S3584x18944 .fp8e4m3) (a4 : Vec F S3584x18944 .fp8e4m3) (a5 : Vec F S6x1536x3584 .bf16) : Vec F S6x1536x3584 .bf16 :=
  a5

/-- A load of the whole of a block reads the block, and the one store through the whole rectangle leaves its payload. -/
theorem out9_eq (a0 : Vec F S28x148 .f32) (a1 : Vec F S28x148 .f32) (a2 : Vec F S1152x3584 .bf16) (a3 : Vec F S3584x18944 .fp8e4m3) (a4 : Vec F S3584x18944 .fp8e4m3) (a5 : Vec F S6x1536x3584 .bf16) : out0_9 (F := F) a0 a1 a2 a3 a4 a5 = G9 a0 a1 a2 a3 a4 a5 := by
  unfold out0_9
  rw [View.canon_unit_zero hz9, View.ld_unit_zero (S := S6x1536x3584) hz5 _ a5]

/-- Cutting the point's block out of `X` and reading `X` through the block's view give the same. -/
theorem cut9_eq (t : Fin cfg0.N) (X : Vec F S6x1536x3584 .bf16) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5)) := by
  show (cfg0.win 9).cut (grid0.coords t) ((dats m 0 c).after 9 t) = _
  rw [after0_9, out9_eq, iblk0_eq, iblk1_eq, iblk2_eq, iblk3_eq, iblk4_eq, iblk5_eq]
  exact cut9_eq t _

/-- Every index of the array is in the point's block. -/
theorem covered9 (i : S6x1536x3584.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 9 (G9 (V m c main_arg0) (V m c main_arg1) (V m c main_arg2) (V m c main_arg3) (V m c main_arg4) (V m c main_arg5)) (fun t _ => flushed9_eq m c t) covered9).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Hand

end
-- ==== Proof.Quant.lean ====
/-
  The quantiser's scale of one number, at the ideal values: the search for the exponent field's word finds the power of two that the
  reference writes by a logarithm, and the words built from it denote the reference's scale and inverse scale.
-/
module

public import Idealize.ShloMosaic.PureOps.Ideal.Laws
public import Mathlib.Analysis.SpecialFunctions.Log.Basic
public import Mathlib.Analysis.SpecialFunctions.Pow.Real

@[expose] public section

noncomputable section

namespace Cert.Quant

open Idealize.ShloMosaic

/-- The number that an f32 word denotes. -/
abbrev val (b : BitVec 32) : EReal := Ideal.ofBits .f32 b

/-- One step of the search: the bits `k` set too, if the number is no smaller than that word's. -/
def bstep (a : EReal) (k b : BitVec 32) : BitVec 32 := Scalar.select (Ideal.cmp .olt a (val (b + k))) b (b + k)

/-- The exponent field's word. -/
def field (a : EReal) : BitVec 32 :=
  bstep a 8388608#32 (bstep a 16777216#32 (bstep a 33554432#32 (bstep a 67108864#32 (bstep a 134217728#32 (bstep a 268435456#32
    (bstep a 536870912#32 (bstep a 1073741824#32 0#32)))))))

/-- The kernel's scale. -/
def scale (a : EReal) : EReal :=
  val (Scalar.select (IntOp.cmpi .eq (field a) 0#32) 1065353216#32 (field a + 8388608#32))

/-- The kernel's inverse scale. -/
def inv (a : EReal) : EReal :=
  val (Scalar.select (IntOp.cmpi .eq (field a) 0#32) 1065353216#32 (2122317824#32 - field a))

/-- The reference's exponent. -/
def rexp (a : EReal) : EReal := Ideal.liftRound Int.floor (Ideal.div (Ideal.log a) (Ideal.log (val 0x40000000#32))) + val 0x3F800000#32

/-- The reference's scale. -/
def rscale (a : EReal) : EReal :=
  Scalar.select (Ideal.cmp .olt a (val 0x00800000#32)) (val 0x3F800000#32)
    (Scalar.select (Ideal.cmp .olt a (val 0x7F000000#32)) (Ideal.exp2 (rexp a))
      (Scalar.select (Ideal.cmp .olt a (val 0x7F800000#32)) (val 0x7F800000#32) (val 0x00000000#32)))

/-- The reference's inverse scale. -/
def rinv (a : EReal) : EReal :=
  Scalar.select (Ideal.cmp .olt a (val 0x00800000#32)) (val 0x3F800000#32)
    (Scalar.select (Ideal.cmp .olt a (val 0x7E800000#32)) (Ideal.exp2 (val 0x00000000#32 - rexp a))
      (Scalar.select (Ideal.cmp .olt a (val 0x7F000000#32)) (val 0x00000000#32)
        (Scalar.select (Ideal.cmp .olt a (val 0x7F800000#32)) (val 0xFF800000#32) (val 0xFF000000#32))))

/-- A choice by a comparison. -/
theorem select_olt {α : Type} (a b : EReal) (x y : α) : Scalar.select (Ideal.cmp .olt a b) x y = if a < b then x else y := by
  by_cases h : a < b <;> simp [Scalar.select, Ideal.cmp, h]

theorem sel_zero {α : Type} (x y : α) : Scalar.select 0#1 x y = y := rfl
theorem sel_one {α : Type} (x y : α) : Scalar.select 1#1 x y = x := rfl

/-- The word with the exponent field `k` and nothing else. -/
def word (k : ℕ) : BitVec 32 := BitVec.ofNat 32 (k * 8388608)

theorem word_add (l k : ℕ) : word l + word k = word (l + k) := by
  unfold word
  rw [← BitVec.ofNat_add, Nat.add_mul]

theorem lit_1 : (0x00800000#32 : BitVec 32) = word 1 := by decide
theorem lit_127 : (0x3F800000#32 : BitVec 32) = word 127 := by decide
theorem lit_128 : (0x40000000#32 : BitVec 32) = word 128 := by decide
theorem lit_253 : (0x7E800000#32 : BitVec 32) = word 253 := by decide
theorem lit_254 : (0x7F000000#32 : BitVec 32) = word 254 := by decide
theorem lit_255 : (0x7F800000#32 : BitVec 32) = word 255 := by decide
theorem lit_256 : word 256 = 0x80000000#32 := by decide
theorem sub_253 : word 253 - word 253 = 0x00000000#32 := by decide
theorem sub_254 : word 253 - word 254 = 0xFF800000#32 := by decide
theorem sub_255 : word 253 - word 255 = 0xFF000000#32 := by decide

theorem word_fields : ∀ k : Fin 256, (word k.val).extractLsb' 31 1 = 0#1 ∧ ((word k.val).extractLsb' 23 8).toNat = k.val ∧
    ((word k.val).extractLsb' 0 23).toNat = 0 := by decide +kernel

theorem word_sign (k : ℕ) (h2 : k ≤ 255) : (word k).extractLsb' 31 1 = 0#1 := (word_fields ⟨k, by omega⟩).1
theorem word_exp (k : ℕ) (h2 : k ≤ 255) : ((word k).extractLsb' 23 8).toNat = k := (word_fields ⟨k, by omega⟩).2.1
theorem word_frac (k : ℕ) (h2 : k ≤ 255) : ((word k).extractLsb' 0 23).toNat = 0 := (word_fields ⟨k, by omega⟩).2.2

/-- A positive normal pattern with no significand bits is a power of two. -/
theorem normal_pow (k : ℕ) : ((1 : ℝ) * ((2 ^ 23 + 0 : ℕ) : ℝ) * (2 : ℝ) ^ ((k : ℤ) - (2 ^ (8 - 1) - 1 : ℤ) - 23)) = (2 : ℝ) ^ ((k : ℤ) - 127) := by
  have key : (2 : ℝ) ^ ((k : ℤ) - 127) = (2 : ℝ) ^ (23 : ℕ) * (2 : ℝ) ^ ((k : ℤ) - (2 ^ (8 - 1) - 1 : ℤ) - 23) := by
    rw [← zpow_natCast, ← zpow_add₀ (by norm_num)]
    exact congrArg _ (by norm_num)
  rw [key, Nat.add_zero, Nat.cast_pow, one_mul]
  rfl

/-- An f32 pattern by its three fields, where it is normal and positive. -/
theorem ieee_normal (b : BitVec 32) (k : ℕ) (h1 : 1 ≤ k) (h2 : k ≤ 254) (e1 : b.extractLsb' 31 1 = 0#1)
    (e2 : (b.extractLsb' 23 8).toNat = k) (e3 : (b.extractLsb' 0 23).toNat = 0) :
    Ideal.ieee 8 23 b = (((2 : ℝ) ^ ((k : ℤ) - 127) : ℝ) : EReal) := by
  have e1' : b.extractLsb' (8 + 23) 1 = 0#1 := e1
  have n1 : ¬ k = 2 ^ 8 - 1 := by omega
  have n2 : ¬ k = 0 := by omega
  have n3 : ¬ ((0#1 : BitVec 1) == 1#1) = true := by decide
  unfold Ideal.ieee
  dsimp only
  rw [e1', e2, e3, if_neg n1, if_neg n2, if_neg n3]
  exact congrArg Real.toEReal (normal_pow k)

/-- The word of the exponent field `k` denotes the power of two `k - 127`. -/
theorem val_word (k : ℕ) (h1 : 1 ≤ k) (h2 : k ≤ 254) : val (word k) = (((2 : ℝ) ^ ((k : ℤ) - 127) : ℝ) : EReal) :=
  ieee_normal (word k) k h1 h2 (word_sign k (by omega)) (word_exp k (by omega)) (word_frac k (by omega))

/-- The word of the exponent field 255 denotes infinity. -/
theorem val_word_top : val (word 255) = ⊤ := by
  rw [← lit_255]
  simp [val, Ideal.ofBits, Ideal.ieee]

/-- One step of the search, on exponent fields. -/
theorem bstep_word (a : EReal) (k l : ℕ) :
    bstep a (word k) (word l) = word (if a < val (word (l + k)) then l else l + k) := by
  unfold bstep
  rw [select_olt, word_add]
  split <;> rfl

/-- What a step keeps: the number lies from the field `l`'s power on and below the field `l + w`'s. -/
def Between (a : EReal) (l w : ℕ) : Prop := (l = 0 ∨ val (word l) ≤ a) ∧ (l + w = 256 ∨ a < val (word (l + w)))

/-- A step halves the range. -/
theorem between_step (a : EReal) (l k : ℕ) (h : Between a l (2 * k)) (d : 2 * k ∣ l) (hl : l + 2 * k ≤ 256) :
    ∃ l', bstep a (word k) (word l) = word l' ∧ Between a l' k ∧ k ∣ l' ∧ l' + k ≤ 256 := by
  have dk : k ∣ l := Dvd.dvd.trans ⟨2, by ring⟩ d
  rw [bstep_word]
  by_cases c : a < val (word (l + k))
  · exact ⟨l, by rw [if_pos c], ⟨h.1, .inr c⟩, dk, by omega⟩
  · refine ⟨l + k, by rw [if_neg c], ⟨.inr (not_lt.mp c), ?_⟩, dvd_add dk (dvd_refl k), by omega⟩
    have := h.2
    rw [show l + k + k = l + 2 * k by ring]
    exact this

/-- The search ends at the field whose powers the number lies between. -/
theorem field_spec (a : EReal) : ∃ e, field a = word e ∧ Between a e 1 ∧ e ≤ 255 := by
  have z : word 0 = 0#32 := by decide
  obtain ⟨l1, h1, b1, d1, r1⟩ := between_step a 0 128 ⟨.inl rfl, .inl rfl⟩ (by decide) (by decide)
  obtain ⟨l2, h2, b2, d2, r2⟩ := between_step a l1 64 b1 d1 r1
  obtain ⟨l3, h3, b3, d3, r3⟩ := between_step a l2 32 b2 d2 r2
  obtain ⟨l4, h4, b4, d4, r4⟩ := between_step a l3 16 b3 d3 r3
  obtain ⟨l5, h5, b5, d5, r5⟩ := between_step a l4 8 b4 d4 r4
  obtain ⟨l6, h6, b6, d6, r6⟩ := between_step a l5 4 b5 d5 r5
  obtain ⟨l7, h7, b7, d7, r7⟩ := between_step a l6 2 b6 d6 r6
  obtain ⟨l8, h8, b8, d8, r8⟩ := between_step a l7 1 b7 d7 r7
  refine ⟨l8, ?_, b8, by omega⟩
  have w : (8388608#32 : BitVec 32) = word 1 ∧ (16777216#32 : BitVec 32) = word 2 ∧ (33554432#32 : BitVec 32) = word 4 ∧
      (67108864#32 : BitVec 32) = word 8 ∧ (134217728#32 : BitVec 32) = word 16 ∧ (268435456#32 : BitVec 32) = word 32 ∧
      (536870912#32 : BitVec 32) = word 64 ∧ (1073741824#32 : BitVec 32) = word 128 := by decide
  obtain ⟨w1, w2, w3, w4, w5, w6, w7, w8⟩ := w
  unfold field
  rw [w1, w2, w3, w4, w5, w6, w7, w8, ← z, h1, h2, h3, h4, h5, h6, h7, h8]

theorem word_0 : val (0x00000000#32) = 0 := Ideal.ofBits_zero_f32

theorem word_one : val (0x3F800000#32) = 1 := by
  rw [lit_127, val_word 127 (by omega) (by omega)]; norm_num

theorem word_two : val (0x40000000#32) = ((2 : ℝ) : EReal) := by
  rw [lit_128, val_word 128 (by omega) (by omega)]; norm_num

/-- The powers grow with the field. -/
theorem val_word_le {k l : ℕ} (h1 : 1 ≤ k) (h : k ≤ l) (h2 : l ≤ 255) : val (word k) ≤ val (word l) := by
  rcases Nat.lt_or_ge l 255 with c | c
  · rw [val_word k h1 (by omega), val_word l (by omega) (by omega)]
    exact EReal.coe_le_coe_iff.mpr (zpow_le_zpow_right₀ (by norm_num) (by omega))
  · have : l = 255 := by omega
    rw [this, val_word_top]; exact le_top

/-- The reference's exponent of a number between two powers. -/
theorem rexp_of (a : EReal) (e : ℕ) (h1 : 1 ≤ e) (h2 : e ≤ 253) (hl : val (word e) ≤ a) (hu : a < val (word (e + 1))) :
    rexp a = (((e : ℝ) - 126 : ℝ) : EReal) := by
  rw [val_word e h1 (by omega)] at hl
  rw [val_word (e + 1) (by omega) (by omega)] at hu
  have hb : a ≠ ⊥ := by rintro rfl; exact absurd hl (by simp)
  have ht : a ≠ ⊤ := by rintro rfl; exact absurd hu (by simp)
  lift a to ℝ using ⟨ht, hb⟩ with r
  have hl' : (2 : ℝ) ^ ((e : ℤ) - 127) ≤ r := EReal.coe_le_coe_iff.mp hl
  have hu' : r < (2 : ℝ) ^ (((e + 1 : ℕ) : ℤ) - 127) := EReal.coe_lt_coe_iff.mp hu
  have hp : 0 < r := lt_of_lt_of_le (by positivity) hl'
  have l2 : 0 < Real.log 2 := Real.log_pos (by norm_num)
  have e1 : Ideal.log ((r : ℝ) : EReal) = ((Real.log r : ℝ) : EReal) := by
    show (if r ≤ 0 then (⊥ : EReal) else (Real.log r : EReal)) = _
    rw [if_neg (not_le.mpr hp)]
  have e2 : Ideal.log (val 0x40000000#32) = ((Real.log 2 : ℝ) : EReal) := by
    rw [word_two]
    show (if (2 : ℝ) ≤ 0 then (⊥ : EReal) else (Real.log 2 : EReal)) = _
    rw [if_neg (by norm_num)]
  have e3 : Ideal.div ((Real.log r : ℝ) : EReal) ((Real.log 2 : ℝ) : EReal) = ((Real.log r / Real.log 2 : ℝ) : EReal) := by
    unfold Ideal.div
    rw [if_neg (by rw [EReal.coe_eq_zero]; exact l2.ne'), ← EReal.coe_inv, ← EReal.coe_mul, div_eq_mul_inv]
  have f1 : ⌊Real.log r / Real.log 2⌋ = (e : ℤ) - 127 := by
    rw [Int.floor_eq_iff]
    constructor
    · rw [le_div_iff₀ l2, ← Real.log_zpow]
      exact Real.log_le_log (by positivity) hl'
    · rw [div_lt_iff₀ l2]
      have := Real.log_lt_log hp hu'
      rw [Real.log_zpow] at this
      push_cast at this ⊢
      linarith
  unfold rexp
  rw [e1, e2, e3, word_one]
  show ((⌊Real.log r / Real.log 2⌋ : ℝ) : EReal) + 1 = _
  rw [f1, ← EReal.coe_one, ← EReal.coe_add]
  congr 1
  push_cast
  ring

/-- A whole power of two. -/
theorem exp2_int (z : ℤ) : Ideal.exp2 (((z : ℝ) : ℝ) : EReal) = (((2 : ℝ) ^ z : ℝ) : EReal) := by
  show ((Real.rpow 2 (z : ℝ) : ℝ) : EReal) = _
  congr 1
  exact Real.rpow_intCast 2 z

theorem word_sub : ∀ k : Fin 254, word 253 - word k.val = word (253 - k.val) := by decide +kernel

theorem word_zero : ∀ k : Fin 256, (word k.val == 0#32) = decide (k.val = 0) := by decide +kernel

theorem field_zero_iff (e : ℕ) (h : e ≤ 255) : IntOp.cmpi .eq (word e) 0#32 = if e = 0 then 1#1 else 0#1 := by
  have : (word e == 0#32) = decide (e = 0) := word_zero ⟨e, by omega⟩
  unfold IntOp.cmpi
  simp only [this]
  by_cases c : e = 0 <;> simp [c]

/-- The kernel's scale is the reference's. -/
theorem scale_eq (a : EReal) : scale a = rscale a := by
  obtain ⟨e, hf, ⟨hl, hu⟩, he⟩ := field_spec a
  unfold scale rscale
  rw [hf, field_zero_iff e he, select_olt, select_olt, select_olt, lit_1, lit_254, lit_255, lit_127]
  by_cases h0 : e = 0
  · subst h0
    rw [if_pos rfl, sel_one, if_pos (hu.resolve_left (by omega))]
  rw [if_neg h0]
  replace hl := hl.resolve_left h0
  have hn : ¬ a < val (word 1) := not_lt.mpr ((val_word_le (le_refl 1) (by omega) he).trans hl)
  rw [if_neg hn, sel_zero, word_add]
  rcases Nat.lt_or_ge e 254 with c | c
  · replace hu := hu.resolve_left (by omega)
    rw [if_pos (lt_of_lt_of_le hu (val_word_le (by omega) (by omega) (by omega))), rexp_of a e (by omega) (by omega) hl hu,
      val_word _ (by omega) (by omega)]
    have := exp2_int ((e : ℤ) - 126)
    push_cast at this ⊢
    rw [this]; congr 2; ring
  have hn2 : ¬ a < val (word 254) := not_lt.mpr ((val_word_le (by omega) c he).trans hl)
  rw [if_neg hn2]
  rcases Nat.lt_or_ge e 255 with c' | c'
  · have : e = 254 := by omega
    subst this
    rw [if_pos (hu.resolve_left (by omega))]
  · have : e = 255 := by omega
    subst this
    rw [if_neg (not_lt.mpr hl)]
    rw [lit_256, word_0]
    simp [val, Ideal.ofBits, Ideal.ieee]

/-- The kernel's inverse scale is the reference's. -/
theorem inv_eq (a : EReal) : inv a = rinv a := by
  obtain ⟨e, hf, ⟨hl, hu⟩, he⟩ := field_spec a
  unfold inv rinv
  rw [hf, field_zero_iff e he, select_olt, select_olt, select_olt, select_olt, lit_1, lit_253, lit_254, lit_255, lit_127]
  by_cases h0 : e = 0
  · subst h0
    rw [if_pos rfl, sel_one, if_pos (hu.resolve_left (by omega))]
  rw [if_neg h0]
  replace hl := hl.resolve_left h0
  have hn : ¬ a < val (word 1) := not_lt.mpr ((val_word_le (le_refl 1) (by omega) he).trans hl)
  rw [if_neg hn, sel_zero]
  rcases Nat.lt_or_ge e 253 with c | c
  · have ew : word 253 - word e = word (253 - e) := word_sub ⟨e, by omega⟩
    replace hu := hu.resolve_left (by omega)
    rw [ew, if_pos (lt_of_lt_of_le hu (val_word_le (by omega) (by omega) (by omega))), rexp_of a e (by omega) (by omega) hl hu,
      val_word _ (by omega) (by omega), word_0, zero_sub, ← EReal.coe_neg]
    have := exp2_int (126 - (e : ℤ))
    rw [show -((e : ℝ) - 126) = (((126 - (e : ℤ) : ℤ)) : ℝ) by push_cast; ring, this]
    congr 2
    omega
  have hn2 : ¬ a < val (word 253) := not_lt.mpr ((val_word_le (by omega) c he).trans hl)
  rw [if_neg hn2]
  rcases Nat.lt_or_ge e 254 with c' | c'
  · have : e = 253 := by omega
    subst this
    rw [if_pos (hu.resolve_left (by omega))]
    rw [sub_253]
  have hn3 : ¬ a < val (word 254) := not_lt.mpr ((val_word_le (by omega) c' he).trans hl)
  rw [if_neg hn3]
  rcases Nat.lt_or_ge e 255 with c'' | c''
  · have : e = 254 := by omega
    subst this
    rw [if_pos (hu.resolve_left (by omega))]
    rw [sub_254]
  · have : e = 255 := by omega
    subst this
    rw [if_neg (not_lt.mpr hl)]
    rw [sub_255]

end Cert.Quant

end
-- ==== Proof.Maths.lean ====
/-
  What both programs compute, entry by entry, at the ideal values: the gated product of the activation with two block-scaled weights, the
  scale of each run of 128 lanes, the codes, and the codes times their scales.
-/
module

public import proofs.«01_k».proof.Proof.Quant
public import Idealize.ShloMosaic.Lib.ValueIdx

@[expose] public section

noncomputable section

namespace Cert.Maths

open Idealize.ShloMosaic
open Idealize.ShloMosaic.ValueIdx (ix2 ix3)

/-- A splat of a word's number, at an index. -/
theorem splat_apply (s : Shape) (b : BitVec 32) (j : s.Idx) : broadcast s (Scalar.ofBits (F := Ideal) .f32 b) j = Quant.val b := rfl

/-- A product with a block-scaled weight: the activation's row by the codes' column, each code times its 128 by 128 block's scale. -/
def dot (x : Vec Ideal ⟨2, ![1152, 3584]⟩ .bf16) (q : Vec Ideal ⟨2, ![3584, 18944]⟩ .fp8e4m3) (s : Vec Ideal ⟨2, ![28, 148]⟩ .f32)
    (r : Fin 1152) (n : Fin 18944) : EReal :=
  ∑ k : Fin 3584, (x (ix2 r k) : EReal) * ((q (ix2 k n) : EReal) * s (ix2 (⟨k.val / 128, by omega⟩ : Fin 28) (⟨n.val / 128, by omega⟩ : Fin 148)))

variable (sg su : Vec Ideal ⟨2, ![28, 148]⟩ .f32) (x : Vec Ideal ⟨2, ![1152, 3584]⟩ .bf16)
    (qg qu : Vec Ideal ⟨2, ![3584, 18944]⟩ .fp8e4m3)

/-- The gated product. -/
def H (r : Fin 1152) (n : Fin 18944) : EReal := dot x qg sg r n * Ideal.logistic (dot x qg sg r n) * dot x qu su r n

/-- The largest magnitude of a run of 128 numbers, over 448. -/
def top (h : Fin 128 → EReal) : EReal :=
  (Finset.univ : Finset (Fin 128)).fold max (Quant.val 0xFF800000#32) (fun l => max (h l) (-(h l))) * Quant.val 0x3B124925#32

/-- The run of 128 lanes. -/
def lane (r : Fin 1152) (b : Fin 148) (l : Fin 128) : EReal := H sg su x qg qu r ⟨b.val * 128 + l.val, by omega⟩

/-- The code of a number by its run's inverse scale. -/
def code (h i : EReal) : EReal := min (Quant.val 0x43E00000#32) (max (Quant.val 0xC3E00000#32) (h * i))

/-- A run's scale. -/
def S (r : Fin 1152) (b : Fin 148) : EReal := Quant.rscale (top (lane sg su x qg qu r b))

/-- A lane's code. -/
def C (r : Fin 1152) (b : Fin 148) (l : Fin 128) : EReal := code (lane sg su x qg qu r b l) (Quant.rinv (top (lane sg su x qg qu r b)))

/-- A lane's code times its run's scale. -/
def Q (r : Fin 1152) (b : Fin 148) (l : Fin 128) : EReal := C sg su x qg qu r b l * S sg su x qg qu r b

/-- The array of codes. -/
def arrC : Vec Ideal ⟨2, ![1152, 18944]⟩ .fp8e4m3 := fun y => C sg su x qg qu (y 0)
  ⟨(y 1).val / 128, by have h := (y 1).isLt; change (y 1).val < 18944 at h; omega⟩ ⟨(y 1).val % 128, by omega⟩

/-- The array of codes times their scales. -/
def arrQ : Vec Ideal ⟨2, ![1152, 18944]⟩ .bf16 := fun y => Q sg su x qg qu (y 0)
  ⟨(y 1).val / 128, by have h := (y 1).isLt; change (y 1).val < 18944 at h; omega⟩ ⟨(y 1).val % 128, by omega⟩

/-- The array of scales. -/
def arrS : Vec Ideal ⟨2, ![1152, 148]⟩ .f32 := fun y => S sg su x qg qu (y 0) (y 1)

end Cert.Maths

end
-- ==== Proof.RefMaths.lean ====
/-
  The reference's arrays, entry by entry, at the ideal values.
-/
module

public import proofs.«01_k».proof.Proof.RefValue
public import proofs.«01_k».proof.Proof.Maths
public import Idealize.ShloMosaic.Lib.MatmulPlain

@[expose] public section

noncomputable section

namespace Cert.ReferenceIdeal.Hand

open Cert.ReferenceIdeal Cert.ReferenceIdeal.Gen Idealize.ShloMosaic Idealize.ShloMosaic.TcCoe
open Idealize.ShloMosaic.ValueIdx (ix2 ix3 ix4 eq_ix2)
open Cert.Maths (dot H top lane code S C Q)

/-- A weight's codes times their blocks' scales, as the reference spreads them. -/
theorem widen_apply (q : Vec Ideal S3584x18944 .fp8e4m3) (s : Vec Ideal S28x148 .f32) (k : Fin 3584) (n : Fin 18944)
    (h1 : S3584x18944.ShapeCasts S28x128x148x128) (h2 : S28x148.ShapeCasts S28x1x148x1) (h3 : S28x1x148x1.Broadcasts S28x128x148x128)
    (h4 : S28x128x148x128.ShapeCasts S3584x18944) (e1 : FTy.bits .fp8e4m3 < FTy.bits .bf16) (e2 : FTy.bits .bf16 < FTy.bits .f32) :
    shapeCast S3584x18944 (mulf (F := Ideal) (φ := .bf16) (shapeCast S28x128x148x128 (extf (F := Ideal) (φ := .fp8e4m3) .bf16 q e1) h1)
      (broadcastTo S28x128x148x128 (shapeCast S28x1x148x1 (truncf (F := Ideal) (φ := .f32) .bf16 s e2) h2) h3)) h4 (ix2 k n)
      = (q (ix2 k n) : EReal) * s (ix2 (⟨k.val / 128, by omega⟩ : Fin 28) (⟨n.val / 128, by omega⟩ : Fin 148)) := by
  have hk := k.isLt
  have hn := n.isLt
  rw [shapeCast_apply _ h4 (ix2 k n) (ix4 (⟨k.val / 128, by omega⟩ : Fin 28) (⟨k.val % 128, by omega⟩ : Fin 128)
    (⟨n.val / 128, by omega⟩ : Fin 148) (⟨n.val % 128, by omega⟩ : Fin 128)) (by
      rw [Shape.rowMajor_val_four, Shape.rowMajor_val_two]
      show (((k.val / 128) * 128 + k.val % 128) * 148 + n.val / 128) * 128 + n.val % 128 = k.val * 18944 + n.val
      omega)]
  rw [ValueIdx.mulf_apply]
  rw [shapeCast_apply _ h1 _ (ix2 k n) (by
      rw [Shape.rowMajor_val_four, Shape.rowMajor_val_two]
      show k.val * 18944 + n.val = (((k.val / 128) * 128 + k.val % 128) * 148 + n.val / 128) * 128 + n.val % 128
      omega)]
  rw [broadcastTo_apply _ h3 _ (ix4 (⟨k.val / 128, by omega⟩ : Fin 28) (0 : Fin 1) (⟨n.val / 128, by omega⟩ : Fin 148) (0 : Fin 1)) (by
      intro a; fin_cases a <;> rfl)]
  rw [shapeCast_apply _ h2 _ (ix2 (⟨k.val / 128, by omega⟩ : Fin 28) (⟨n.val / 128, by omega⟩ : Fin 148)) (by
      rw [Shape.rowMajor_val_four, Shape.rowMajor_val_two]
      show k.val / 128 * 148 + n.val / 128 = (((k.val / 128) * 1 + 0) * 148 + n.val / 128) * 1 + 0
      omega)]
  rfl

variable (a0 a1 : Vec Ideal S28x148 .f32) (a2 : Vec Ideal S1152x3584 .bf16) (a3 a4 : Vec Ideal S3584x18944 .fp8e4m3)

/-- A product with a weight so spread. -/
theorem dot_apply (x : Vec Ideal S1152x3584 .bf16) (w : FVec Ideal S3584x18944 .bf16) (q : Vec Ideal S3584x18944 .fp8e4m3) (s : Vec Ideal S28x148 .f32)
    (hw : ∀ k n, w (ix2 k n) = (q (ix2 k n) : EReal) * s (ix2 (⟨k.val / 128, by omega⟩ : Fin 28) (⟨n.val / 128, by omega⟩ : Fin 148)))
    (r : Fin 1152) (n : Fin 18944) :
    matmul (F := Ideal) (φ₁ := .bf16) (φ₂ := .bf16) dot_S1152x3584_S3584x18944_S1152x18944_1_0_0_1_n_n none x w (constant S1152x18944 .f32 0x00000000#32) (ix2 r n)
      = dot x q s r n := by
  refine (Ideal.matmul_plain_apply (φ₁ := .bf16) (φ₂ := .bf16) none x w (constant S1152x18944 .f32 0x00000000#32) r n).trans ?_
  show Ideal.ofBits .f32 0x00000000#32 + _ = _
  rw [Ideal.ofBits_zero_f32, zero_add]
  exact Finset.sum_congr rfl fun k _ => by rw [hw]

/-- The gated product. -/
theorem pay2_apply (r : Fin 1152) (b : Fin 148) (l : Fin 128) :
    k0_pay2 (F := Ideal) a2 a3 a0 a4 a1 (ix3 r b l) = lane a0 a1 a2 a3 a4 r b l := by
  have hb := b.isLt
  have hl := l.isLt
  have hw := fun k n => widen_apply a3 a0 k n shapeCasts_S3584x18944_S28x128x148x128 shapeCasts_S28x148_S28x1x148x1
    broadcasts_S28x1x148x1_S28x128x148x128 shapeCasts_S28x128x148x128_S3584x18944 bitsLt_fp8e4m3_bf16 bitsLt_bf16_f32
  have hv := fun k n => widen_apply a4 a1 k n shapeCasts_S3584x18944_S28x128x148x128 shapeCasts_S28x148_S28x1x148x1
    broadcasts_S28x1x148x1_S28x128x148x128 shapeCasts_S28x128x148x128_S3584x18944 bitsLt_fp8e4m3_bf16 bitsLt_bf16_f32
  have g := dot_apply a2 _ a3 a0 hw r ⟨b.val * 128 + l.val, by omega⟩
  have u := dot_apply a2 _ a4 a1 hv r ⟨b.val * 128 + l.val, by omega⟩
  unfold k0_pay2
  refine (shapeCast_apply _ shapeCasts_S1152x18944_S1152x148x128 (ix3 r b l) (ix2 r (⟨b.val * 128 + l.val, by omega⟩ : Fin 18944)) (by
      rw [Shape.rowMajor_val_three, Shape.rowMajor_val_two]
      show r.val * 18944 + (b.val * 128 + l.val) = (r.val * 148 + b.val) * 128 + l.val
      omega)).trans ?_
  unfold lane H
  rw [← g, ← u]
  exact congrArg₂ (fun p q : EReal => p * Ideal.logistic p * q) rfl rfl

/-- The runs' largest magnitudes over 448. -/
theorem pay3_apply (r : Fin 1152) (b : Fin 148) :
    k0_pay3 (F := Ideal) a2 a3 a0 a4 a1 (ix2 r b) = top (lane a0 a1 a2 a3 a4 r b) := by
  have h := Ideal.multiReduction_maximumf_single (absf (k0_pay2 (F := Ideal) a2 a3 a0 a4 a1)) 0xFF800000#32 reduces_S1152x148x128_S1152x148 (.inl rfl) rfl (ix2 r b)
  unfold k0_pay3
  rw [ValueIdx.mulf_apply, Maths.splat_apply]
  refine (congrArg (· * Quant.val 0x3B124925#32) h).trans ?_
  unfold top
  refine congrArg (· * Quant.val 0x3B124925#32) ?_
  refine Finset.fold_congr fun l _ => ?_
  have e : (reduces_S1152x148x128_S1152x148 : S1152x148x128.Reduces [2] S1152x148).lift (ix2 r b) l = ix3 r b l := by
    funext a; apply Fin.ext; fin_cases a <;> rfl
  show max (k0_pay2 (F := Ideal) a2 a3 a0 a4 a1 (Shape.Reduces.lift _ (ix2 r b) l)) (-(k0_pay2 (F := Ideal) a2 a3 a0 a4 a1 (Shape.Reduces.lift _ (ix2 r b) l))) = _
  rw [e]
  exact congrArg (fun v : EReal => max v (-v)) (pay2_apply a0 a1 a2 a3 a4 r b l)

section Pointwise
variable {s : Shape}

theorem floor_div_log_apply (u v : FVec Ideal s .f32) (j : s.Idx) :
    floor (divf (log u) (log v)) j = Ideal.liftRound Int.floor (Ideal.div (Ideal.log (u j)) (Ideal.log (v j))) := rfl
theorem olt_apply (u v : FVec Ideal s .f32) (j : s.Idx) : cmpf .olt u v j = Ideal.cmp .olt (u j) (v j) := rfl
theorem select_apply {α : Type} (c : IVec s 1) (u v : s.Idx → α) (j : s.Idx) : select c u v j = Scalar.select (c j) (u j) (v j) := rfl
theorem exp2_apply (u : FVec Ideal s .f32) (j : s.Idx) : exp2 u j = Ideal.exp2 (u j) := rfl

end Pointwise

/-- The exponents. -/
theorem pay4_apply (r : Fin 1152) (b : Fin 148) :
    k0_pay4 (F := Ideal) a2 a3 a0 a4 a1 (ix2 r b) = Quant.rexp (top (lane a0 a1 a2 a3 a4 r b)) := by
  unfold k0_pay4 Quant.rexp
  rw [ValueIdx.addf_apply, Maths.splat_apply, floor_div_log_apply, Maths.splat_apply, pay3_apply]

theorem pay5_apply (r : Fin 1152) (b : Fin 148) :
    k0_pay5 (F := Ideal) a2 a3 a0 a4 a1 (ix2 r b) = Ideal.cmp .olt (top (lane a0 a1 a2 a3 a4 r b)) (Quant.val 0x00800000#32) := by
  unfold k0_pay5
  rw [olt_apply, Maths.splat_apply, pay3_apply]

theorem pay6_apply (r : Fin 1152) (b : Fin 148) :
    k0_pay6 (F := Ideal) a2 a3 a0 a4 a1 (ix2 r b) = Ideal.cmp .olt (top (lane a0 a1 a2 a3 a4 r b)) (Quant.val 0x7F800000#32) := by
  unfold k0_pay6
  rw [olt_apply, Maths.splat_apply, pay3_apply]

/-- The scales. -/
theorem pay7_apply (r : Fin 1152) (b : Fin 148) :
    k0_pay7 (F := Ideal) (k0_pay3 a2 a3 a0 a4 a1) (k0_pay4 a2 a3 a0 a4 a1) (k0_pay5 a2 a3 a0 a4 a1) (ix2 r b) = S a0 a1 a2 a3 a4 r b := by
  unfold k0_pay7 S Quant.rscale
  rw [select_apply, select_apply, select_apply, olt_apply, olt_apply, exp2_apply, Maths.splat_apply, Maths.splat_apply, Maths.splat_apply,
    Maths.splat_apply, pay3_apply, pay4_apply, pay5_apply]

/-- A column of scales spread over the runs' lanes. -/
theorem spread_apply {α : Type} (v : S1152x148.Idx → α) (r : Fin 1152) (b : Fin 148) (l : Fin 128) :
    broadcastTo S1152x148x128 (shapeCast S1152x148x1 v shapeCasts_S1152x148_S1152x148x1) broadcasts_S1152x148x1_S1152x148x128 (ix3 r b l) = v (ix2 r b) := by
  rw [broadcastTo_apply _ broadcasts_S1152x148x1_S1152x148x128 (ix3 r b l) (ix3 r b (0 : Fin 1)) (by intro a; fin_cases a <;> rfl),
    shapeCast_apply _ shapeCasts_S1152x148_S1152x148x1 (ix3 r b (0 : Fin 1)) (ix2 r b) (by
      rw [Shape.rowMajor_val_three, Shape.rowMajor_val_two]
      show r.val * 148 + b.val = (r.val * 148 + b.val) * 1 + 0
      omega)]

/-- The codes. -/
theorem pay8_apply (r : Fin 1152) (b : Fin 148) (l : Fin 128) :
    k0_pay8 (F := Ideal) (k0_pay2 a2 a3 a0 a4 a1) (k0_pay3 a2 a3 a0 a4 a1) (k0_pay4 a2 a3 a0 a4 a1) (k0_pay5 a2 a3 a0 a4 a1) (k0_pay6 a2 a3 a0 a4 a1)
      (Scalar.ofBits .f32 0xFF800000#32) (Scalar.ofBits .f32 0xFF000000#32) (ix3 r b l) = C a0 a1 a2 a3 a4 r b l := by
  unfold k0_pay8 C code Quant.rinv
  rw [ValueIdx.truncf_apply, ValueIdx.minimumf_apply, ValueIdx.maximumf_apply, ValueIdx.mulf_apply, Maths.splat_apply, Maths.splat_apply,
    spread_apply, select_apply, select_apply, select_apply, select_apply, olt_apply, olt_apply, exp2_apply, ValueIdx.subf_apply,
    Maths.splat_apply, Maths.splat_apply, Maths.splat_apply, Maths.splat_apply, Maths.splat_apply,
    Maths.splat_apply, pay2_apply, pay3_apply, pay4_apply, pay5_apply, pay6_apply]

variable (a5 : Vec Ideal S6x1536x3584 .bf16)

theorem pay11_eq : k0_pay11 (F := Ideal) a0 a1 a2 a3 a4 a5 = k0_pay2 a2 a3 a0 a4 a1 := by
  unfold k0_pay11
  rw [View.ld_unit_zero (S := S28x148) hz0 _ a0, View.ld_unit_zero (S := S28x148) hz0 _ a1, View.ld_unit_zero (S := S1152x3584) hz0 _ a2,
    View.ld_unit_zero (S := S3584x18944) hz0 _ a3, View.ld_unit_zero (S := S3584x18944) hz0 _ a4]
theorem pay12_eq : k0_pay12 (F := Ideal) a0 a1 a2 a3 a4 a5 = k0_pay3 a2 a3 a0 a4 a1 := by
  unfold k0_pay12
  rw [View.ld_unit_zero (S := S28x148) hz0 _ a0, View.ld_unit_zero (S := S28x148) hz0 _ a1, View.ld_unit_zero (S := S1152x3584) hz0 _ a2,
    View.ld_unit_zero (S := S3584x18944) hz0 _ a3, View.ld_unit_zero (S := S3584x18944) hz0 _ a4]
theorem pay13_eq : k0_pay13 (F := Ideal) a0 a1 a2 a3 a4 a5 = k0_pay4 a2 a3 a0 a4 a1 := by
  unfold k0_pay13
  rw [View.ld_unit_zero (S := S28x148) hz0 _ a0, View.ld_unit_zero (S := S28x148) hz0 _ a1, View.ld_unit_zero (S := S1152x3584) hz0 _ a2,
    View.ld_unit_zero (S := S3584x18944) hz0 _ a3, View.ld_unit_zero (S := S3584x18944) hz0 _ a4]
theorem pay14_eq : k0_pay14 (F := Ideal) a0 a1 a2 a3 a4 a5 = k0_pay5 a2 a3 a0 a4 a1 := by
  unfold k0_pay14
  rw [View.ld_unit_zero (S := S28x148) hz0 _ a0, View.ld_unit_zero (S := S28x148) hz0 _ a1, View.ld_unit_zero (S := S1152x3584) hz0 _ a2,
    View.ld_unit_zero (S := S3584x18944) hz0 _ a3, View.ld_unit_zero (S := S3584x18944) hz0 _ a4]
theorem pay15_eq : k0_pay15 (F := Ideal) a0 a1 a2 a3 a4 a5 = k0_pay6 a2 a3 a0 a4 a1 := by
  unfold k0_pay15
  rw [View.ld_unit_zero (S := S28x148) hz0 _ a0, View.ld_unit_zero (S := S28x148) hz0 _ a1, View.ld_unit_zero (S := S1152x3584) hz0 _ a2,
    View.ld_unit_zero (S := S3584x18944) hz0 _ a3, View.ld_unit_zero (S := S3584x18944) hz0 _ a4]

/-- An entry of the flat array is the run's entry. -/
theorem flat_apply {α : Type} (v : S1152x148x128.Idx → α) (r : Fin 1152) (n : Fin 18944) :
    shapeCast S1152x18944 v shapeCasts_S1152x148x128_S1152x18944 (ix2 r n) = v (ix3 r (⟨n.val / 128, by omega⟩ : Fin 148) (⟨n.val % 128, by omega⟩ : Fin 128)) :=
  shapeCast_apply v _ _ _ (by
    rw [Shape.rowMajor_val_three, Shape.rowMajor_val_two]
    show (r.val * 148 + n.val / 128) * 128 + n.val % 128 = r.val * 18944 + n.val
    omega)

/-- The array of codes, entry by entry. -/
theorem G6_apply (r : Fin 1152) (n : Fin 18944) :
    G6 (F := Ideal) a0 a1 a2 a3 a4 a5 (ix2 r n) = C a0 a1 a2 a3 a4 r ⟨n.val / 128, by omega⟩ ⟨n.val % 128, by omega⟩ := by
  unfold G6 k0_pay9
  rw [pay11_eq, pay12_eq, pay13_eq, pay14_eq, pay15_eq, flat_apply, pay8_apply]

/-- The array of codes times their scales, entry by entry. -/
theorem G7_apply (r : Fin 1152) (n : Fin 18944) :
    G7 (F := Ideal) a0 a1 a2 a3 a4 a5 (ix2 r n) = Maths.Q a0 a1 a2 a3 a4 r ⟨n.val / 128, by omega⟩ ⟨n.val % 128, by omega⟩ := by
  unfold G7 k0_pay1 k0_pay10 Maths.Q
  rw [pay11_eq, pay12_eq, pay13_eq, pay14_eq, pay15_eq, flat_apply, ValueIdx.mulf_apply, ValueIdx.extf_apply, pay8_apply]
  refine congrArg (C a0 a1 a2 a3 a4 r _ _ * ·) ?_
  refine (spread_apply (truncf (F := Ideal) .bf16 (k0_pay7 (F := Ideal) (k0_pay3 a2 a3 a0 a4 a1) (k0_pay4 a2 a3 a0 a4 a1) (k0_pay5 a2 a3 a0 a4 a1)) bitsLt_bf16_f32) r _ _).trans ?_
  rw [ValueIdx.truncf_apply]
  exact pay7_apply a0 a1 a2 a3 a4 r _

/-- The array of scales, entry by entry. -/
theorem G8_apply (r : Fin 1152) (b : Fin 148) : G8 (F := Ideal) a0 a1 a2 a3 a4 a5 (ix2 r b) = S a0 a1 a2 a3 a4 r b := by
  unfold G8
  rw [pay12_eq, pay13_eq, pay14_eq, pay7_apply]

/-- The array of codes. -/
theorem G6_eq : G6 (F := Ideal) a0 a1 a2 a3 a4 a5 = Maths.arrC a0 a1 a2 a3 a4 := funext fun y =>
  (congrArg _ (eq_ix2 y)).trans (G6_apply a0 a1 a2 a3 a4 a5 (y 0) (y 1))

/-- The array of codes times their scales. -/
theorem G7_eq : G7 (F := Ideal) a0 a1 a2 a3 a4 a5 = Maths.arrQ a0 a1 a2 a3 a4 := funext fun y =>
  (congrArg _ (eq_ix2 y)).trans (G7_apply a0 a1 a2 a3 a4 a5 (y 0) (y 1))

/-- The array of scales. -/
theorem G8_eq : G8 (F := Ideal) a0 a1 a2 a3 a4 a5 = Maths.arrS a0 a1 a2 a3 a4 := funext fun y =>
  (congrArg _ (eq_ix2 y)).trans (G8_apply a0 a1 a2 a3 a4 a5 (y 0) (y 1))

end Cert.ReferenceIdeal.Hand

end
-- ==== Proof.KerMaths.lean ====
/-
  What one grid point of the kernel computes, entry by entry, at the ideal values.
-/
module

public import proofs.«01_k».proof.Proof.ArithVal
public import proofs.«01_k».proof.Proof.Maths
public import Idealize.ShloMosaic.Lib.MatmulPlain

@[expose] public section

noncomputable section

namespace Cert.KernelIdeal.Hand

open Cert.KernelIdeal Cert.KernelIdeal.Gen Idealize.ShloMosaic Idealize.ShloMosaic.TcCoe
open Idealize.ShloMosaic.ValueIdx (ix1 ix2 eq_ix2)
open Cert.Maths (dot H top lane code S C Q)

variable (sg su : Vec Ideal S28x148 .f32) (x : Vec Ideal S1152x3584 .bf16) (qg qu : Vec Ideal S3584x18944 .fp8e4m3)

/-- A point's block of a weight's codes: 512 of its columns. -/
def cols (t : Fin 37) (q : Vec Ideal S3584x18944 .fp8e4m3) : Vec Ideal S3584x512 .fp8e4m3 :=
  fun z => q (ix2 (z 0) (⟨512 * t.val + (z 1).val, by have := (z 1).isLt; change (z 1).val < 512 at this; omega⟩ : Fin 18944))

/-- A product of a row chunk with a point's widened weights is an entry of the whole product. -/
theorem dotK_apply (i : grid0.Coords) (q : Vec Ideal S3584x18944 .fp8e4m3) (s : Vec Ideal S28x148 .f32) (a : Fin 3) (z : Fin 384) (l : Fin 512)
    (r : Fin 1152) (n : Fin 18944) (hr : r.val = 384 * a.val + z.val) (hn : n.val = 512 * (i 0).val + l.val) :
    matmul (F := Ideal) (φ₁ := .bf16) (φ₂ := .bf16) dot_S384x3584_S3584x512_S384x512_1_0_0_1_n_n none (rows a x)
      (wide i s (cols (i 0) q)) (constant S384x512 .f32 0x00000000#32) (ix2 z l) = dot x q s r n := by
  refine (Ideal.matmul_plain_apply (φ₁ := .bf16) (φ₂ := .bf16) none (rows a x) (wide i s (cols (i 0) q))
    (constant S384x512 .f32 0x00000000#32) z l).trans ?_
  show Ideal.ofBits .f32 0x00000000#32 + _ = _
  rw [Ideal.ofBits_zero_f32, zero_add]
  refine Finset.sum_congr rfl fun k _ => ?_
  have hl := l.isLt
  have hi : (i 0).val < 37 := (i 0).isLt
  have e1 : rows a x (ix2 z k) = x (ix2 r k) := congrArg x (congrArg (fun w => ix2 w k) (Fin.ext hr.symm))
  have e2 : cols (i 0) q (ix2 k l) = q (ix2 k n) := congrArg q (congrArg (fun w => ix2 k w) (Fin.ext hn.symm))
  have e3 : wide i s (cols (i 0) q) (ix2 k l) = (cols (i 0) q (ix2 k l) : EReal)
      * s (ix2 (⟨k.val / 128, by omega⟩ : Fin 28) (⟨4 * (i 0).val + l.val / 128, by omega⟩ : Fin 148)) := rfl
  have e4 : (⟨4 * (i 0).val + l.val / 128, by omega⟩ : Fin 148) = ⟨n.val / 128, by omega⟩ := Fin.ext (by show 4 * (i 0).val + l.val / 128 = n.val / 128; omega)
  rw [e1, e3, e2, e4]

/-- A row chunk's gated product at a point. -/
theorem hBlk_apply (i : grid0.Coords) (a : Fin 3) (z : Fin 384) (l : Fin 512)
    (r : Fin 1152) (n : Fin 18944) (hr : r.val = 384 * a.val + z.val) (hn : n.val = 512 * (i 0).val + l.val) :
    hBlk (F := Ideal) (rows a x) (wide i sg (cols (i 0) qg)) (wide i su (cols (i 0) qu)) (ix2 z l) = H sg su x qg qu r n := by
  have g := dotK_apply x i qg sg a z l r n hr hn
  have u := dotK_apply x i qu su a z l r n hr hn
  unfold H
  rw [← g, ← u]
  rfl

/-- A tile of it. -/
theorem tile_apply (i : grid0.Coords) (a : Fin 3) (b : Fin 4) (z : Fin 384) (l : Fin 128)
    (r : Fin 1152) (k : Fin 148) (hr : r.val = 384 * a.val + z.val) (hk : k.val = 4 * (i 0).val + b.val) :
    tile b (hBlk (F := Ideal) (rows a x) (wide i sg (cols (i 0) qg)) (wide i su (cols (i 0) qu))) (ix2 z l) = lane sg su x qg qu r k l := by
  have hl := l.isLt
  have hb := b.isLt
  exact hBlk_apply sg su x qg qu i a z ⟨128 * b.val + l.val, by omega⟩ r _ hr (by show k.val * 128 + l.val = 512 * (i 0).val + (128 * b.val + l.val); omega)

/-- A tile's rows' largest magnitudes over 448. -/
theorem amax_apply (t : FVec Ideal S384x128 .f32) (z : Fin 384) (o : Fin 1) : amax t (ix2 z o) = top fun l => t (ix2 z l) := by
  have h := Ideal.multiReduction_maximumf_single (absf t) 0xFF800000#32 reduces_S384x128_S384 (.inl rfl) rfl (ix1 z)
  have h' := (shapeCast_apply (multiReduction .maximumf [1] S384 (absf t) 0xFF800000#32 reduces_S384x128_S384 (.inl rfl) rfl) shapeCasts_S384_S384x1 (ix2 z o) (ix1 z) (by
    rw [Shape.rowMajor_val_one, Shape.rowMajor_val_two]
    show z.val = z.val * 1 + o.val
    omega)).trans h
  refine (congrArg (· * Quant.val 0x3B124925#32) h').trans ?_
  unfold top
  refine congrArg (· * Quant.val 0x3B124925#32) ?_
  refine Finset.fold_congr fun l _ => ?_
  have e : (reduces_S384x128_S384 : S384x128.Reduces [1] S384).lift (ix1 z) l = ix2 z l := by
    funext a; apply Fin.ext; fin_cases a <;> rfl
  show max (t (Shape.Reduces.lift _ (ix1 z) l)) (-(t (Shape.Reduces.lift _ (ix1 z) l))) = _
  rw [e]
  rfl

theorem bstep_apply (a : FVec Ideal S384x1 .f32) (k : BitVec 32) (b : IVec S384x1 32) (j : S384x1.Idx) :
    bstep a k b j = Quant.bstep (a j) k (b j) := rfl

theorem field_apply (a : FVec Ideal S384x1 .f32) (j : S384x1.Idx) : field a j = Quant.field (a j) := by
  have z : broadcast S384x1 (0#32 : BitVec 32) j = 0#32 := rfl
  unfold field Quant.field
  rw [bstep_apply, bstep_apply, bstep_apply, bstep_apply, bstep_apply, bstep_apply, bstep_apply, bstep_apply, z]

theorem scaleC_apply (a : FVec Ideal S384x1 .f32) (j : S384x1.Idx) : scaleC a j = Quant.rscale (a j) := by
  rw [← Quant.scale_eq]
  unfold Quant.scale
  rw [← field_apply]
  rfl

theorem invC_apply (a : FVec Ideal S384x1 .f32) (j : S384x1.Idx) : invC a j = Quant.rinv (a j) := by
  rw [← Quant.inv_eq]
  unfold Quant.inv
  rw [← field_apply]
  rfl

/-- A column spread over a tile's lanes. -/
theorem spread_apply {n : ℕ} (c : FVec Ideal S384x1 .f32) (h : S384x1.Broadcasts ⟨2, ![384, n]⟩) (z : Fin 384) (l : Fin n) :
    broadcastTo ⟨2, ![384, n]⟩ c h (ix2 z l) = c (ix2 z (0 : Fin 1)) :=
  broadcastTo_apply c h (ix2 z l) (ix2 z (0 : Fin 1)) (by intro a; fin_cases a <;> rfl)

/-- A tile's codes. -/
theorem codeT_apply (t : FVec Ideal S384x128 .f32) (z : Fin 384) (l : Fin 128) :
    codeT t (ix2 z l) = code (t (ix2 z l)) (Quant.rinv (top fun l => t (ix2 z l))) := by
  unfold codeT code
  rw [ValueIdx.truncf_apply, ValueIdx.minimumf_apply, ValueIdx.maximumf_apply, ValueIdx.mulf_apply, Maths.splat_apply, Maths.splat_apply,
    spread_apply, invC_apply, amax_apply]

/-- A tile's scales, spread over lanes. -/
theorem scaleT_apply {n : ℕ} (t : FVec Ideal S384x128 .f32) (h : S384x1.Broadcasts ⟨2, ![384, n]⟩) (z : Fin 384) (l : Fin n) :
    broadcastTo ⟨2, ![384, n]⟩ (shapeCast S384x1 (scaleC (amax t)) shapeCasts_S384x1_S384x1) h (ix2 z l) = Quant.rscale (top fun l => t (ix2 z l)) := by
  rw [spread_apply, shapeCast_apply _ _ _ (ix2 z (0 : Fin 1)) rfl, scaleC_apply, amax_apply]

/-- A tile's codes times their scales. -/
theorem deqT_apply (t : FVec Ideal S384x128 .f32) (z : Fin 384) (l : Fin 128) :
    deqT t (ix2 z l) = code (t (ix2 z l)) (Quant.rinv (top fun l => t (ix2 z l))) * Quant.rscale (top fun l => t (ix2 z l)) := by
  unfold deqT
  rw [ValueIdx.mulf_apply, ValueIdx.extf_apply, ValueIdx.truncf_apply, codeT_apply, scaleT_apply]

/-- One lane of the scales' rows set. -/
theorem laneT_apply (n g : ℕ) (hn : n < 37) (hg : g < 4) (t : FVec Ideal S384x128 .f32) (hs : FVec Ideal S384x148 .f32) (z : Fin 384) (y : Fin 148) :
    laneT (BitVec.ofNat 32 n) (BitVec.ofNat 32 g) t hs (ix2 z y) = if y.val = 4 * n + g then Quant.rscale (top fun l => t (ix2 z l)) else hs (ix2 z y) := by
  have hy := y.isLt
  rw [← scaleT_apply t broadcasts_S384x1_S384x148 z y]
  have e : cmpi .eq (iota .tc S384x148 32 [1] iota_S384x148_d1_w32) (broadcast S384x148 (Scalar.addi (Scalar.muli (BitVec.ofNat 32 n) 4#32) (BitVec.ofNat 32 g))) (ix2 z y)
      = BitVec.ofBool (decide (y.val = 4 * n + g)) := by
    have w : Scalar.addi (Scalar.muli (BitVec.ofNat 32 n) 4#32) (BitVec.ofNat 32 g) = BitVec.ofNat 32 (n * 4 + g) := by
      rw [BitVec.ofNat_add, BitVec.ofNat_mul]; rfl
    rw [w]
    have io : iota .tc S384x148 32 [1] iota_S384x148_d1_w32 (ix2 z y) = BitVec.ofNat 32 y.val := by
      show BitVec.ofNat 32 (0 * 148 + y.val) = _
      rw [Nat.zero_mul, Nat.zero_add]
    show BitVec.ofBool (iota .tc S384x148 32 [1] iota_S384x148_d1_w32 (ix2 z y) == BitVec.ofNat 32 (n * 4 + g)) = _
    rw [io]
    show BitVec.ofBool (BitVec.ofNat 32 y.val == BitVec.ofNat 32 (n * 4 + g)) = _
    congr 1
    rw [Bool.eq_iff_iff, beq_iff_eq, decide_eq_true_iff, ← BitVec.toNat_inj, BitVec.toNat_ofNat, BitVec.toNat_ofNat]
    omega
  unfold laneT
  show Scalar.select (cmpi .eq (iota .tc S384x148 32 [1] iota_S384x148_d1_w32) (broadcast S384x148 (Scalar.addi (Scalar.muli (BitVec.ofNat 32 n) 4#32) (BitVec.ofNat 32 g))) (ix2 z y)) _ _ = _
  rw [e]
  by_cases c : y.val = 4 * n + g <;> simp [Scalar.select, c]

/-- A point's block of codes. -/
theorem outC_apply (i : grid0.Coords) (y : S1152x512.Idx) (k : Fin 148) (hk : k.val = 4 * (i 0).val + (y 1).val / 128) :
    outC (F := Ideal) x (wide i sg (cols (i 0) qg)) (wide i su (cols (i 0) qu)) y = C sg su x qg qu (y 0) k (laneI y) := by
  have h := fun l => tile_apply sg su x qg qu i (rowC y) (laneC y) (rowI y) l (y 0) k (by show (y 0).val = 384 * ((y 0).val / 384) + (y 0).val % 384; omega) hk
  unfold outC
  rw [codeT_apply]
  unfold C
  simp only [h]

/-- A point's block of codes times their scales. -/
theorem outQ_apply (i : grid0.Coords) (y : S1152x512.Idx) (k : Fin 148) (hk : k.val = 4 * (i 0).val + (y 1).val / 128) :
    outQ (F := Ideal) x (wide i sg (cols (i 0) qg)) (wide i su (cols (i 0) qu)) y = Maths.Q sg su x qg qu (y 0) k (laneI y) := by
  have h := fun l => tile_apply sg su x qg qu i (rowC y) (laneC y) (rowI y) l (y 0) k (by show (y 0).val = 384 * ((y 0).val / 384) + (y 0).val % 384; omega) hk
  unfold outQ
  rw [deqT_apply]
  unfold Maths.Q C S
  simp only [h]

/-- The four lanes a block writes. -/
theorem lanes_apply (n : Nat) (hn : n < 37) (h : FVec Ideal S384x512 .f32) (hs : FVec Ideal S384x148 .f32) (f : EReal) (z : Fin 384) (y : Fin 148)
    (hf : ∀ b : Fin 4, y.val = 4 * n + b.val → Quant.rscale (top fun l => tile b h (ix2 z l)) = f) :
    lanes (F := Ideal) (BitVec.ofNat 32 n) h hs (ix2 z y) = if y.val / 4 = n then f else hs (ix2 z y) := by
  unfold lanes
  refine (laneT_apply n 3 hn (by decide) _ _ z y).trans ?_
  by_cases c3 : y.val = 4 * n + 3
  · rw [if_pos c3, if_pos (by omega)]; exact hf 3 c3
  rw [if_neg c3]
  refine (laneT_apply n 2 hn (by decide) _ _ z y).trans ?_
  by_cases c2 : y.val = 4 * n + 2
  · rw [if_pos c2, if_pos (by omega)]; exact hf 2 c2
  rw [if_neg c2]
  refine (laneT_apply n 1 hn (by decide) _ _ z y).trans ?_
  by_cases c1 : y.val = 4 * n + 1
  · rw [if_pos c1, if_pos (by omega)]; exact hf 1 c1
  rw [if_neg c1]
  refine (laneT_apply n 0 hn (by decide) _ _ z y).trans ?_
  by_cases c0 : y.val = 4 * n + 0
  · rw [if_pos c0, if_pos (by omega)]; exact hf 0 c0
  rw [if_neg c0, if_neg (by omega)]

/-- The scales after a point: its four lanes are the scales of its four tiles, the others stay. -/
theorem outS_apply (i : grid0.Coords) (n : Nat) (hn : n < 37) (hi : (i 0).val = n) (s : Vec Ideal S1152x148 .f32) (y : S1152x148.Idx) :
    outS (F := Ideal) (BitVec.ofNat 32 n) x (wide i sg (cols (i 0) qg)) (wide i su (cols (i 0) qu)) s y
      = if (y 1).val / 4 = n then S sg su x qg qu (y 0) (y 1) else s y := by
  have hr : (y 0).val = 384 * (rowC y).val + (rowI y).val := by show (y 0).val = 384 * ((y 0).val / 384) + (y 0).val % 384; omega
  have hs : srows (rowC y) s (ix2 (rowI y) (y 1)) = s y := by
    refine congrArg s (funext fun a => Fin.ext ?_)
    fin_cases a
    · exact hr.symm
    · rfl
  unfold outS
  refine (lanes_apply n hn _ _ (S sg su x qg qu (y 0) (y 1)) (rowI y) (y 1) fun b hb => ?_).trans ?_
  · exact congrArg Quant.rscale (congrArg top (funext fun l => tile_apply sg su x qg qu i (rowC y) b (rowI y) l (y 0) (y 1) hr (by rw [hi]; exact hb)))
  · rw [hs]

end Cert.KernelIdeal.Hand

end
-- ==== Proof.Final.lean ====
/-
  The kernel's arrays after the call, at the ideal values: each is the whole array that the mathematics gives.
-/
module

public import proofs.«01_k».proof.Proof.Run
public import proofs.«01_k».proof.Proof.KerMaths

@[expose] public section

noncomputable section

namespace Cert.KernelIdeal.Hand

open Cert.KernelIdeal Cert.KernelIdeal.Gen Idealize.ShloMosaic Idealize.ShloMosaic.TcCoe Idealize.SL.Sem
open Idealize.ShloMosaic.ValueIdx (ix1 ix2 eq_ix2)

variable (m : (ℓ : Loc nD τ sig) → Buf (Elt Ideal) ℓ) (ρ : Dev nD → PrngReg)

/-! ## The blocks of the inputs -/

theorem idx_zero0 : ∀ t : Fin cfg0.N, win0_0.index t (0 : Fin 2) = 0 ∧ win0_0.index t (1 : Fin 2) = 0 :=
  (by decide +kernel : ∀ t : Fin grid0.N, _)

theorem emb0 (t : Fin cfg0.N) (j : S28x148.Idx) : ((cfg0.win 0).blk t).view.emb j = j := by
  obtain ⟨e0, e1⟩ := idx_zero0 t
  funext a; apply Fin.ext
  match a with
  | ⟨0, _⟩ => show win0_0.index t (0 : Fin 2) * 28 + 1 * (j 0).val = (j 0).val; omega
  | ⟨1, _⟩ => show win0_0.index t (1 : Fin 2) * 148 + 1 * (j 1).val = (j 1).val; omega

/-- Window 0's block is its whole array at every point. -/
theorem iblk0_eq (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 2) = 0 ∧ win0_1.index t (1 : Fin 2) = 0 :=
  (by decide +kernel : ∀ t : Fin grid0.N, _)

theorem emb1 (t : Fin cfg0.N) (j : S28x148.Idx) : ((cfg0.win 1).blk t).view.emb j = j := by
  obtain ⟨e0, e1⟩ := idx_zero1 t
  funext a; apply Fin.ext
  match a with
  | ⟨0, _⟩ => show win0_1.index t (0 : Fin 2) * 28 + 1 * (j 0).val = (j 0).val; omega
  | ⟨1, _⟩ => show win0_1.index t (1 : Fin 2) * 148 + 1 * (j 1).val = (j 1).val; omega

/-- Window 1's block is its whole array at every point. -/
theorem iblk1_eq (c : Dev nD) (t : Fin cfg0.N) : iblk m c 1 t = V m c main_arg1 := by
  funext j; show V m c main_arg1 (((cfg0.win 1).blk t).view.emb j) = V m c main_arg1 j; rw [emb1]

theorem idx_zero2 : ∀ t : Fin cfg0.N, win0_2.index t (0 : Fin 2) = 0 ∧ win0_2.index t (1 : Fin 2) = 0 :=
  (by decide +kernel : ∀ t : Fin grid0.N, _)

theorem emb2 (t : Fin cfg0.N) (j : S1152x3584.Idx) : ((cfg0.win 2).blk t).view.emb j = j := by
  obtain ⟨e0, e1⟩ := idx_zero2 t
  funext a; apply Fin.ext
  match a with
  | ⟨0, _⟩ => show win0_2.index t (0 : Fin 2) * 1152 + 1 * (j 0).val = (j 0).val; omega
  | ⟨1, _⟩ => show win0_2.index t (1 : Fin 2) * 3584 + 1 * (j 1).val = (j 1).val; omega

/-- Window 2's block is its whole array at every point. -/
theorem iblk2_eq (c : Dev nD) (t : Fin cfg0.N) : iblk m c 2 t = V m c main_arg2 := by
  funext j; show V m c main_arg2 (((cfg0.win 2).blk t).view.emb j) = V m c main_arg2 j; rw [emb2]

theorem idx3 : ∀ t : Fin cfg0.N, win0_3.index t (0 : Fin 2) = 0 ∧ win0_3.index t (1 : Fin 2) = t.val :=
  (by decide +kernel : ∀ t : Fin grid0.N, _)

/-- Window 3's block at a point is 512 of its array's columns. -/
theorem emb3 (t : Fin cfg0.N) (j : S3584x512.Idx) : ((cfg0.win 3).blk t).view.emb j
    = (ix2 (j 0) (⟨512 * (grid0.coords t 0).val + (j 1).val, by
        have h := (j 1).isLt; change (j 1).val < 512 at h; have h0 := coords0 t; have h1 := ltN t; omega⟩ : Fin 18944) : S3584x18944.Idx) := by
  obtain ⟨e0, e1⟩ := idx3 t
  have h0 := coords0 t
  funext a; apply Fin.ext
  match a with
  | ⟨0, _⟩ => show win0_3.index t (0 : Fin 2) * 3584 + 1 * (j 0).val = (j 0).val; omega
  | ⟨1, _⟩ => show win0_3.index t (1 : Fin 2) * 512 + 1 * (j 1).val = 512 * (grid0.coords t 0).val + (j 1).val; omega

theorem iblk3_eq (c : Dev nD) (t : Fin cfg0.N) : iblk m c 3 t = cols (grid0.coords t 0) (V m c main_arg3) := by
  funext j; show V m c main_arg3 (((cfg0.win 3).blk t).view.emb j) = _; rw [emb3]; rfl

theorem idx4 : ∀ t : Fin cfg0.N, win0_4.index t (0 : Fin 2) = 0 ∧ win0_4.index t (1 : Fin 2) = t.val :=
  (by decide +kernel : ∀ t : Fin grid0.N, _)

/-- Window 4's block at a point is 512 of its array's columns. -/
theorem emb4 (t : Fin cfg0.N) (j : S3584x512.Idx) : ((cfg0.win 4).blk t).view.emb j
    = (ix2 (j 0) (⟨512 * (grid0.coords t 0).val + (j 1).val, by
        have h := (j 1).isLt; change (j 1).val < 512 at h; have h0 := coords0 t; have h1 := ltN t; omega⟩ : Fin 18944) : S3584x18944.Idx) := by
  obtain ⟨e0, e1⟩ := idx4 t
  have h0 := coords0 t
  funext a; apply Fin.ext
  match a with
  | ⟨0, _⟩ => show win0_4.index t (0 : Fin 2) * 3584 + 1 * (j 0).val = (j 0).val; omega
  | ⟨1, _⟩ => show win0_4.index t (1 : Fin 2) * 512 + 1 * (j 1).val = 512 * (grid0.coords t 0).val + (j 1).val; omega

theorem iblk4_eq (c : Dev nD) (t : Fin cfg0.N) : iblk m c 4 t = cols (grid0.coords t 0) (V m c main_arg4) := by
  funext j; show V m c main_arg4 (((cfg0.win 4).blk t).view.emb j) = _; rw [emb4]; rfl

theorem idx5 : ∀ t : Fin cfg0.N, win0_5.index t (0 : Fin 2) = 0 ∧ win0_5.index t (1 : Fin 2) = t.val :=
  (by decide +kernel : ∀ t : Fin grid0.N, _)

/-- Window 5's block at a point is 512 of its array's columns. -/
theorem emb5 (t : Fin cfg0.N) (j : S1152x512.Idx) : ((cfg0.win 5).blk t).view.emb j
    = (ix2 (j 0) (⟨512 * (grid0.coords t 0).val + (j 1).val, by
        have h := (j 1).isLt; change (j 1).val < 512 at h; have h0 := coords0 t; have h1 := ltN t; omega⟩ : Fin 18944) : S1152x18944.Idx) := by
  obtain ⟨e0, e1⟩ := idx5 t
  have h0 := coords0 t
  funext a; apply Fin.ext
  match a with
  | ⟨0, _⟩ => show win0_5.index t (0 : Fin 2) * 1152 + 1 * (j 0).val = (j 0).val; omega
  | ⟨1, _⟩ => show win0_5.index t (1 : Fin 2) * 512 + 1 * (j 1).val = 512 * (grid0.coords t 0).val + (j 1).val; omega

theorem idx6 : ∀ t : Fin cfg0.N, win0_6.index t (0 : Fin 2) = 0 ∧ win0_6.index t (1 : Fin 2) = t.val :=
  (by decide +kernel : ∀ t : Fin grid0.N, _)

/-- Window 6's block at a point is 512 of its array's columns. -/
theorem emb6 (t : Fin cfg0.N) (j : S1152x512.Idx) : ((cfg0.win 6).blk t).view.emb j
    = (ix2 (j 0) (⟨512 * (grid0.coords t 0).val + (j 1).val, by
        have h := (j 1).isLt; change (j 1).val < 512 at h; have h0 := coords0 t; have h1 := ltN t; omega⟩ : Fin 18944) : S1152x18944.Idx) := by
  obtain ⟨e0, e1⟩ := idx6 t
  have h0 := coords0 t
  funext a; apply Fin.ext
  match a with
  | ⟨0, _⟩ => show win0_6.index t (0 : Fin 2) * 1152 + 1 * (j 0).val = (j 0).val; omega
  | ⟨1, _⟩ => show win0_6.index t (1 : Fin 2) * 512 + 1 * (j 1).val = 512 * (grid0.coords t 0).val + (j 1).val; omega

/-! ## The arrays of codes, and of codes times their scales -/

theorem flushed5 (c : Dev nD) (t : Fin cfg0.N) :
    (dats m 0 c).flushed 5 t = ((cfg0.win 5).blk t).view.read (Elt Ideal) (Maths.arrC (V m c main_arg0) (V m c main_arg1) (V m c main_arg2) (V m c main_arg3) (V m c main_arg4)) := by
  show (cfg0.win 5).cut (grid0.coords t) ((dats m 0 c).after 5 t) = _
  rw [after5]
  unfold gateW upW
  rw [iblk0_eq, iblk1_eq, iblk2_eq, iblk3_eq, iblk4_eq]
  funext j
  show outC (F := Ideal) (V m c main_arg2) (wide (grid0.coords t) (V m c main_arg0) (cols (grid0.coords t 0) (V m c main_arg3)))
    (wide (grid0.coords t) (V m c main_arg1) (cols (grid0.coords t 0) (V m c main_arg4))) j
    = Maths.arrC (V m c main_arg0) (V m c main_arg1) (V m c main_arg2) (V m c main_arg3) (V m c main_arg4) (((cfg0.win 5).blk t).view.emb j)
  have hj : (j 1).val < 512 := (j 1).isLt
  have h0 := coords0 t
  have h1 := ltN t
  rw [emb5, outC_apply (V m c main_arg0) (V m c main_arg1) (V m c main_arg2) (V m c main_arg3) (V m c main_arg4) (grid0.coords t) j
    (⟨(512 * (grid0.coords t 0).val + (j 1).val) / 128, by omega⟩ : Fin 148) (by show (512 * (grid0.coords t 0).val + (j 1).val) / 128 = _; omega)]
  refine congrArg _ (Fin.ext ?_)
  show (j 1).val % 128 = (512 * (grid0.coords t 0).val + (j 1).val) % 128
  omega

theorem covered5 (i : S1152x18944.Idx) : ∃ t : Fin cfg0.N, (cfg0.win 5).flush t = true ∧ i ∈ ((cfg0.win 5).blk t).view.set := by
  have hi : (i 1).val < 18944 := (i 1).isLt
  have hN : cfg0.N = 37 := N_0
  let t : Fin cfg0.N := ⟨(i 1).val / 512, by omega⟩
  let j : S1152x512.Idx := ix2 (i 0) (⟨(i 1).val % 512, by omega⟩ : Fin 512)
  refine ⟨t, flush0_5 t, ?_⟩
  have h := ((cfg0.win 5).blk t).view.emb_mem_set j
  rw [emb5] at h
  have e : (ix2 (j 0) (⟨512 * (grid0.coords t 0).val + (j 1).val, by
        have h := (j 1).isLt; change (j 1).val < 512 at h; have h0 := coords0 t; have h1 := ltN t; omega⟩ : Fin 18944) : S1152x18944.Idx) = i := by
    refine Eq.trans ?_ (eq_ix2 i).symm
    refine congrArg (fun w : Fin 18944 => ix2 (i 0) w) (Fin.ext ?_)
    show 512 * (grid0.coords t 0).val + (i 1).val % 512 = (i 1).val
    rw [coords0 t]
    show 512 * ((i 1).val / 512) + (i 1).val % 512 = (i 1).val
    omega
  rwa [e] at h

/-- The array after the call. -/
theorem final5 (c : Dev nD) : (dats m 0 c).arrAt 5 cfg0.N = Maths.arrC (V m c main_arg0) (V m c main_arg1) (V m c main_arg2) (V m c main_arg3) (V m c main_arg4) :=
  (dats m 0 c).arrAt_eq_of_cover 5 _ (fun t _ => flushed5 m c t) covered5

theorem flushed6 (c : Dev nD) (t : Fin cfg0.N) :
    (dats m 0 c).flushed 6 t = ((cfg0.win 6).blk t).view.read (Elt Ideal) (Maths.arrQ (V m c main_arg0) (V m c main_arg1) (V m c main_arg2) (V m c main_arg3) (V m c main_arg4)) := by
  show (cfg0.win 6).cut (grid0.coords t) ((dats m 0 c).after 6 t) = _
  rw [after6]
  unfold gateW upW
  rw [iblk0_eq, iblk1_eq, iblk2_eq, iblk3_eq, iblk4_eq]
  funext j
  show outQ (F := Ideal) (V m c main_arg2) (wide (grid0.coords t) (V m c main_arg0) (cols (grid0.coords t 0) (V m c main_arg3)))
    (wide (grid0.coords t) (V m c main_arg1) (cols (grid0.coords t 0) (V m c main_arg4))) j
    = Maths.arrQ (V m c main_arg0) (V m c main_arg1) (V m c main_arg2) (V m c main_arg3) (V m c main_arg4) (((cfg0.win 6).blk t).view.emb j)
  have hj : (j 1).val < 512 := (j 1).isLt
  have h0 := coords0 t
  have h1 := ltN t
  rw [emb6, outQ_apply (V m c main_arg0) (V m c main_arg1) (V m c main_arg2) (V m c main_arg3) (V m c main_arg4) (grid0.coords t) j
    (⟨(512 * (grid0.coords t 0).val + (j 1).val) / 128, by omega⟩ : Fin 148) (by show (512 * (grid0.coords t 0).val + (j 1).val) / 128 = _; omega)]
  refine congrArg _ (Fin.ext ?_)
  show (j 1).val % 128 = (512 * (grid0.coords t 0).val + (j 1).val) % 128
  omega

theorem covered6 (i : S1152x18944.Idx) : ∃ t : Fin cfg0.N, (cfg0.win 6).flush t = true ∧ i ∈ ((cfg0.win 6).blk t).view.set := by
  have hi : (i 1).val < 18944 := (i 1).isLt
  have hN : cfg0.N = 37 := N_0
  let t : Fin cfg0.N := ⟨(i 1).val / 512, by omega⟩
  let j : S1152x512.Idx := ix2 (i 0) (⟨(i 1).val % 512, by omega⟩ : Fin 512)
  refine ⟨t, flush0_6 t, ?_⟩
  have h := ((cfg0.win 6).blk t).view.emb_mem_set j
  rw [emb6] at h
  have e : (ix2 (j 0) (⟨512 * (grid0.coords t 0).val + (j 1).val, by
        have h := (j 1).isLt; change (j 1).val < 512 at h; have h0 := coords0 t; have h1 := ltN t; omega⟩ : Fin 18944) : S1152x18944.Idx) = i := by
    refine Eq.trans ?_ (eq_ix2 i).symm
    refine congrArg (fun w : Fin 18944 => ix2 (i 0) w) (Fin.ext ?_)
    show 512 * (grid0.coords t 0).val + (i 1).val % 512 = (i 1).val
    rw [coords0 t]
    show 512 * ((i 1).val / 512) + (i 1).val % 512 = (i 1).val
    omega
  rwa [e] at h

/-- The array after the call. -/
theorem final6 (c : Dev nD) : (dats m 0 c).arrAt 6 cfg0.N = Maths.arrQ (V m c main_arg0) (V m c main_arg1) (V m c main_arg2) (V m c main_arg3) (V m c main_arg4) :=
  (dats m 0 c).arrAt_eq_of_cover 6 _ (fun t _ => flushed6 m c t) covered6

/-! ## The array of scales -/

/-- After `n` points the first `4 n` columns are the scales. -/
theorem scalesAt_apply (c : Dev nD) : ∀ (n : ℕ) (h : n ≤ 37) (y : S1152x148.Idx), (y 1).val < 4 * n →
    scalesAt m c n h y = Maths.arrS (V m c main_arg0) (V m c main_arg1) (V m c main_arg2) (V m c main_arg3) (V m c main_arg4) y
  | 0, _, y, hy => absurd hy (by omega)
  | n + 1, h, y, hy => by
    have hN : cfg0.N = 37 := N_0
    have h0 := coords0 (⟨n, by omega⟩ : Fin cfg0.N)
    unfold scalesAt gateW upW
    rw [iblk0_eq, iblk1_eq, iblk2_eq, iblk3_eq, iblk4_eq]
    refine (outS_apply (V m c main_arg0) (V m c main_arg1) (V m c main_arg2) (V m c main_arg3) (V m c main_arg4)
      (grid0.coords (⟨n, by omega⟩ : Fin cfg0.N)) n (by omega) h0 _ y).trans ?_
    by_cases hn : (y 1).val / 4 = n
    · rw [if_pos hn]; rfl
    · rw [if_neg hn]; exact scalesAt_apply c n (by omega) y (by omega)

theorem idx_zero7 : ∀ t : Fin cfg0.N, win0_7.index t (0 : Fin 2) = 0 ∧ win0_7.index t (1 : Fin 2) = 0 :=
  (by decide +kernel : ∀ t : Fin grid0.N, _)

theorem emb7 (t : Fin cfg0.N) (j : S1152x148.Idx) : ((cfg0.win 7).blk t).view.emb j = j := by
  obtain ⟨e0, e1⟩ := idx_zero7 t
  funext a; apply Fin.ext
  match a with
  | ⟨0, _⟩ => show win0_7.index t (0 : Fin 2) * 1152 + 1 * (j 0).val = (j 0).val; omega
  | ⟨1, _⟩ => show win0_7.index t (1 : Fin 2) * 148 + 1 * (j 1).val = (j 1).val; omega

theorem flushed7 (c : Dev nD) (t : Fin cfg0.N) (ht : t.val = 36) :
    (dats m 0 c).flushed 7 t = ((cfg0.win 7).blk t).view.read (Elt Ideal) (Maths.arrS (V m c main_arg0) (V m c main_arg1) (V m c main_arg2) (V m c main_arg3) (V m c main_arg4)) := by
  show (cfg0.win 7).cut (grid0.coords t) ((dats m 0 c).after 7 t) = _
  rw [after7]
  funext j
  have hj : (j 1).val < 148 := (j 1).isLt
  have h1 := ltN t
  show scalesAt m c (t.val + 1) _ j = Maths.arrS (V m c main_arg0) (V m c main_arg1) (V m c main_arg2) (V m c main_arg3) (V m c main_arg4) (((cfg0.win 7).blk t).view.emb j)
  rw [emb7]
  exact scalesAt_apply m c (t.val + 1) (by omega) j (by omega)

theorem covered7 (i : S1152x148.Idx) : ∃ t : Fin cfg0.N, (cfg0.win 7).flush t = true ∧ i ∈ ((cfg0.win 7).blk t).view.set := by
  have hN : cfg0.N = 37 := N_0
  refine ⟨⟨36, by omega⟩, (flush0_7 _).mpr rfl, ?_⟩
  have h := ((cfg0.win 7).blk (⟨36, by omega⟩ : Fin cfg0.N)).view.emb_mem_set i
  rwa [emb7] at h

/-- The array after the call. -/
theorem final7 (c : Dev nD) : (dats m 0 c).arrAt 7 cfg0.N = Maths.arrS (V m c main_arg0) (V m c main_arg1) (V m c main_arg2) (V m c main_arg3) (V m c main_arg4) :=
  (dats m 0 c).arrAt_eq_of_cover 7 _ (fun t hf => flushed7 m c t (by have h := (flush0_7 t).mp hf; have h1 := ltN t; omega)) covered7

/-! ## The call -/

/-- The call leaves the four arrays at the mathematics' values, its arguments unchanged. -/
theorem run : θ_run defs (onTc (τ := τ) (main (F := Ideal))) ⟨m, fun _ => 0, ρ⟩ fun r => ∀ c : Dev nD,
      r.2.mem ((c.tc : Thread nD τ).loc main_v0_0) = Maths.arrC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_1) = Maths.arrQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_2) = Maths.arrS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_3) = m ((c.tc : Thread nD τ).loc main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1.1 c).1 5).trans (final5 m c), ((h.1.1 c).1 6).trans (final6 m c), ((h.1.1 c).1 7).trans (final7 m c),
      (h.1.2 c main_v0_3 (by decide)).trans (final_y m c), kept m r h.1 c⟩)
    (run_main m ρ)

end Cert.KernelIdeal.Hand

end
-- ==== Proof.lean ====
/-
  The proof of the claims: the three frames, that the kernel's program is printed unchanged for the ideal instance, and that the kernel and
  the reference leave the same four arrays at the ideal values.
-/
module

public import proofs.«01_k».proof.Defs
public import proofs.«01_k».proof.Proof.Run
public import proofs.«01_k».proof.Proof.Same
public import proofs.«01_k».proof.Proof.RefMaths
public import proofs.«01_k».proof.Proof.Final
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

/-- The kernel and the reference, from the same arguments, leave the same four arrays: the codes, the codes times their scales, the scales, and
    the copy of the last argument. -/
theorem algebraic : Cert.algebraic_KernelIdeal_ReferenceIdeal (hKernelIdeal := Cert.KernelIdeal.Gen.facts) (hReferenceIdeal := Cert.ReferenceIdeal.Gen.facts) := by
  intro m g m' g' _ e
  refine ⟨_, _, _, _, Cert.KernelIdeal.Hand.run m g, ?_⟩
  refine (θ_run _ _ _).mono (fun r h c => ?_) (Cert.ReferenceIdeal.Hand.run m' g')
  obtain ⟨h0, h1, h2, h3, hk⟩ := h c
  obtain ⟨e0, e1, e2, e3, e4, e5⟩ := e c
  rw [Cert.ReferenceIdeal.Hand.G6_eq] at h0
  rw [Cert.ReferenceIdeal.Hand.G7_eq] at h1
  rw [Cert.ReferenceIdeal.Hand.G8_eq] at h2
  refine ⟨h0.trans ?_, h1.trans ?_, h2.trans ?_, h3.trans ?_, hk⟩
  · rw [e0, e1, e2, e3, e4]
  · rw [e0, e1, e2, e3, e4]
  · rw [e0, e1, e2, e3, e4]
  · exact e5

/-- All the claims. -/
theorem claim : Cert.Claim := ⟨Cert.Kernel.Gen.facts, Cert.KernelIdeal.Gen.facts, Cert.ReferenceIdeal.Gen.facts,
  fun m g _ => Cert.Same.run_eq _ _ (Cert.KernelIdeal.Hand.frame (F := Bits) m g),
  fun m g _ => Cert.KernelIdeal.Hand.frame m g,
  fun m g _ => Cert.ReferenceIdeal.Gen.frame m g,
  trivial,
  algebraic⟩

end Cert.Proof

end
